-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E38AA3B#32 (((8 * (Real.log 2))⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v57) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v4)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v4) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v11) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v75)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v75) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v30) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hGates : Cert.Gates.Facts) (hGatesIdeal : Cert.GatesIdeal.Facts) (hGatesReferenceIdeal : Cert.GatesReferenceIdeal.Facts) (hMerge : Cert.Merge.Facts) (hMergeIdeal : Cert.MergeIdeal.Facts) (hMergeReferenceIdeal : Cert.MergeReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Ffn_FfnIdeal
    ∧ algebraic_FfnIdeal_FfnReferenceIdeal (hFfnIdeal := hFfnIdeal) (hFfnReferenceIdeal := hFfnReferenceIdeal)
    ∧ preserves_Gates_GatesIdeal
    ∧ algebraic_GatesIdeal_GatesReferenceIdeal (hGatesIdeal := hGatesIdeal) (hGatesReferenceIdeal := hGatesReferenceIdeal)
    ∧ preserves_Merge_MergeIdeal
    ∧ algebraic_MergeIdeal_MergeReferenceIdeal (hMergeIdeal := hMergeIdeal) (hMergeReferenceIdeal := hMergeReferenceIdeal)
-- ==== Pre_finite_logits.lean ====
abbrev S4x8x4096x64 : Shape := ⟨4, ![4, 8, 4096, 64]⟩
abbrev S4x2x4096x64 : Shape := ⟨4, ![4, 2, 4096, 64]⟩
abbrev S32x16 : Shape := ⟨2, ![32, 16]⟩
abbrev S8 : Shape := ⟨1, ![8]⟩
abbrev S_ : Shape := ⟨0, ![]⟩

class Facts : Prop where
  bcast_S_S4x8x4096x64 : S_.BroadcastsInDim S4x8x4096x64 (![] : Fin 0 → Fin S4x8x4096x64.rank)
  reducesTo_S4x8x4096x64_S_d0_1_2_3 : S4x8x4096x64.ReducesTo [0, 1, 2, 3] S_
  h_S_ : 0 < S_.numel
  bcast_S_S4x2x4096x64 : S_.BroadcastsInDim S4x2x4096x64 (![] : Fin 0 → Fin S4x2x4096x64.rank)
  reducesTo_S4x2x4096x64_S_d0_1_2_3 : S4x2x4096x64.ReducesTo [0, 1, 2, 3] S_
  bcast_S_S32x16 : S_.BroadcastsInDim S32x16 (![] : Fin 0 → Fin S32x16.rank)
  reducesTo_S32x16_S_d0_1 : S32x16.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S4x8x4096x64 .f32) (main_arg1 : FVec F S4x2x4096x64 .f32) (main_arg2 : FVec F S4x2x4096x64 .f32) (main_arg3 : FVec F S32x16 .f32) (main_arg4 : FVec F S8 .f32) : IVec S_ 1 :=
  let main_v0 : FVec F S4x8x4096x64 .f32 := Host.absf main_arg0
  let main_cst : FVec F S_ .f32 := constant S_ .f32 0x7F800000#32
  let main_v1 : FVec F S4x8x4096x64 .f32 := broadcastInDim S4x8x4096x64 ![] bcast_S_S4x8x4096x64 main_cst
  let main_v2 : IVec S4x8x4096x64 1 := cmpf .olt main_v0 main_v1
  let main_c : IVec S_ 1 := constantI S_ 1 1#1
  let main_v3 : IVec S_ 1 := (fun x v => Host.reduce IntOp.andi x v reducesTo_S4x8x4096x64_S_d0_1_2_3 h_S_) main_v2 main_c
  let main_v4 : FVec F S4x2x4096x64 .f32 := Host.absf main_arg1
  let main_cst_0 : FVec F S_ .f32 := constant S_ .f32 0x7F800000#32
  let main_v5 : FVec F S4x2x4096x64 .f32 := broadcastInDim S4x2x4096x64 ![] bcast_S_S4x2x4096x64 main_cst_0
  let main_v6 : IVec S4x2x4096x64 1 := cmpf .olt main_v4 main_v5
  let main_c_1 : IVec S_ 1 := constantI S_ 1 1#1
  let main_v7 : IVec S_ 1 := (fun x v => Host.reduce IntOp.andi x v reducesTo_S4x2x4096x64_S_d0_1_2_3 h_S_) main_v6 main_c_1
  let main_v8 : IVec S_ 1 := andi main_v3 main_v7
  let main_v9 : FVec F S32x16 .f32 := Host.absf main_arg3
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S4x8x4096x64 : Shape := ⟨4, ![4, 8, 4096, 64]⟩
abbrev S4x2x4096x64 : Shape := ⟨4, ![4, 2, 4096, 64]⟩
abbrev S32x16 : Shape := ⟨2, ![32, 16]⟩
abbrev S8 : Shape := ⟨1, ![8]⟩
abbrev S128 : Shape := ⟨1, ![128]⟩
abbrev S4x2x4x4096x64 : Shape := ⟨5, ![4, 2, 4, 4096, 64]⟩
abbrev S4x4x4096x2x64 : Shape := ⟨5, ![4, 4, 4096, 2, 64]⟩
abbrev S4x4x4096x128 : Shape := ⟨4, ![4, 4, 4096, 128]⟩
abbrev S4x2x1x4096x64 : Shape := ⟨5, ![4, 2, 1, 4096, 64]⟩
abbrev S1x4x4096x2x64 : Shape := ⟨5, ![1, 4, 4096, 2, 64]⟩
abbrev S1x4x4096x128 : Shape := ⟨4, ![1, 4, 4096, 128]⟩
abbrev S6x4x4096x128 : Shape := ⟨4, ![6, 4, 4096, 128]⟩
abbrev S32x8 : Shape := ⟨2, ![32, 8]⟩
abbrev S8x32 : Shape := ⟨2, ![8, 32]⟩
abbrev S256x384 : Shape := ⟨2, ![256, 384]⟩
abbrev S_ : Shape := ⟨0, ![]⟩
abbrev S128x1 : Shape := ⟨2, ![128, 1]⟩
abbrev S8x128 : Shape := ⟨2, ![8, 128]⟩
abbrev S1x256x384 : Shape := ⟨3, ![1, 256, 384]⟩
abbrev S256x384x1 : Shape := ⟨3, ![256, 384, 1]⟩
abbrev S8x256x384 : Shape := ⟨3, ![8, 256, 384]⟩
abbrev S8x1 : Shape := ⟨2, ![8, 1]⟩
abbrev S1 : Shape := ⟨1, ![1]⟩
abbrev S8x256 : Shape := ⟨2, ![8, 256]⟩
abbrev S4x1x256x128 : Shape := ⟨4, ![4, 1, 256, 128]⟩
abbrev S1x1x128x128 : Shape := ⟨4, ![1, 1, 128, 128]⟩
abbrev S1x384 : Shape := ⟨2, ![1, 384]⟩
abbrev S128x128 : Shape := ⟨2, ![128, 128]⟩
abbrev S384x128 : Shape := ⟨2, ![384, 128]⟩
abbrev S384x1 : Shape := ⟨2, ![384, 1]⟩
abbrev S1x128 : Shape := ⟨2, ![1, 128]⟩
abbrev S1x1x256x128 : Shape := ⟨4, ![1, 1, 256, 128]⟩
abbrev S256x128 : Shape := ⟨2, ![256, 128]⟩
abbrev S1024x128 : Shape := ⟨2, ![1024, 128]⟩
abbrev S1024x384 : Shape := ⟨2, ![1024, 384]⟩
abbrev S4x256x384 : Shape := ⟨3, ![4, 256, 384]⟩
abbrev S1024 : Shape := ⟨1, ![1024]⟩
abbrev S1024x1 : Shape := ⟨2, ![1024, 1]⟩

abbrev nBuf : Space → Nat
  | .hbm => 70
  | .vmem => 17
  | .smem => 0
  | _ => 0

abbrev bufTy : (tb : Table) → Fin (tcTables nBuf tb) → BufTy
  | .hbm, ⟨0, _⟩ => ⟨S4x8x4096x64, .f32⟩
  | .hbm, ⟨1, _⟩ => ⟨S4x2x4096x64, .f32⟩
  | .hbm, ⟨2, _⟩ => ⟨S4x2x4096x64, .f32⟩
  | .hbm, ⟨3, _⟩ => ⟨S32x16, .f32⟩
  | .hbm, ⟨4, _⟩ => ⟨S8, .f32⟩
  | .hbm, ⟨5, _⟩ => ⟨S128, .i32⟩
  | .hbm, ⟨6, _⟩ => ⟨S4x2x4x4096x64, .f32⟩
  | .hbm, ⟨7, _⟩ => ⟨S4x4x4096x2x64, .f32⟩
  | .hbm, ⟨8, _⟩ => ⟨S4x4x4096x128, .f32⟩
  | .hbm, ⟨9, _⟩ => ⟨S4x2x1x4096x64, .f32⟩
  | .hbm, ⟨10, _⟩ => ⟨S1x4x4096x2x64, .f32⟩
  | .hbm, ⟨11, _⟩ => ⟨S1x4x4096x128, .f32⟩
  | .hbm, ⟨12, _⟩ => ⟨S4x2x1x4096x64, .f32⟩
  | .hbm, ⟨13, _⟩ => ⟨S1x4x4096x2x64, .f32⟩
  | .hbm, ⟨14, _⟩ => ⟨S1x4x4096x128, .f32⟩
  | .hbm, ⟨15, _⟩ => ⟨S6x4x4096x128, .f32⟩
  | .hbm, ⟨16, _⟩ => ⟨S6x4x4096x128, .bf16⟩
  | .hbm, ⟨17, _⟩ => ⟨S32x8, .f32⟩
  | .hbm, ⟨18, _⟩ => ⟨S8x32, .f32⟩
  | .hbm, ⟨19, _⟩ => ⟨S256x384, .i32⟩
  | .hbm, ⟨20, _⟩ => ⟨S_, .i32⟩
  | .hbm, ⟨21, _⟩ => ⟨S256x384, .i32⟩
  | .hbm, ⟨22, _⟩ => ⟨S256x384, .i32⟩
  | .hbm, ⟨23, _⟩ => ⟨S256x384, .i32⟩
  | .hbm, ⟨24, _⟩ => ⟨S256x384, .i32⟩
  | .hbm, ⟨25, _⟩ => ⟨S_, .i32⟩
  | .hbm, ⟨26, _⟩ => ⟨S256x384, .i32⟩
  | .hbm, ⟨27, _⟩ => ⟨S256x384, .i1⟩
  | .hbm, ⟨28, _⟩ => ⟨S_, .i32⟩
  | .hbm, ⟨29, _⟩ => ⟨S256x384, .i32⟩
  | .hbm, ⟨30, _⟩ => ⟨S256x384, .i1⟩
  | .hbm, ⟨31, _⟩ => ⟨S256x384, .i1⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S_, .i32⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S128x1, .i32⟩
  | .hbm, ⟨40, _⟩ => ⟨S8x128, .f32⟩
  | .hbm, ⟨41, _⟩ => ⟨S1x256x384, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S256x384, .i32⟩
  | .hbm, ⟨46, _⟩ => ⟨S256x384, .i32⟩
  | .hbm, ⟨47, _⟩ => ⟨S_, .i32⟩
  | .hbm, ⟨48, _⟩ => ⟨S256x384, .i32⟩
  | .hbm, ⟨49, _⟩ => ⟨S256x384, .i32⟩
  | .hbm, ⟨50, _⟩ => ⟨S_, .i32⟩
  | .hbm, ⟨51, _⟩ => ⟨S256x384, .i32⟩
  | .hbm, ⟨52, _⟩ => ⟨S256x384, .i1⟩
  | .hbm, ⟨53, _⟩ => ⟨S_, .i32⟩
  | .hbm, ⟨54, _⟩ => ⟨S256x384, .i32⟩
  | .hbm, ⟨55, _⟩ => ⟨S256x384, .i32⟩
  | .hbm, ⟨56, _⟩ => ⟨S256x384, .i32⟩
  | .hbm, ⟨57, _⟩ => ⟨S256x384x1, .i32⟩
  | .hbm, ⟨58, _⟩ => ⟨S8x256x384, .f32⟩
  | .hbm, ⟨59, _⟩ => ⟨S_, .f32⟩
  | .hbm, ⟨60, _⟩ => ⟨S_, .f32⟩
  | .hbm, ⟨61, _⟩ => ⟨S8x256x384, .i1⟩
  | .hbm, ⟨62, _⟩ => ⟨S8x256x384, .f32⟩
  | .hbm, ⟨63, _⟩ => ⟨S8x256x384, .f32⟩
  | .hbm, ⟨64, _⟩ => ⟨S8x1, .f32⟩
  | .hbm, ⟨65, _⟩ => ⟨S_, .i32⟩
  | .hbm, ⟨66, _⟩ => ⟨S1, .i32⟩
  | .hbm, ⟨67, _⟩ => ⟨S8x256, .f32⟩
  | .hbm, ⟨68, _⟩ => ⟨S8x256x384, .f32⟩
  | .hbm, ⟨69, _⟩ => ⟨S4x4x4096x128, .bf16⟩
  | .local _ .vmem, ⟨0, _⟩ => ⟨S4x1x256x128, .bf16⟩
  | .local _ .vmem, ⟨1, _⟩ => ⟨S4x1x256x128, .bf16⟩
  | .local _ .vmem, ⟨2, _⟩ => ⟨S1x1x128x128, .bf16⟩
  | .local _ .vmem, ⟨3, _⟩ => ⟨S1x1x128x128, .bf16⟩
  | .local _ .vmem, ⟨4, _⟩ => ⟨S1x1x128x128, .bf16⟩
  | .local _ .vmem, ⟨5, _⟩ => ⟨S1x1x128x128, .bf16⟩
  | .local _ .vmem, ⟨6, _⟩ => ⟨S1x1x128x128, .bf16⟩
  | .local _ .vmem, ⟨7, _⟩ => ⟨S1x1x128x128, .bf16⟩
  | .local _ .vmem, ⟨8, _⟩ => ⟨S1x1x128x128, .bf16⟩
  | .local _ .vmem, ⟨9, _⟩ => ⟨S1x1x128x128, .bf16⟩
  | .local _ .vmem, ⟨10, _⟩ => ⟨S1x1x128x128, .bf16⟩
  | .local _ .vmem, ⟨11, _⟩ => ⟨S1x1x128x128, .bf16⟩
  | .local _ .vmem, ⟨12, _⟩ => ⟨S1x1x128x128, .bf16⟩
  | .local _ .vmem, ⟨13, _⟩ => ⟨S1x1x128x128, .bf16⟩
  | .local _ .vmem, ⟨14, _⟩ => ⟨S8x256x384, .f32⟩
  | .local _ .vmem, ⟨15, _⟩ => ⟨S4x1x256x128, .bf16⟩
  | .local _ .vmem, ⟨16, _⟩ => ⟨S4x1x256x128, .bf16⟩
  | _, _ => ⟨S4x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_c_6 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let c2_i32_1 : BitVec 32 := 2#32
  let v3 : BitVec 32 := Scalar.subi v2 c2_i32_1
  let c0_i32 : BitVec 32 := 0#32
  let v4 : BitVec 32 := Scalar.maxsi v3 c0_i32
  let c4_i32 : BitVec 32 := 4#32
  let c0_i32_2 : BitVec 32 := 0#32
  let c0_i32_3 : BitVec 32 := 0#32
  ![c4_i32.toNat, arg0.toNat, v4.toNat, c0_i32_2.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let c1_i32_1 : BitVec 32 := 1#32
  let v3 : BitVec 32 := Scalar.subi v2 c1_i32_1
  let c0_i32 : BitVec 32 := 0#32
  let v4 : BitVec 32 := Scalar.maxsi v3 c0_i32
  let c4_i32 : BitVec 32 := 4#32
  let c0_i32_2 : BitVec 32 := 0#32
  let c0_i32_3 : BitVec 32 := 0#32
  ![c4_i32.toNat, arg0.toNat, v4.toNat, c0_i32_2.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let c0_i32 : BitVec 32 := 0#32
  let v3 : BitVec 32 := Scalar.subi v2 c0_i32
  let c0_i32_1 : BitVec 32 := 0#32
  let v4 : BitVec 32 := Scalar.maxsi v3 c0_i32_1
  let c4_i32 : BitVec 32 := 4#32
  let c0_i32_2 : BitVec 32 := 0#32
  let c0_i32_3 : BitVec 32 := 0#32
  ![c4_i32.toNat, arg0.toNat, v4.toNat, c0_i32_2.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let c2_i32_1 : BitVec 32 := 2#32
  let v3 : BitVec 32 := Scalar.subi v2 c2_i32_1
  let c0_i32 : BitVec 32 := 0#32
  let v4 : BitVec 32 := Scalar.maxsi v3 c0_i32
  let c5_i32 : BitVec 32 := 5#32
  let c0_i32_2 : BitVec 32 := 0#32
  let c0_i32_3 : BitVec 32 := 0#32
  ![c5_i32.toNat, arg0.toNat, v4.toNat, c0_i32_2.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let c1_i32_1 : BitVec 32 := 1#32
  let v3 : BitVec 32 := Scalar.subi v2 c1_i32_1
  let c0_i32 : BitVec 32 := 0#32
  let v4 : BitVec 32 := Scalar.maxsi v3 c0_i32
  let c5_i32 : BitVec 32 := 5#32
  let c0_i32_2 : BitVec 32 := 0#32
  let c0_i32_3 : BitVec 32 := 0#32
  ![c5_i32.toNat, arg0.toNat, v4.toNat, c0_i32_2.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let c0_i32 : BitVec 32 := 0#32
  let v3 : BitVec 32 := Scalar.subi v2 c0_i32
  let c0_i32_1 : BitVec 32 := 0#32
  let v4 : BitVec 32 := Scalar.maxsi v3 c0_i32_1
  let c5_i32 : BitVec 32 := 5#32
  let c0_i32_2 : BitVec 32 := 0#32
  let c0_i32_3 : BitVec 32 := 0#32
  ![c5_i32.toNat, arg0.toNat, v4.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S4x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4x1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((8 * (Real.log 2))⁻¹ : ℝ) : EReal)
  | _ => none
-- ==== ReferenceIdeal.lean ====
abbrev S4x8x4096x64 : Shape := ⟨4, ![4, 8, 4096, 64]⟩
abbrev S4x2x4096x64 : Shape := ⟨4, ![4, 2, 4096, 64]⟩
abbrev S32x16 : Shape := ⟨2, ![32, 16]⟩
abbrev S8 : Shape := ⟨1, ![8]⟩
abbrev S4x2x4x4096x64 : Shape := ⟨5, ![4, 2, 4, 4096, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S32x8 : Shape := ⟨2, ![32, 8]⟩
abbrev S32x2x4 : Shape := ⟨3, ![32, 2, 4]⟩
abbrev S4096x4096x1 : Shape := ⟨3, ![4096, 4096, 1]⟩
abbrev S4096x4096x2x4 : Shape := ⟨4, ![4096, 4096, 2, 4]⟩
abbrev S2x4x4096x4096 : Shape := ⟨4, ![2, 4, 4096, 4096]⟩
abbrev S4x2x4x4096x4096 : Shape := ⟨5, ![4, 2, 4, 4096, 4096]⟩
abbrev S1x2x4x4096x4096 : Shape := ⟨5, ![1, 2, 4, 4096, 4096]⟩
abbrev S2x4x1x1 : Shape := ⟨4, ![2, 4, 1, 1]⟩
abbrev S4x2x4x4096x1 : Shape := ⟨5, ![4, 2, 4, 4096, 1]⟩
abbrev S4x2x4x4096x4097 : Shape := ⟨5, ![4, 2, 4, 4096, 4097]⟩
abbrev S4x2x4x4096 : Shape := ⟨4, ![4, 2, 4, 4096]⟩
abbrev S4x4x4096x2x64 : Shape := ⟨5, ![4, 4, 4096, 2, 64]⟩
abbrev S4x4x4096x128 : Shape := ⟨4, ![4, 4, 4096, 128]⟩

abbrev nBuf : Space → Nat
  | .hbm => 94
  | .vmem => 0
  | .smem => 0
  | _ => 0

abbrev bufTy : (tb : Table) → Fin (tcTables nBuf tb) → BufTy
  | .hbm, ⟨0, _⟩ => ⟨S4x8x4096x64, .f32⟩
  | .hbm, ⟨1, _⟩ => ⟨S4x2x4096x64, .f32⟩
  | .hbm, ⟨2, _⟩ => ⟨S4x2x4096x64, .f32⟩
  | .hbm, ⟨3, _⟩ => ⟨S32x16, .f32⟩
  | .hbm, ⟨4, _⟩ => ⟨S8, .f32⟩
  | .hbm, ⟨5, _⟩ => ⟨S4x2x4x4096x64, .f32⟩
  | .hbm, ⟨6, _⟩ => ⟨S4096, .i32⟩
  | .hbm, ⟨7, _⟩ => ⟨S4096x1, .i32⟩
  | .hbm, ⟨8, _⟩ => ⟨S4096, .i32⟩
  | .hbm, ⟨9, _⟩ => ⟨S1x4096, .i32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i1⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S4096x4096, .i1⟩
  | .hbm, ⟨20, _⟩ => ⟨S32x8, .f32⟩
  | .hbm, ⟨21, _⟩ => ⟨S32x2x4, .f32⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .i32⟩
  | .hbm, ⟨40, _⟩ => ⟨S_, .i32⟩
  | .hbm, ⟨41, _⟩ => ⟨S4096x4096, .i32⟩
  | .hbm, ⟨42, _⟩ => ⟨S4096x4096, .i32⟩
  | .hbm, ⟨43, _⟩ => ⟨S_, .i32⟩
  | .hbm, ⟨44, _⟩ => ⟨S4096x4096, .i32⟩
  | .hbm, ⟨45, _⟩ => ⟨S4096x4096, .i32⟩
  | .hbm, ⟨46, _⟩ => ⟨S_, .i32⟩
  | .hbm, ⟨47, _⟩ => ⟨S4096x4096, .i32⟩
  | .hbm, ⟨48, _⟩ => ⟨S4096x4096, .i1⟩
  | .hbm, ⟨49, _⟩ => ⟨S4096x4096, .i32⟩
  | .hbm, ⟨50, _⟩ => ⟨S_, .i32⟩
  | .hbm, ⟨51, _⟩ => ⟨S4096x4096, .i32⟩
  | .hbm, ⟨52, _⟩ => ⟨S4096x4096, .i1⟩
  | .hbm, ⟨53, _⟩ => ⟨S_, .i32⟩
  | .hbm, ⟨54, _⟩ => ⟨S4096x4096, .i32⟩
  | .hbm, ⟨55, _⟩ => ⟨S4096x4096, .i32⟩
  | .hbm, ⟨56, _⟩ => ⟨S4096x4096, .i32⟩
  | .hbm, ⟨57, _⟩ => ⟨S4096x4096x1, .i32⟩
  | .hbm, ⟨58, _⟩ => ⟨S4096x4096x2x4, .f32⟩
  | .hbm, ⟨59, _⟩ => ⟨S2x4x4096x4096, .f32⟩
  | .hbm, ⟨60, _⟩ => ⟨S4x2x4x4096x4096, .f32⟩
  | .hbm, ⟨61, _⟩ => ⟨S_, .f32⟩
  | .hbm, ⟨62, _⟩ => ⟨S4x2x4x4096x4096, .f32⟩
  | .hbm, ⟨63, _⟩ => ⟨S4x2x4x4096x4096, .f32⟩
  | .hbm, ⟨64, _⟩ => ⟨S1x2x4x4096x4096, .f32⟩
  | .hbm, ⟨65, _⟩ => ⟨S4x2x4x4096x4096, .f32⟩
  | .hbm, ⟨66, _⟩ => ⟨S4x2x4x4096x4096, .f32⟩
  | .hbm, ⟨67, _⟩ => ⟨S_, .f32⟩
  | .hbm, ⟨68, _⟩ => ⟨S_, .f32⟩
  | .hbm, ⟨69, _⟩ => ⟨S4x2x4x4096x4096, .i1⟩
  | .hbm, ⟨70, _⟩ => ⟨S4x2x4x4096x4096, .f32⟩
  | .hbm, ⟨71, _⟩ => ⟨S4x2x4x4096x4096, .f32⟩
  | .hbm, ⟨72, _⟩ => ⟨S2x4x1x1, .f32⟩
  | .hbm, ⟨73, _⟩ => ⟨S4x2x4x4096x1, .f32⟩
  | .hbm, ⟨74, _⟩ => ⟨S4x2x4x4096x4097, .f32⟩
  | .hbm, ⟨75, _⟩ => ⟨S_, .f32⟩
  | .hbm, ⟨76, _⟩ => ⟨S4x2x4x4096, .f32⟩
  | .hbm, ⟨77, _⟩ => ⟨S_, .f32⟩
  | .hbm, ⟨78, _⟩ => ⟨S4x2x4x4096, .f32⟩
  | .hbm, ⟨79, _⟩ => ⟨S4x2x4x4096, .f32⟩
  | .hbm, ⟨80, _⟩ => ⟨S4x2x4x4096x1, .f32⟩
  | .hbm, ⟨81, _⟩ => ⟨S4x2x4x4096x4097, .f32⟩
  | .hbm, ⟨82, _⟩ => ⟨S4x2x4x4096x4097, .f32⟩
  | .hbm, ⟨83, _⟩ => ⟨S4x2x4x4096x4097, .f32⟩
  | .hbm, ⟨84, _⟩ => ⟨S_, .f32⟩
  | .hbm, ⟨85, _⟩ => ⟨S4x2x4x4096, .f32⟩
  | .hbm, ⟨86, _⟩ => ⟨S4x2x4x4096x1, .f32⟩
  | .hbm, ⟨87, _⟩ => ⟨S4x2x4x4096x4097, .f32⟩
  | .hbm, ⟨88, _⟩ => ⟨S4x2x4x4096x4097, .f32⟩
  | .hbm, ⟨89, _⟩ => ⟨S4x2x4x4096x4096, .f32⟩
  | .hbm, ⟨90, _⟩ => ⟨S4x2x4x4096x64, .f32⟩
  | .hbm, ⟨91, _⟩ => ⟨S4x4x4096x2x64, .f32⟩
  | .hbm, ⟨92, _⟩ => ⟨S4x4x4096x128, .f32⟩
  | .hbm, ⟨93, _⟩ => ⟨S4x4x4096x128, .bf16⟩
  | _, _ => ⟨S4x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Ffn.lean ====
abbrev S4x4096x1024 : Shape := ⟨3, ![4, 4096, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S16384x1024 : Shape := ⟨2, ![16384, 1024]⟩
abbrev S_ : Shape := ⟨0, ![]⟩
abbrev S1024x3072 : Shape := ⟨2, ![1024, 3072]⟩
abbrev S3x3072 : Shape := ⟨2, ![3, 3072]⟩
abbrev S3072 : Shape := ⟨1, ![3072]⟩
abbrev S3072x1024 : Shape := ⟨2, ![3072, 1024]⟩
abbrev S1x1024 : Shape := ⟨2, ![1, 1024]⟩
abbrev S1x3072 : Shape := ⟨2, ![1, 3072]⟩
abbrev S1024x1024 : Shape := ⟨2, ![1024, 1024]⟩
abbrev S8x1024 : Shape := ⟨2, ![8, 1024]⟩
abbrev S3x1024 : Shape := ⟨2, ![3, 1024]⟩
abbrev S1032x1024 : Shape := ⟨2, ![1032, 1024]⟩
abbrev S1024x1 : Shape := ⟨2, ![1024, 1]⟩
abbrev S8 : Shape := ⟨1, ![8]⟩
abbrev S8x1 : Shape := ⟨2, ![8, 1]⟩
abbrev S1024x256 : Shape := ⟨2, ![1024, 256]⟩
abbrev S1x256 : Shape := ⟨2, ![1, 256]⟩

abbrev nBuf : Space → Nat
  | .hbm => 30
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S16384x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S_, .i32⟩
  | .hbm, ⟨12, _⟩ => ⟨S_, .bf16⟩
  | .hbm, ⟨13, _⟩ => ⟨S1024x3072, .bf16⟩
  | .hbm, ⟨14, _⟩ => ⟨S_, .i32⟩
  | .hbm, ⟨15, _⟩ => ⟨S_, .bf16⟩
  | .hbm, ⟨16, _⟩ => ⟨S1024x3072, .bf16⟩
  | .hbm, ⟨17, _⟩ => ⟨S_, .i32⟩
  | .hbm, ⟨18, _⟩ => ⟨S_, .f32⟩
  | .hbm, ⟨19, _⟩ => ⟨S3x3072, .f32⟩
  | .hbm, ⟨20, _⟩ => ⟨S_, .i32⟩
  | .hbm, ⟨21, _⟩ => ⟨S_, .f32⟩
  | .hbm, ⟨22, _⟩ => ⟨S3072, .f32⟩
  | .hbm, ⟨23, _⟩ => ⟨S_, .i32⟩
  | .hbm, ⟨24, _⟩ => ⟨S_, .bf16⟩
  | .hbm, ⟨25, _⟩ => ⟨S3072x1024, .bf16⟩
  | .hbm, ⟨26, _⟩ => ⟨S1x1024, .f32⟩
  | .hbm, ⟨27, _⟩ => ⟨S1x1024, .f32⟩
  | .hbm, ⟨28, _⟩ => ⟨S1x3072, .f32⟩
  | .hbm, ⟨29, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S3x1024, .f32⟩
  | .local _ .vmem, ⟨11, _⟩ => ⟨S3x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S8x1024, .bf16⟩
  | .local _ .vmem, ⟨20, _⟩ => ⟨S1032x1024, .f32⟩
  | .local _ .vmem, ⟨21, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_c_2 : Ref sig .tc := ⟨.hbm, 20, rfl⟩
abbrev main_call3_v0 : Ref sig .tc := ⟨.hbm, 21, rfl⟩
abbrev main_v7 : Ref sig .tc := ⟨.hbm, 22, rfl⟩
abbrev main_c_3 : Ref sig .tc := ⟨.hbm, 23, rfl⟩
abbrev main_call4_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c2_i32 : BitVec 32 := 2#32
  let v217 : BitVec 1 := Scalar.cmpi .eq arg1 c2_i32
  let v218 : BitVec 32 := Scalar.extui v217
  let c0_i32_124 : BitVec 32 := 0#32
  let v219 : BitVec 1 := Scalar.cmpi .ne v218 c0_i32_124
  v219

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnReferenceIdeal.lean ====
abbrev S4x4096x1024 : Shape := ⟨3, ![4, 4096, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩
abbrev S16384x1024 : Shape := ⟨2, ![16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x2816, .f32⟩
  | .hbm, ⟨24, _⟩ => ⟨S_, .i32⟩
  | .hbm, ⟨25, _⟩ => ⟨S_, .f32⟩
  | .hbm, ⟨26, _⟩ => ⟨S4x4098x2816, .f32⟩
  | .hbm, ⟨27, _⟩ => ⟨S4x4096x2816, .f32⟩
  | .hbm, ⟨28, _⟩ => ⟨S1x2816, .f32⟩
  | .hbm, ⟨29, _⟩ => ⟨S2816, .f32⟩
  | .hbm, ⟨30, _⟩ => ⟨S1x1x2816, .f32⟩
  | .hbm, ⟨31, _⟩ => ⟨S4x4096x2816, .f32⟩
  | .hbm, ⟨32, _⟩ => ⟨S4x4096x2816, .f32⟩
  | .hbm, ⟨33, _⟩ => ⟨S_, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S1x2816, .f32⟩
  | .hbm, ⟨38, _⟩ => ⟨S2816, .f32⟩
  | .hbm, ⟨39, _⟩ => ⟨S1x1x2816, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S4x4096x2816, .f32⟩
  | .hbm, ⟨44, _⟩ => ⟨S1x2816, .f32⟩
  | .hbm, ⟨45, _⟩ => ⟨S2816, .f32⟩
  | .hbm, ⟨46, _⟩ => ⟨S1x1x2816, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S1x1x2816, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S_, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S_, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S_, .f32⟩
  | .hbm, ⟨64, _⟩ => ⟨S4x4096x2816, .f32⟩
  | .hbm, ⟨65, _⟩ => ⟨S4x4096x2816, .f32⟩
  | .hbm, ⟨66, _⟩ => ⟨S_, .f32⟩
  | .hbm, ⟨67, _⟩ => ⟨S4x4096x2816, .f32⟩
  | .hbm, ⟨68, _⟩ => ⟨S4x4096x2816, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S4x4096x1024, .f32⟩
  | .hbm, ⟨73, _⟩ => ⟨S4x4096x1024, .f32⟩
  | .hbm, ⟨74, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Gates.lean ====
abbrev S4x4096x1024 : Shape := ⟨3, ![4, 4096, 1024]⟩
abbrev S1024x6688 : Shape := ⟨2, ![1024, 6688]⟩
abbrev S1024x3072 : Shape := ⟨2, ![1024, 3072]⟩
abbrev S16384x1024 : Shape := ⟨2, ![16384, 1024]⟩
abbrev S3x16384x1024 : Shape := ⟨3, ![3, 16384, 1024]⟩
abbrev S2048x1024 : Shape := ⟨2, ![2048, 1024]⟩
abbrev S1024x1024 : Shape := ⟨2, ![1024, 1024]⟩
abbrev S1x2048x1024 : Shape := ⟨3, ![1, 2048, 1024]⟩
abbrev S1024x512 : Shape := ⟨2, ![1024, 512]⟩
abbrev S2048x512 : Shape := ⟨2, ![2048, 512]⟩
abbrev S1x2048x512 : Shape := ⟨3, ![1, 2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024x6688, .f32⟩
  | .hbm, ⟨2, _⟩ => ⟨S1024x3072, .f32⟩
  | .hbm, ⟨3, _⟩ => ⟨S16384x1024, .f32⟩
  | .hbm, ⟨4, _⟩ => ⟨S16384x1024, .bf16⟩
  | .hbm, ⟨5, _⟩ => ⟨S1024x3072, .bf16⟩
  | .hbm, ⟨6, _⟩ => ⟨S3x16384x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .bf16⟩
  | .local _ .vmem, ⟨5, _⟩ => ⟨S1x2048x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesReferenceIdeal.lean ====
abbrev S4x4096x1024 : Shape := ⟨3, ![4, 4096, 1024]⟩
abbrev S1024x6688 : Shape := ⟨2, ![1024, 6688]⟩
abbrev S4x4096x6688 : Shape := ⟨3, ![4, 4096, 6688]⟩
abbrev S4x4096x3072 : Shape := ⟨3, ![4, 4096, 3072]⟩
abbrev S_ : Shape := ⟨0, ![]⟩
abbrev S4x4096x3x1024 : Shape := ⟨4, ![4, 4096, 3, 1024]⟩
abbrev S3x4x4096x1024 : Shape := ⟨4, ![3, 4, 4096, 1024]⟩
abbrev S3x16384x1024 : Shape := ⟨3, ![3, 16384, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x6688, .f32⟩
  | .hbm, ⟨2, _⟩ => ⟨S4x4096x6688, .f32⟩
  | .hbm, ⟨3, _⟩ => ⟨S4x4096x3072, .f32⟩
  | .hbm, ⟨4, _⟩ => ⟨S4x4096x3072, .f32⟩
  | .hbm, ⟨5, _⟩ => ⟨S4x4096x3072, .f32⟩
  | .hbm, ⟨6, _⟩ => ⟨S_, .f32⟩
  | .hbm, ⟨7, _⟩ => ⟨S4x4096x3072, .f32⟩
  | .hbm, ⟨8, _⟩ => ⟨S4x4096x3072, .f32⟩
  | .hbm, ⟨9, _⟩ => ⟨S_, .f32⟩
  | .hbm, ⟨10, _⟩ => ⟨S4x4096x3072, .f32⟩
  | .hbm, ⟨11, _⟩ => ⟨S4x4096x3072, .f32⟩
  | .hbm, ⟨12, _⟩ => ⟨S4x4096x3x1024, .f32⟩
  | .hbm, ⟨13, _⟩ => ⟨S3x4x4096x1024, .f32⟩
  | .hbm, ⟨14, _⟩ => ⟨S3x16384x1024, .f32⟩
  | .hbm, ⟨15, _⟩ => ⟨S3x16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Merge.lean ====
abbrev S4x4096x1024 : Shape := ⟨3, ![4, 4096, 1024]⟩
abbrev S4x8x4096x64 : Shape := ⟨4, ![4, 8, 4096, 64]⟩
abbrev S4x4096x24 : Shape := ⟨3, ![4, 4096, 24]⟩
abbrev S4x4096x3072 : Shape := ⟨3, ![4, 4096, 3072]⟩
abbrev S3x512x1024 : Shape := ⟨3, ![3, 512, 1024]⟩
abbrev S1024x1024 : Shape := ⟨2, ![1024, 1024]⟩
abbrev S4x4x2x4096x64 : Shape := ⟨5, ![4, 4, 2, 4096, 64]⟩
abbrev S4x4x4096x2x64 : Shape := ⟨5, ![4, 4, 4096, 2, 64]⟩
abbrev S4x16384x128 : Shape := ⟨3, ![4, 16384, 128]⟩
abbrev S16384x24 : Shape := ⟨2, ![16384, 24]⟩
abbrev S_ : Shape := ⟨0, ![]⟩
abbrev S16384x128 : Shape := ⟨2, ![16384, 128]⟩
abbrev S16384x3x1024 : Shape := ⟨3, ![16384, 3, 1024]⟩
abbrev S3x16384x1024 : Shape := ⟨3, ![3, 16384, 1024]⟩
abbrev S1x512x1024 : Shape := ⟨3, ![1, 512, 1024]⟩
abbrev S512x1024 : Shape := ⟨2, ![512, 1024]⟩
abbrev S1024x512 : Shape := ⟨2, ![1024, 512]⟩
abbrev S1024x64 : Shape := ⟨2, ![1024, 64]⟩
abbrev S4x2x4x4096x64 : Shape := ⟨5, ![4, 2, 4, 4096, 64]⟩
abbrev S128x3x4x2x64 : Shape := ⟨5, ![128, 3, 4, 2, 64]⟩
abbrev S128x1536 : Shape := ⟨2, ![128, 1536]⟩
abbrev S16384x1024 : Shape := ⟨2, ![16384, 1024]⟩
abbrev S4x512x128 : Shape := ⟨3, ![4, 512, 128]⟩
abbrev S512x128 : Shape := ⟨2, ![512, 128]⟩
abbrev S512x1536 : Shape := ⟨2, ![512, 1536]⟩
abbrev S512x512 : Shape := ⟨2, ![512, 512]⟩
abbrev S1x512x128 : Shape := ⟨3, ![1, 512, 128]⟩
abbrev S1x512x256 : Shape := ⟨3, ![1, 512, 256]⟩
abbrev S512x256 : Shape := ⟨2, ![512, 256]⟩
abbrev S1024x256 : Shape := ⟨2, ![1024, 256]⟩

abbrev nBuf : Space → Nat
  | .hbm => 90
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x8x4096x64, .f32⟩
  | .hbm, ⟨2, _⟩ => ⟨S4x8x4096x64, .f32⟩
  | .hbm, ⟨3, _⟩ => ⟨S4x8x4096x64, .f32⟩
  | .hbm, ⟨4, _⟩ => ⟨S4x8x4096x64, .f32⟩
  | .hbm, ⟨5, _⟩ => ⟨S4x8x4096x64, .f32⟩
  | .hbm, ⟨6, _⟩ => ⟨S4x4096x24, .f32⟩
  | .hbm, ⟨7, _⟩ => ⟨S4x4096x3072, .f32⟩
  | .hbm, ⟨8, _⟩ => ⟨S3x512x1024, .f32⟩
  | .hbm, ⟨9, _⟩ => ⟨S1024x1024, .f32⟩
  | .hbm, ⟨10, _⟩ => ⟨S4x4x2x4096x64, .f32⟩
  | .hbm, ⟨11, _⟩ => ⟨S4x4x4096x2x64, .f32⟩
  | .hbm, ⟨12, _⟩ => ⟨S4x16384x128, .f32⟩
  | .hbm, ⟨13, _⟩ => ⟨S4x16384x128, .bf16⟩
  | .hbm, ⟨14, _⟩ => ⟨S16384x24, .f32⟩
  | .hbm, ⟨15, _⟩ => ⟨S_, .i32⟩
  | .hbm, ⟨16, _⟩ => ⟨S_, .f32⟩
  | .hbm, ⟨17, _⟩ => ⟨S16384x128, .f32⟩
  | .hbm, ⟨18, _⟩ => ⟨S16384x128, .bf16⟩
  | .hbm, ⟨19, _⟩ => ⟨S16384x3x1024, .f32⟩
  | .hbm, ⟨20, _⟩ => ⟨S3x16384x1024, .f32⟩
  | .hbm, ⟨21, _⟩ => ⟨S3x16384x1024, .bf16⟩
  | .hbm, ⟨22, _⟩ => ⟨S1x512x1024, .f32⟩
  | .hbm, ⟨23, _⟩ => ⟨S512x1024, .f32⟩
  | .hbm, ⟨24, _⟩ => ⟨S1024x512, .f32⟩
  | .hbm, ⟨25, _⟩ => ⟨S1024x64, .f32⟩
  | .hbm, ⟨26, _⟩ => ⟨S1024x64, .f32⟩
  | .hbm, ⟨27, _⟩ => ⟨S1024x64, .f32⟩
  | .hbm, ⟨28, _⟩ => ⟨S1024x64, .f32⟩
  | .hbm, ⟨29, _⟩ => ⟨S1024x64, .f32⟩
  | .hbm, ⟨30, _⟩ => ⟨S1024x64, .f32⟩
  | .hbm, ⟨31, _⟩ => ⟨S1024x64, .f32⟩
  | .hbm, ⟨32, _⟩ => ⟨S1024x64, .f32⟩
  | .hbm, ⟨33, _⟩ => ⟨S1024x512, .f32⟩
  | .hbm, ⟨34, _⟩ => ⟨S512x1024, .f32⟩
  | .hbm, ⟨35, _⟩ => ⟨S1x512x1024, .f32⟩
  | .hbm, ⟨36, _⟩ => ⟨S512x1024, .f32⟩
  | .hbm, ⟨37, _⟩ => ⟨S1024x512, .f32⟩
  | .hbm, ⟨38, _⟩ => ⟨S1024x64, .f32⟩
  | .hbm, ⟨39, _⟩ => ⟨S1024x64, .f32⟩
  | .hbm, ⟨40, _⟩ => ⟨S1024x64, .f32⟩
  | .hbm, ⟨41, _⟩ => ⟨S1024x64, .f32⟩
  | .hbm, ⟨42, _⟩ => ⟨S1024x64, .f32⟩
  | .hbm, ⟨43, _⟩ => ⟨S1024x64, .f32⟩
  | .hbm, ⟨44, _⟩ => ⟨S1024x64, .f32⟩
  | .hbm, ⟨45, _⟩ => ⟨S1024x64, .f32⟩
  | .hbm, ⟨46, _⟩ => ⟨S1024x512, .f32⟩
  | .hbm, ⟨47, _⟩ => ⟨S512x1024, .f32⟩
  | .hbm, ⟨48, _⟩ => ⟨S1x512x1024, .f32⟩
  | .hbm, ⟨49, _⟩ => ⟨S512x1024, .f32⟩
  | .hbm, ⟨50, _⟩ => ⟨S1x512x1024, .f32⟩
  | .hbm, ⟨51, _⟩ => ⟨S1x512x1024, .f32⟩
  | .hbm, ⟨52, _⟩ => ⟨S1x512x1024, .f32⟩
  | .hbm, ⟨53, _⟩ => ⟨S3x512x1024, .f32⟩
  | .hbm, ⟨54, _⟩ => ⟨S3x512x1024, .bf16⟩
  | .hbm, ⟨55, _⟩ => ⟨S4x2x4x4096x64, .f32⟩
  | .hbm, ⟨56, _⟩ => ⟨S4x4x4096x2x64, .f32⟩
  | .hbm, ⟨57, _⟩ => ⟨S4x16384x128, .f32⟩
  | .hbm, ⟨58, _⟩ => ⟨S4x16384x128, .bf16⟩
  | .hbm, ⟨59, _⟩ => ⟨S4x2x4x4096x64, .f32⟩
  | .hbm, ⟨60, _⟩ => ⟨S4x4x4096x2x64, .f32⟩
  | .hbm, ⟨61, _⟩ => ⟨S4x16384x128, .f32⟩
  | .hbm, ⟨62, _⟩ => ⟨S4x16384x128, .bf16⟩
  | .hbm, ⟨63, _⟩ => ⟨S4x2x4x4096x64, .f32⟩
  | .hbm, ⟨64, _⟩ => ⟨S4x4x4096x2x64, .f32⟩
  | .hbm, ⟨65, _⟩ => ⟨S4x16384x128, .f32⟩
  | .hbm, ⟨66, _⟩ => ⟨S4x16384x128, .bf16⟩
  | .hbm, ⟨67, _⟩ => ⟨S4x2x4x4096x64, .f32⟩
  | .hbm, ⟨68, _⟩ => ⟨S4x4x4096x2x64, .f32⟩
  | .hbm, ⟨69, _⟩ => ⟨S4x16384x128, .f32⟩
  | .hbm, ⟨70, _⟩ => ⟨S4x16384x128, .bf16⟩
  | .hbm, ⟨71, _⟩ => ⟨S128x3x4x2x64, .i32⟩
  | .hbm, ⟨72, _⟩ => ⟨S128x3x4x2x64, .i32⟩
  | .hbm, ⟨73, _⟩ => ⟨S128x3x4x2x64, .i32⟩
  | .hbm, ⟨74, _⟩ => ⟨S128x3x4x2x64, .i32⟩
  | .hbm, ⟨75, _⟩ => ⟨S128x3x4x2x64, .i32⟩
  | .hbm, ⟨76, _⟩ => ⟨S_, .i32⟩
  | .hbm, ⟨77, _⟩ => ⟨S128x3x4x2x64, .i32⟩
  | .hbm, ⟨78, _⟩ => ⟨S128x3x4x2x64, .i32⟩
  | .hbm, ⟨79, _⟩ => ⟨S128x3x4x2x64, .i32⟩
  | .hbm, ⟨80, _⟩ => ⟨S_, .i32⟩
  | .hbm, ⟨81, _⟩ => ⟨S128x3x4x2x64, .i32⟩
  | .hbm, ⟨82, _⟩ => ⟨S128x3x4x2x64, .i32⟩
  | .hbm, ⟨83, _⟩ => ⟨S128x3x4x2x64, .i32⟩
  | .hbm, ⟨84, _⟩ => ⟨S128x3x4x2x64, .i1⟩
  | .hbm, ⟨85, _⟩ => ⟨S128x3x4x2x64, .bf16⟩
  | .hbm, ⟨86, _⟩ => ⟨S128x1536, .bf16⟩
  | .hbm, ⟨87, _⟩ => ⟨S1024x1024, .bf16⟩
  | .hbm, ⟨88, _⟩ => ⟨S16384x1024, .f32⟩
  | .hbm, ⟨89, _⟩ => ⟨S16384x1024, .f32⟩
  | .local _ .vmem, ⟨0, _⟩ => ⟨S4x512x128, .bf16⟩
  | .local _ .vmem, ⟨1, _⟩ => ⟨S4x512x128, .bf16⟩
  | .local _ .vmem, ⟨2, _⟩ => ⟨S4x512x128, .bf16⟩
  | .local _ .vmem, ⟨3, _⟩ => ⟨S4x512x128, .bf16⟩
  | .local _ .vmem, ⟨4, _⟩ => ⟨S4x512x128, .bf16⟩
  | .local _ .vmem, ⟨5, _⟩ => ⟨S4x512x128, .bf16⟩
  | .local _ .vmem, ⟨6, _⟩ => ⟨S4x512x128, .bf16⟩
  | .local _ .vmem, ⟨7, _⟩ => ⟨S4x512x128, .bf16⟩
  | .local _ .vmem, ⟨8, _⟩ => ⟨S4x512x128, .bf16⟩
  | .local _ .vmem, ⟨9, _⟩ => ⟨S4x512x128, .bf16⟩
  | .local _ .vmem, ⟨10, _⟩ => ⟨S512x128, .bf16⟩
  | .local _ .vmem, ⟨11, _⟩ => ⟨S512x128, .bf16⟩
  | .local _ .vmem, ⟨12, _⟩ => ⟨S128x1536, .bf16⟩
  | .local _ .vmem, ⟨13, _⟩ => ⟨S3x512x1024, .bf16⟩
  | .local _ .vmem, ⟨14, _⟩ => ⟨S3x512x1024, .bf16⟩
  | .local _ .vmem, ⟨15, _⟩ => ⟨S3x512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_c_0 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_c_1 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeReferenceIdeal.lean ====
abbrev S4x4096x1024 : Shape := ⟨3, ![4, 4096, 1024]⟩
abbrev S4x8x4096x64 : Shape := ⟨4, ![4, 8, 4096, 64]⟩
abbrev S4x4096x24 : Shape := ⟨3, ![4, 4096, 24]⟩
abbrev S4x4096x3072 : Shape := ⟨3, ![4, 4096, 3072]⟩
abbrev S3x512x1024 : Shape := ⟨3, ![3, 512, 1024]⟩
abbrev S1024x1024 : Shape := ⟨2, ![1024, 1024]⟩
abbrev S4x4096x8x3 : Shape := ⟨4, ![4, 4096, 8, 3]⟩
abbrev S4x8x4096x3 : Shape := ⟨4, ![4, 8, 4096, 3]⟩
abbrev S4x8x4096x1 : Shape := ⟨4, ![4, 8, 4096, 1]⟩
abbrev S4x4096x8x64 : Shape := ⟨4, ![4, 4096, 8, 64]⟩
abbrev S4x4096x512 : Shape := ⟨3, ![4, 4096, 512]⟩
abbrev S4x4096x1x512 : Shape := ⟨4, ![4, 4096, 1, 512]⟩
abbrev S4x4096x3x512 : Shape := ⟨4, ![4, 4096, 3, 512]⟩
abbrev S3x1024x4x4096 : Shape := ⟨4, ![3, 1024, 4, 4096]⟩
abbrev S4x4096x3x1024 : Shape := ⟨4, ![4, 4096, 3, 1024]⟩
abbrev S_ : Shape := ⟨0, ![]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x8x4096x64, .f32⟩
  | .hbm, ⟨2, _⟩ => ⟨S4x8x4096x64, .f32⟩
  | .hbm, ⟨3, _⟩ => ⟨S4x8x4096x64, .f32⟩
  | .hbm, ⟨4, _⟩ => ⟨S4x8x4096x64, .f32⟩
  | .hbm, ⟨5, _⟩ => ⟨S4x8x4096x64, .f32⟩
  | .hbm, ⟨6, _⟩ => ⟨S4x4096x24, .f32⟩
  | .hbm, ⟨7, _⟩ => ⟨S4x4096x3072, .f32⟩
  | .hbm, ⟨8, _⟩ => ⟨S3x512x1024, .f32⟩
  | .hbm, ⟨9, _⟩ => ⟨S1024x1024, .f32⟩
  | .hbm, ⟨10, _⟩ => ⟨S4x4096x8x3, .f32⟩
  | .hbm, ⟨11, _⟩ => ⟨S4x8x4096x3, .f32⟩
  | .hbm, ⟨12, _⟩ => ⟨S4x8x4096x1, .f32⟩
  | .hbm, ⟨13, _⟩ => ⟨S4x8x4096x64, .f32⟩
  | .hbm, ⟨14, _⟩ => ⟨S4x8x4096x64, .f32⟩
  | .hbm, ⟨15, _⟩ => ⟨S4x8x4096x1, .f32⟩
  | .hbm, ⟨16, _⟩ => ⟨S4x8x4096x64, .f32⟩
  | .hbm, ⟨17, _⟩ => ⟨S4x8x4096x64, .f32⟩
  | .hbm, ⟨18, _⟩ => ⟨S4x8x4096x64, .f32⟩
  | .hbm, ⟨19, _⟩ => ⟨S4x8x4096x1, .f32⟩
  | .hbm, ⟨20, _⟩ => ⟨S4x8x4096x64, .f32⟩
  | .hbm, ⟨21, _⟩ => ⟨S4x8x4096x64, .f32⟩
  | .hbm, ⟨22, _⟩ => ⟨S4x8x4096x64, .f32⟩
  | .hbm, ⟨23, _⟩ => ⟨S4x4096x8x64, .f32⟩
  | .hbm, ⟨24, _⟩ => ⟨S4x4096x512, .f32⟩
  | .hbm, ⟨25, _⟩ => ⟨S4x4096x8x64, .f32⟩
  | .hbm, ⟨26, _⟩ => ⟨S4x4096x512, .f32⟩
  | .hbm, ⟨27, _⟩ => ⟨S4x4096x8x64, .f32⟩
  | .hbm, ⟨28, _⟩ => ⟨S4x4096x512, .f32⟩
  | .hbm, ⟨29, _⟩ => ⟨S4x4096x1x512, .f32⟩
  | .hbm, ⟨30, _⟩ => ⟨S4x4096x1x512, .f32⟩
  | .hbm, ⟨31, _⟩ => ⟨S4x4096x1x512, .f32⟩
  | .hbm, ⟨32, _⟩ => ⟨S4x4096x3x512, .f32⟩
  | .hbm, ⟨33, _⟩ => ⟨S3x1024x4x4096, .f32⟩
  | .hbm, ⟨34, _⟩ => ⟨S4x4096x3x1024, .f32⟩
  | .hbm, ⟨35, _⟩ => ⟨S4x4096x3x1024, .f32⟩
  | .hbm, ⟨36, _⟩ => ⟨S4x4096x3x1024, .f32⟩
  | .hbm, ⟨37, _⟩ => ⟨S_, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Host.lean ====
module
public import proofs.«01_k».proof.Proof.Gen.KernelIdeal.Value
public import Idealize.ShloMosaic.Lib.Pointwise
public import Idealize.ShloMosaic.Lib.WordCmp
public import Idealize.ShloMosaic.Lib.Claim
@[expose] public section
set_option maxRecDepth 16384
noncomputable section
open Idealize.ShloMosaic Idealize.ShloMosaic.TcCoe Idealize.SL.Sem
namespace Cert.KernelIdeal.Attn
open Cert.KernelIdeal Cert.KernelIdeal.Gen

/-! ## The arrays the call is given -/

/-- Queries, keys and values packed head by head. -/
def packed (q : FVec Ideal S4x8x4096x64 .f32) (k v : FVec Ideal S4x2x4096x64 .f32) : FVec Ideal S6x4x4096x128 .bf16 :=
  truncf .bf16 (concatenate S6x4x4096x128 0
    [⟨S4x4x4096x128, shapeCast S4x4x4096x128 (transpose S4x4x4096x2x64 [2, 0, 3, 1, 4] (shapeCast S4x2x4x4096x64 q shapeCasts_S4x8x4096x64_S4x2x4x4096x64) transposes_S4x2x4x4096x64_S4x4x4096x2x64_2_0_3_1_4) shapeCasts_S4x4x4096x2x64_S4x4x4096x128⟩,
     ⟨S1x4x4096x128, shapeCast S1x4x4096x128 (transpose S1x4x4096x2x64 [2, 0, 3, 1, 4] (shapeCast S4x2x1x4096x64 k shapeCasts_S4x2x4096x64_S4x2x1x4096x64) transposes_S4x2x1x4096x64_S1x4x4096x2x64_2_0_3_1_4) shapeCasts_S1x4x4096x2x64_S1x4x4096x128⟩,
     ⟨S1x4x4096x128, shapeCast S1x4x4096x128 (transpose S1x4x4096x2x64 [2, 0, 3, 1, 4] (shapeCast S4x2x1x4096x64 v shapeCasts_S4x2x4096x64_S4x2x1x4096x64) transposes_S4x2x1x4096x64_S1x4x4096x2x64_2_0_3_1_4) shapeCasts_S1x4x4096x2x64_S1x4x4096x128⟩]
    concatenates_S4x4x4096x128_S1x4x4096x128_S1x4x4096x128_S6x4x4096x128_d0) bitsLt_bf16_f32

/-- Distance of a query row to a key column of a block. -/
def hostDist : IVec S256x384 32 :=
  subi (addi (broadcastInDim S256x384 ![] bcast_S_S256x384 (constantI S_ 32 128#32)) (iotaInDim S256x384 32 0)) (iotaInDim S256x384 32 1)

/-- Where the distance is inside the window. -/
def hostNear : IVec S256x384 1 :=
  andi (cmpi .sge hostDist (broadcastInDim S256x384 ![] bcast_S_S256x384 (constantI S_ 32 0#32)))
    (cmpi .slt hostDist (broadcastInDim S256x384 ![] bcast_S_S256x384 (constantI S_ 32 128#32)))

/-- The bucket of each distance below the window, as the table lookup reads it. -/
def hostBuckets : IVec S128 32 :=
  select (cmpi .slt (fun i => lit0 (S128.rowMajor i)) (broadcastInDim S128 ![] bcast_S_S128 (constantI S_ 32 0#32)))
    (addi (fun i => lit0 (S128.rowMajor i)) (broadcastInDim S128 ![] bcast_S_S128 (constantI S_ 32 32#32))) (fun i => lit0 (S128.rowMajor i))

/-- The bias of each head at each distance. -/
def hostByDist (rb : FVec Ideal S32x16 .f32) : FVec Ideal S8x128 .f32 :=
  Host.gather gather_S8x32_S128x1_S8x128_0_1_n_n_1_1_81
    (transpose S8x32 [1, 0] (extractStridedSlice S32x8 ![0, 8] rb slices_S32x16_S32x8_0_8) transposes_S32x8_S8x32_1_0)
    (broadcastInDim S128x1 ![0] bcast_S128_S128x1_0 hostBuckets)

/-- The distance clipped to the window. -/
def hostClip : IVec S256x384 32 :=
  minsi (broadcastInDim S256x384 ![] bcast_S_S256x384 (id (constantI S_ 32 127#32)))
    (maxsi (broadcastInDim S256x384 ![] bcast_S_S256x384 (id (constantI S_ 32 0#32))) hostDist)

/-- The clipped distance as the table lookup reads it. -/
def hostAt : IVec S256x384 32 :=
  select (cmpi .slt hostClip (broadcastInDim S256x384 ![] bcast_S_S256x384 (constantI S_ 32 0#32)))
    (addi hostClip (broadcastInDim S256x384 ![] bcast_S_S256x384 (constantI S_ 32 128#32))) hostClip

/-- The bias of each head at each row and column, bottom outside the window. -/
def hostTable (rb : FVec Ideal S32x16 .f32) : FVec Ideal S8x256x384 .f32 :=
  select (broadcastInDim S8x256x384 ![0, 1, 2] bcast_S1x256x384_S8x256x384_0_1_2 (broadcastInDim S1x256x384 ![1, 2] bcast_S256x384_S1x256x384_1_2 hostNear))
    (Host.gather gather_S8x128_S256x384x1_S8x256x384_0_1_n_n_1_2_81 (hostByDist rb) (broadcastInDim S256x384x1 ![0, 1] bcast_S256x384_S256x384x1_0_1 hostAt))
    (broadcastInDim S8x256x384 ![] bcast_S_S8x256x384 (id (constant S_ .f32 0xFF800000#32)))

/-- The bias table with each head's sink in column 0. -/
def hostBias (rb : FVec Ideal S32x16 .f32) (sk : FVec Ideal S8 .f32) : FVec Ideal S8x256x384 .f32 :=
  Host.scatter scatter_S8x256x384_S1_S8x256_01_2_2_0 (fun _ b => b) (hostTable rb)
    (broadcastInDim S1 ![] bcast_S_S1 (constantI S_ 32 0#32))
    (broadcastInDim S8x256 ![0, 1] bcast_S8x1_S8x256_0_1 (broadcastInDim S8x1 ![0] bcast_S8_S8x1_0 sk))

variable (m : (ℓ : Loc nD τ sig) → Buf (Elt Ideal) ℓ)

/-- The packed operand of the call. -/
theorem v10_eq (c : Dev nD) : V m c main_v10
    = packed (m ((c : Thread nD τ).loc main_arg0)) (m ((c : Thread nD τ).loc main_arg1)) (m ((c : Thread nD τ).loc main_arg2)) := by
  simp only [V, hostOps0, hostOps0_1, hostOps0_2, hostOps0_3, hostOps0_4, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl

/-- The bias operand of the call. -/
theorem v43_eq (c : Dev nD) : V m c main_v43 = hostBias (m ((c : Thread nD τ).loc main_arg3)) (m ((c : Thread nD τ).loc main_arg4)) := by
  simp only [V, hostOps0, hostOps0_1, hostOps0_2, hostOps0_3, hostOps0_4, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
end Cert.KernelIdeal.Attn
end
end
-- ==== Proof.Reference.lean ====
module
public import proofs.«01_k».proof.Proof.Gen.ReferenceIdeal.Run
public import Idealize.ShloMosaic.Lib.Pointwise
public import Idealize.ShloMosaic.Lib.WordCmp
@[expose] public section
set_option maxRecDepth 16384
noncomputable section
open Idealize.ShloMosaic Idealize.ShloMosaic.TcCoe Idealize.SL.Sem
namespace Cert.ReferenceIdeal.Attn
open Cert.ReferenceIdeal Cert.ReferenceIdeal.Gen Cert.ReferenceIdeal.Value

/-- The distance of query position and key position, as the reference's word array. -/
def refDist : IVec S4096x4096 32 :=
  subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))

/-- The distance, raised to zero where it is negative. -/
def refPos : IVec S4096x4096 32 :=
  maxsi refDist (broadcastInDim S4096x4096 ![] bcast_S_S4096x4096 (constantI S_ 32 0#32))

/-- The bucket of each distance. -/
def refBucket : IVec S4096x4096 32 :=
  select (cmpi .slt refPos (broadcastInDim S4096x4096 ![] bcast_S_S4096x4096 (constantI S_ 32 16#32))) refPos (minsi (addi (broadcastInDim S4096x4096 ![] bcast_S_S4096x4096 (constantI S_ 32 16#32)) (fptosi 32 (mulf (Host.divf (Host.log (Host.divf (sitofp (F := Ideal) .f32 (maxsi refPos (broadcastInDim S4096x4096 ![] bcast_S_S4096x4096 (constantI S_ 32 1#32)))) (broadcastInDim S4096x4096 ![] bcast_S_S4096x4096 (constant S_ .f32 0x41800000#32)))) (broadcastInDim S4096x4096 ![] bcast_S_S4096x4096 (constant S_ .f32 0x40051592#32))) (broadcastInDim S4096x4096 ![] bcast_S_S4096x4096 (constant S_ .f32 0x41800000#32))))) (broadcastInDim S4096x4096 ![] bcast_S_S4096x4096 (constantI S_ 32 31#32)))

/-- The bucket as the table lookup reads it. -/
def refIndex : IVec S4096x4096 32 :=
  select (cmpi .slt refBucket (broadcastInDim S4096x4096 ![] bcast_S_S4096x4096 (constantI S_ 32 0#32))) (addi refBucket (broadcastInDim S4096x4096 ![] bcast_S_S4096x4096 (constantI S_ 32 32#32))) refBucket

/-- The relative bias of each head at each pair of positions. -/
def refBias (rb : FVec Ideal S32x16 .f32) : FVec Ideal S2x4x4096x4096 .f32 :=
  transpose S2x4x4096x4096 [2, 3, 0, 1] (Host.gather gather_S32x2x4_S4096x4096x1_S4096x4096x2x4_23_0_n_n_0_2_124 (shapeCast S32x2x4 (extractStridedSlice S32x8 ![0, 8] rb slices_S32x16_S32x8_0_8) shapeCasts_S32x8_S32x2x4) (broadcastInDim S4096x4096x1 ![0, 1] bcast_S4096x4096_S4096x4096x1_0_1 refIndex)) transposes_S4096x4096x2x4_S2x4x4096x4096_2_3_0_1

/-- The logits, bottom outside the window. -/
def refLogits (q : FVec Ideal S4x8x4096x64 .f32) (k : FVec Ideal S4x2x4096x64 .f32) (rb : FVec Ideal S32x16 .f32) :
    FVec Ideal S4x2x4x4096x4096 .f32 :=
  select (broadcastInDim S4x2x4x4096x4096 ![3, 4] bcast_S4096x4096_S4x2x4x4096x4096_3_4 (andi (cmpi .sge refDist (broadcastInDim S4096x4096 ![] bcast_S_S4096x4096 (constantI S_ 32 0#32))) (cmpi .slt refDist (broadcastInDim S4096x4096 ![] bcast_S_S4096x4096 (constantI S_ 32 128#32))))) (addf (mulf (Host.dotGeneral dot_S4x2x4x4096x64_S4x2x4096x64_S4x2x4x4096x4096_4_3_23_2_01_01 none (shapeCast S4x2x4x4096x64 q shapeCasts_S4x8x4096x64_S4x2x4x4096x64) k) (broadcastInDim S4x2x4x4096x4096 ![] bcast_S_S4x2x4x4096x4096 (constant S_ .f32 0x3E000000#32))) (broadcastInDim S4x2x4x4096x4096 ![0, 1, 2, 3, 4] bcast_S1x2x4x4096x4096_S4x2x4x4096x4096_0_1_2_3_4 (broadcastInDim S1x2x4x4096x4096 ![1, 2, 3, 4] bcast_S2x4x4096x4096_S1x2x4x4096x4096_1_2_3_4 (refBias rb)))) (broadcastInDim S4x2x4x4096x4096 ![] bcast_S_S4x2x4x4096x4096 (id (constant S_ .f32 0xFF800000#32)))

/-- The logits with the sink's logit as a last column. -/
def refCat (q : FVec Ideal S4x8x4096x64 .f32) (k : FVec Ideal S4x2x4096x64 .f32) (rb : FVec Ideal S32x16 .f32)
    (sk : FVec Ideal S8 .f32) : FVec Ideal S4x2x4x4096x4097 .f32 :=
  fn_main_v52 (F := Ideal) (refLogits q k rb) (broadcastInDim S4x2x4x4096x1 ![1, 2, 3, 4] bcast_S2x4x1x1_S4x2x4x4096x1_1_2_3_4 (shapeCast S2x4x1x1 sk shapeCasts_S8_S2x4x1x1))

/-- The largest entry of each row. -/
def refMax (z : FVec Ideal S4x2x4x4096x4097 .f32) : FVec Ideal S4x2x4x4096 .f32 :=
  Host.reduce FloatOps.maximumf z (constant S_ .f32 0xFF800000#32) reducesTo_S4x2x4x4096x4097_S4x2x4x4096_d4 h_S_

/-- The exponentials of the logits shifted by a row of maxima. -/
def refShift (z : FVec Ideal S4x2x4x4096x4097 .f32) (M : FVec Ideal S4x2x4x4096 .f32) : FVec Ideal S4x2x4x4096x4097 .f32 :=
  Host.exp (subf z (broadcastInDim S4x2x4x4096x4097 ![0, 1, 2, 3, 4] bcast_S4x2x4x4096x1_S4x2x4x4096x4097_0_1_2_3_4 (broadcastInDim S4x2x4x4096x1 ![0, 1, 2, 3] bcast_S4x2x4x4096_S4x2x4x4096x1_0_1_2_3 (maximumf (broadcastInDim S4x2x4x4096 ![] bcast_S_S4x2x4x4096 (constant S_ .f32 0xFF800000#32)) M))))

/-- The unnormalised weights. -/
def refExp (z : FVec Ideal S4x2x4x4096x4097 .f32) : FVec Ideal S4x2x4x4096x4097 .f32 := refShift z (refMax z)

/-- The result from the unnormalised weights and the values. -/
def refOut (e : FVec Ideal S4x2x4x4096x4097 .f32) (v : FVec Ideal S4x2x4096x64 .f32) : FVec Ideal S4x4x4096x128 .bf16 :=
  truncf .bf16 (shapeCast S4x4x4096x128 (transpose S4x4x4096x2x64 [2, 0, 3, 1, 4] (Host.dotGeneral dot_S4x2x4x4096x4096_S4x2x4096x64_S4x2x4x4096x64_4_2_23_3_01_01 none (extractStridedSlice S4x2x4x4096x4096 ![0, 0, 0, 0, 0] (Host.divf e (broadcastInDim S4x2x4x4096x4097 ![0, 1, 2, 3, 4] bcast_S4x2x4x4096x1_S4x2x4x4096x4097_0_1_2_3_4 (broadcastInDim S4x2x4x4096x1 ![0, 1, 2, 3] bcast_S4x2x4x4096_S4x2x4x4096x1_0_1_2_3 (Host.reduceAdd e (constant S_ .f32 0x00000000#32) reducesTo_S4x2x4x4096x4097_S4x2x4x4096_d4 h_S_)))) slices_S4x2x4x4096x4097_S4x2x4x4096x4096_0_0_0_0_0) v) transposes_S4x2x4x4096x64_S4x4x4096x2x64_2_0_3_1_4) shapeCasts_S4x4x4096x2x64_S4x4x4096x128) bitsLt_bf16_f32

/-- The reference's result is these steps one after the other. -/
theorem res_eq (m : (ℓ : Loc nD τ sig) → Buf (Elt Ideal) ℓ) (c : Dev nD) :
    res_main_v68 m c = refOut (refExp (refCat (m ((c.tc : Thread nD τ).loc main_arg0)) (m ((c.tc : Thread nD τ).loc main_arg1)) (m ((c.tc : Thread nD τ).loc main_arg3)) (m ((c.tc : Thread nD τ).loc main_arg4)))) (m ((c.tc : Thread nD τ).loc main_arg2)) := by
  rfl

end Cert.ReferenceIdeal.Attn
end
end
-- ==== Proof.RefReads.lean ====
module
public import proofs.«01_k».proof.Proof.Reference
@[expose] public section
set_option maxRecDepth 16384
noncomputable section
open Idealize.ShloMosaic Idealize.ShloMosaic.TcCoe Idealize.SL.Sem
namespace Cert.ReferenceIdeal.Attn
open Cert.ReferenceIdeal Cert.ReferenceIdeal.Gen Cert.ReferenceIdeal.Value

theorem neg_inf : Ideal.ofBits .f32 0xFF800000#32 = (⊥ : EReal) := by simp [Ideal.ofBits, Ideal.ieee]

/-- One entry of the result. -/
theorem refOut_at (e : FVec Ideal S4x2x4x4096x4097 .f32) (v : FVec Ideal S4x2x4096x64 .f32) (p b : Fin 4) (t : Fin 4096) (l : Fin 128) :
    refOut e v (ix4 p b t l)
      = ∑ x : Fin 4096, Ideal.div (e (ix5 b ⟨l.val / 64, by omega⟩ p t ⟨x.val, by omega⟩)) (∑ y : Fin 4097, e (ix5 b ⟨l.val / 64, by omega⟩ p t y))
          * v (ix4 b ⟨l.val / 64, by omega⟩ x ⟨l.val % 64, by omega⟩) := by
  pointwise [refOut]

theorem reduces : S4x2x4x4096x4097.Reduces [4] S4x2x4x4096 := by decide

/-- The row's largest entry. -/
theorem refMax_at (z : FVec Ideal S4x2x4x4096x4097 .f32) (b : Fin 4) (g : Fin 2) (p : Fin 4) (t : Fin 4096) :
    refMax z (ix4 b g p t) = Finset.univ.sup fun x : Fin 4097 => z (ix5 b g p t x) := by
  unfold refMax
  rw [Host.reduce_eq_fold_single FloatOps.maximumf z _ _ reduces h_S_]
  have hf : (z ∘ reduces.lift (ix4 b g p t)) = fun x : Fin 4097 => z (ix5 b g p t x) := funext fun k => congrArg z (by
    funext c; apply Fin.ext
    match c with
    | ⟨0, _⟩ => rfl
    | ⟨1, _⟩ => rfl
    | ⟨2, _⟩ => rfl
    | ⟨3, _⟩ => rfl
    | ⟨4, _⟩ => rfl)
  refine (congrArg (fun f => Finset.fold max (Ideal.ofBits .f32 0xFF800000#32) f (Finset.univ : Finset (Fin 4097))) hf).trans ?_
  rw [neg_inf]
  rfl

/-- One exponential of a shifted logit. -/
theorem refShift_at (z : FVec Ideal S4x2x4x4096x4097 .f32) (M : FVec Ideal S4x2x4x4096 .f32) (b : Fin 4) (g : Fin 2) (p : Fin 4) (t : Fin 4096) (s : Fin 4097) :
    refShift z M (ix5 b g p t s) = Ideal.exp (z (ix5 b g p t s) - max (Ideal.ofBits .f32 0xFF800000#32) (M (ix4 b g p t))) := by
  pointwise [refShift]

/-- One unnormalised weight. -/
theorem refExp_at (z : FVec Ideal S4x2x4x4096x4097 .f32) (b : Fin 4) (g : Fin 2) (p : Fin 4) (t : Fin 4096) (s : Fin 4097) :
    refExp z (ix5 b g p t s) = Ideal.exp (z (ix5 b g p t s) - Finset.univ.sup fun x : Fin 4097 => z (ix5 b g p t x)) := by
  unfold refExp
  rw [refShift_at, refMax_at, neg_inf, max_eq_right bot_le]

/-- One logit, the sink's last. -/
theorem refCat_at (q : FVec Ideal S4x8x4096x64 .f32) (k : FVec Ideal S4x2x4096x64 .f32) (rb : FVec Ideal S32x16 .f32) (sk : FVec Ideal S8 .f32)
    (b : Fin 4) (g : Fin 2) (p : Fin 4) (t : Fin 4096) (s : Fin 4097) :
    refCat q k rb sk (ix5 b g p t s) = if h : s.val < 4096 then refLogits q k rb (ix5 b g p t ⟨s.val, h⟩) else sk (ix1 ⟨g.val * 4 + p.val, by omega⟩) := by
  pointwise [refCat, fn_main_v52]

theorem near (t s : Fin 4096) :
    IntOp.andi (IntOp.cmpi .sge (IntOp.subi (BitVec.ofNat 32 t.val) (BitVec.ofNat 32 s.val)) 0#32)
      (IntOp.cmpi .slt (IntOp.subi (BitVec.ofNat 32 t.val) (BitVec.ofNat 32 s.val)) 128#32)
      = if s.val ≤ t.val ∧ t.val < s.val + 128 then 1#1 else 0#1 := by
  word_cmp
  have ht := t.isLt
  have hs := s.isLt
  have e : (IntOp.subi (BitVec.ofNat 32 t.val) (BitVec.ofNat 32 s.val)).toNat < 128 ↔ s.val ≤ t.val ∧ t.val < s.val + 128 := by
    simp only [IntOp.subi, BitVec.toNat_sub, BitVec.toNat_ofNat]
    omega
  by_cases h : s.val ≤ t.val ∧ t.val < s.val + 128
  · rw [if_pos h, decide_eq_true (e.mpr h)]; rfl
  · rw [if_neg h, decide_eq_false (fun q => h (e.mp q))]; rfl

/-- One key's logit: the scaled product plus the bias inside the window, bottom outside. -/
theorem refLogits_at (q : FVec Ideal S4x8x4096x64 .f32) (k : FVec Ideal S4x2x4096x64 .f32) (rb : FVec Ideal S32x16 .f32)
    (b : Fin 4) (g : Fin 2) (p : Fin 4) (t s : Fin 4096) :
    refLogits q k rb (ix5 b g p t s) = if s.val ≤ t.val ∧ t.val < s.val + 128 then
      (∑ x : Fin 64, q (ix4 b ⟨g.val * 4 + p.val, by omega⟩ t x) * k (ix4 b g s x)) * Ideal.ofBits .f32 0x3E000000#32 + refBias rb (ix4 g p t s) else ⊥ := by
  pointwise [refLogits, refDist]
  rw [near]
  split_ifs
  · simp [Scalar.select]
  · simp [Scalar.select]
    exact neg_inf

/-- The bias table's lookup by bucket. -/
theorem lookup {α : Type} (x : S32x2x4.Idx → α) (idx : IVec S4096x4096x1 32) (t s : Fin 4096) (g : Fin 2) (p : Fin 4) (n : Fin 32)
    (h : idx (ix3 t s 0) = BitVec.ofNat 32 n.val) :
    Host.gather gather_S32x2x4_S4096x4096x1_S4096x4096x2x4_23_0_n_n_0_2_124 x idx (ix4 t s g p) = x (ix3 n g p) := by
  unfold Host.gather
  refine congrArg x (funext fun a => Fin.ext ?_)
  match a with
  | ⟨0, _⟩ =>
    have hs : (gather_S32x2x4_S4096x4096x1_S4096x4096x2x4_23_0_n_n_0_2_124).start (ix4 t s g p) idx 0 = min (idx (ix3 t s 0)).toInt.toNat 31 := by
      refine congrArg (fun i => min (idx i).toInt.toNat 31) (funext fun b => Fin.ext ?_)
      match b with
      | ⟨0, _⟩ => rfl
      | ⟨1, _⟩ => rfl
      | ⟨2, _⟩ => rfl
    show (gather_S32x2x4_S4096x4096x1_S4096x4096x2x4_23_0_n_n_0_2_124).start (ix4 t s g p) idx 0 + 0 + 0 = n.val
    rw [hs, h]
    exact (by decide +kernel : ∀ n : Fin 32, min (BitVec.ofNat 32 n.val).toInt.toNat 31 + 0 + 0 = n.val) n
  | ⟨1, _⟩ =>
    show 0 + 0 + g.val = g.val
    omega
  | ⟨2, _⟩ =>
    show 0 + 0 + p.val = p.val
    omega

/-- The bias of a head at a pair of positions, from the bucket of their distance. -/
theorem refBias_at (rb : FVec Ideal S32x16 .f32) (g : Fin 2) (p : Fin 4) (t s : Fin 4096) (n : Fin 32) (h : refIndex (ix2 t s) = BitVec.ofNat 32 n.val) :
    refBias rb (ix4 g p t s) = rb (ix2 n ⟨8 + g.val * 4 + p.val, by omega⟩) := by
  pointwise [refBias]
  rw [lookup _ _ t s g p n (by pointwise; exact h)]
  pointwise
  exact congrArg (fun i => rb (ix2 n i)) (Fin.ext (by dsimp only; omega))
end Cert.ReferenceIdeal.Attn
end
end
-- ==== Proof.Softmax.lean ====
module
public import Idealize.ShloMosaic.Lib.Pointwise
@[expose] public section
noncomputable section
open Idealize.ShloMosaic
namespace Cert.Attn

/-- Two sums whose nonzero terms correspond one to one are equal. -/
theorem sum_live {α β M : Type} [Fintype α] [Fintype β] [AddCommMonoid M] (L : α → Prop) (L' : β → Prop)
    (φ : α → β) (ψ : β → α) (hφ : ∀ a, L a → L' (φ a)) (hψ : ∀ b, L' b → L (ψ b))
    (h1 : ∀ a, L a → ψ (φ a) = a) (h2 : ∀ b, L' b → φ (ψ b) = b) (f : α → M) (g : β → M)
    (hf : ∀ a, ¬ L a → f a = 0) (hg : ∀ b, ¬ L' b → g b = 0) (h : ∀ a, L a → f a = g (φ a)) :
    ∑ a, f a = ∑ b, g b := by
  classical
  rw [← Finset.sum_filter_of_ne (p := L) (fun a _ ha => by_contra fun hn => ha (hf a hn)),
    ← Finset.sum_filter_of_ne (p := L') (fun b _ hb => by_contra fun hn => hb (hg b hn))]
  refine Finset.sum_nbij' φ ψ ?_ ?_ ?_ ?_ ?_
  · intro a ha; exact Finset.mem_filter.2 ⟨Finset.mem_univ _, hφ a (Finset.mem_filter.1 ha).2⟩
  · intro a ha; exact Finset.mem_filter.2 ⟨Finset.mem_univ _, hψ a (Finset.mem_filter.1 ha).2⟩
  · intro a ha; exact h1 a (Finset.mem_filter.1 ha).2
  · intro a ha; exact h2 a (Finset.mem_filter.1 ha).2
  · intro a ha; exact h a (Finset.mem_filter.1 ha).2

/-- A nonnegative real factor goes into a sum of extended reals. -/
theorem sum_mul_real {α : Type} (s : Finset α) (f : α → EReal) (r : ℝ) (hr : 0 ≤ r) :
    (∑ a ∈ s, f a) * (r : EReal) = ∑ a ∈ s, f a * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sum of reals read as extended reals. -/
theorem sum_real {α : Type} (s : Finset α) (f : α → ℝ) :
    ∑ a ∈ s, ((f a : ℝ) : EReal) = ((∑ a ∈ s, f a : ℝ) : EReal) := by
  classical
  induction s using Finset.induction_on with
  | empty => simp
  | insert a s ha ih => rw [Finset.sum_insert ha, Finset.sum_insert ha, ih, EReal.coe_add]

/-- Division by a nonzero real is multiplication by its inverse. -/
theorem div_real (x : EReal) (d : ℝ) (hd : d ≠ 0) : Ideal.div x (d : EReal) = x * ((d⁻¹ : ℝ) : EReal) := by
  unfold Ideal.div
  rw [if_neg (by exact_mod_cast hd), EReal.coe_inv]

/-- **The softmax of both forms.** Scores in base two, scaled by `c = 1 / ln 2` and summed over a window of
    columns with the division at the end, against logits in base e, summed over all keys with each weight
    divided first: equal when the live columns and the live keys correspond one to one, the live logits are
    real and there is one. The values may be anything. -/
theorem softmax_eq {α β : Type} [Fintype α] [Fintype β] (L : α → Prop) (L' : β → Prop)
    (φ : α → β) (ψ : β → α) (hφ : ∀ a, L a → L' (φ a)) (hψ : ∀ b, L' b → L (ψ b))
    (h1 : ∀ a, L a → ψ (φ a) = a) (h2 : ∀ b, L' b → φ (ψ b) = b)
    (c : ℝ) (hc : 0 < c) (hc2 : c * Real.log 2 = 1) (x : α → ℝ) (S : α → EReal) (y : β → EReal)
    (hS : ∀ a, L a → S a = ((c * x a : ℝ) : EReal)) (hS' : ∀ a, ¬ L a → S a = ⊥)
    (hy : ∀ a, L a → y (φ a) = ((x a : ℝ) : EReal)) (hy' : ∀ b, ¬ L' b → y b = ⊥) (a₀ : α) (h₀ : L a₀)
    (V : α → EReal) (W : β → EReal) (hV : ∀ a, L a → V a = W (φ a)) :
    Ideal.div (∑ a, Ideal.exp2 (S a - Finset.univ.sup S) * V a) (∑ a, Ideal.exp2 (S a - Finset.univ.sup S))
      = ∑ b, Ideal.div (Ideal.exp (y b - Finset.univ.sup y)) (∑ b, Ideal.exp (y b - Finset.univ.sup y)) * W b := by
  classical
  obtain ⟨a₁, hL₁, hmax⟩ := Finset.exists_max_image (Finset.univ.filter L) x ⟨a₀, Finset.mem_filter.2 ⟨Finset.mem_univ _, h₀⟩⟩
  have hL₁ : L a₁ := (Finset.mem_filter.1 hL₁).2
  have hmax : ∀ a, L a → x a ≤ x a₁ := fun a ha => hmax a (Finset.mem_filter.2 ⟨Finset.mem_univ _, ha⟩)
  have hsS : Finset.univ.sup S = ((c * x a₁ : ℝ) : EReal) := by
    refine le_antisymm (Finset.sup_le fun a _ => ?_) (hS a₁ hL₁ ▸ Finset.le_sup (Finset.mem_univ a₁))
    by_cases ha : L a
    · rw [hS a ha]; exact EReal.coe_le_coe_iff.2 (mul_le_mul_of_nonneg_left (hmax a ha) hc.le)
    · rw [hS' a ha]; exact bot_le
  have hyψ : ∀ b, L' b → y b = ((x (ψ b) : ℝ) : EReal) := fun b hb => by
    have := hy (ψ b) (hψ b hb); rwa [h2 b hb] at this
  have hsy : Finset.univ.sup y = ((x a₁ : ℝ) : EReal) := by
    refine le_antisymm (Finset.sup_le fun b _ => ?_) (hy a₁ hL₁ ▸ Finset.le_sup (Finset.mem_univ (φ a₁)))
    by_cases hb : L' b
    · rw [hyψ b hb]; exact EReal.coe_le_coe_iff.2 (hmax _ (hψ b hb))
    · rw [hy' b hb]; exact bot_le
  have hw : ∀ a, Ideal.exp2 (S a - Finset.univ.sup S) = (((if L a then Real.exp (x a - x a₁) else 0) : ℝ) : EReal) := fun a => by
    rw [hsS]
    by_cases ha : L a
    · rw [hS a ha, if_pos ha, ← EReal.coe_sub, Ideal.exp2_coe, Real.rpow_eq_pow, Real.rpow_def_of_pos (by norm_num : (0 : ℝ) < 2)]
      congr 2
      linear_combination (x a - x a₁) * hc2
    · rw [hS' a ha, if_neg ha]; simp
  have hw' : ∀ b, Ideal.exp (y b - Finset.univ.sup y) = (((if L' b then Real.exp (x (ψ b) - x a₁) else 0) : ℝ) : EReal) := fun b => by
    rw [hsy]
    by_cases hb : L' b
    · rw [hyψ b hb, if_pos hb, ← EReal.coe_sub, Ideal.exp_coe]
    · rw [hy' b hb, if_neg hb]; simp
  simp only [hw, hw']
  have hD : ∑ a, (((if L a then Real.exp (x a - x a₁) else 0) : ℝ) : EReal)
      = ∑ b, (((if L' b then Real.exp (x (ψ b) - x a₁) else 0) : ℝ) : EReal) :=
    sum_live L L' φ ψ hφ hψ h1 h2 _ _ (fun a ha => by rw [if_neg ha]; rfl) (fun b hb => by rw [if_neg hb]; rfl)
      (fun a ha => by rw [if_pos ha, if_pos (hφ a ha), h1 a ha])
  rw [hD, sum_real]
  have hd : 0 < ∑ b, (if L' b then Real.exp (x (ψ b) - x a₁) else 0 : ℝ) :=
    Finset.sum_pos' (fun b _ => by split_ifs <;> positivity)
      ⟨φ a₁, Finset.mem_univ _, by rw [if_pos (hφ a₁ hL₁)]; positivity⟩
  rw [div_real _ _ hd.ne', sum_live L L' φ ψ hφ hψ h1 h2 _
    (fun b => (((if L' b then Real.exp (x (ψ b) - x a₁) else 0) : ℝ) : EReal) * W b)
    (fun a ha => by rw [if_neg ha]; simp) (fun b hb => by rw [if_neg hb]; simp)
    (fun a ha => by rw [if_pos ha, if_pos (hφ a ha), h1 a ha, hV a ha]),
    sum_mul_real _ _ _ (inv_nonneg.2 hd.le)]
  refine Finset.sum_congr rfl fun b _ => ?_
  rw [div_real _ _ hd.ne', mul_right_comm]

end Cert.Attn
end
end
-- ==== Proof.Bucket.lean ====
module
public import proofs.«01_k».proof.Proof.RefReads
public import proofs.«01_k».proof.Proof.Softmax
@[expose] public section
set_option maxRecDepth 16384
noncomputable section
open Idealize.ShloMosaic Idealize.ShloMosaic.TcCoe Idealize.SL.Sem
namespace Cert.Attn

/-! ## The bucket of a distance -/

/-- How many of the logarithmic steps above 16 a distance has passed: the powers of 8 that `(d / 16) ^ 16` reaches. -/
def steps (d : ℕ) : ℕ := (List.range 15).countP fun k => decide (8 ^ (k + 1) * 16 ^ 16 ≤ d ^ 16)

/-- The bucket of a distance below the window's length: itself up to 16, logarithmic above. -/
def bucket (d : ℕ) : ℕ := if d < 16 then d else 16 + steps d

theorem bucket_lt : ∀ d : Fin 128, bucket d.val < 32 := by decide +kernel

theorem steps_le : ∀ d : Fin 128, steps d.val < 16 := by decide +kernel

/-- The step a distance has passed is passed with room to spare, and the next one is not reached. -/
theorem steps_room : ∀ d : Fin 128, 16 ≤ d.val → d.val ^ 16 < 8 ^ (steps d.val + 1) * 16 ^ 16
    ∧ (steps d.val = 0 ∨ 16 ^ 16 * 8 ^ steps d.val * 1000001 ≤ d.val ^ 16 * 1000000) := by decide +kernel

/-- The rounded logarithm of 8 lies just above three times the logarithm of 2. -/
theorem log8_gt : 3 * Real.log 2 < 8721810 / 4194304 := by
  have h : (2 : ℝ) < Real.exp (8721810 / 4194304 / 3) := by
    refine lt_of_lt_of_le ?_ (Real.sum_le_exp_of_nonneg (by norm_num) 14)
    norm_num [Finset.sum_range_succ, Nat.factorial]
  have := (Real.log_lt_iff_lt_exp (by norm_num)).mpr h
  linarith
theorem log8_lt : (8721810 / 4194304 : ℝ) < 3 * Real.log 2 + 6 / 100000000 := by
  have h : Real.exp (8721810 / 4194304 / 3 - 2 / 100000000) < 2 := by
    refine lt_of_le_of_lt (Real.exp_bound' (by norm_num) (by norm_num) (n := 14) (by norm_num)) ?_
    norm_num [Finset.sum_range_succ, Nat.factorial]
  have := (Real.lt_log_iff_exp_lt (by norm_num)).mpr h
  linarith

/-- The number of steps is the integer part of the scaled logarithm. -/
theorem floor_steps (d k : ℕ) (hd : 16 ≤ d) (hk : k < 16) (h1 : d ^ 16 < 8 ^ (k + 1) * 16 ^ 16)
    (h2 : k = 0 ∨ 16 ^ 16 * 8 ^ k * 1000001 ≤ d ^ 16 * 1000000) :
    ⌊Real.log ((d : ℝ) / 16) / (8721810 / 4194304) * 16⌋ = (k : ℤ) := by
  have hL : (0 : ℝ) < 8721810 / 4194304 := by norm_num
  have hd' : (16 : ℝ) ≤ d := by exact_mod_cast hd
  have hpos : (0 : ℝ) < (d : ℝ) / 16 := by positivity
  have e : Real.log ((d : ℝ) / 16) / (8721810 / 4194304) * 16 = Real.log (((d : ℝ) / 16) ^ 16) / (8721810 / 4194304) := by
    rw [Real.log_pow]; push_cast; ring
  have l8 : ∀ n : ℕ, Real.log ((8 : ℝ) ^ n) = n * (3 * Real.log 2) := fun n => by
    rw [Real.log_pow, show (8 : ℝ) = 2 ^ 3 by norm_num, Real.log_pow]; push_cast; ring
  have g := log8_gt
  have g' := log8_lt
  have hk' : (k : ℝ) ≤ 15 := by exact_mod_cast Nat.le_of_lt_succ hk
  have hk0 : (0 : ℝ) ≤ k := Nat.cast_nonneg k
  rw [e, Int.floor_eq_iff]
  constructor
  · rw [le_div_iff₀ hL]
    push_cast
    rcases h2 with rfl | h2
    · rw [Nat.cast_zero, zero_mul]
      exact Real.log_nonneg (one_le_pow₀ (by rw [le_div_iff₀ (by norm_num)]; linarith))
    · have h2' : (16 : ℝ) ^ 16 * 8 ^ k * 1000001 ≤ (d : ℝ) ^ 16 * 1000000 := by exact_mod_cast h2
      have hq : (8 : ℝ) ^ k * (1000001 / 1000000) ≤ ((d : ℝ) / 16) ^ 16 := by
        rw [div_pow, le_div_iff₀ (by positivity)]
        linarith
      have hlog := Real.log_le_log (by positivity) hq
      rw [Real.log_mul (by positivity) (by norm_num), l8] at hlog
      have hr := Real.one_sub_inv_le_log_of_pos (show (0 : ℝ) < 1000001 / 1000000 by norm_num)
      norm_num at hr
      have hm : (k : ℝ) * (8721810 / 4194304) ≤ k * (3 * Real.log 2) + k * (6 / 100000000) := by nlinarith
      have hs : (k : ℝ) * (6 / 100000000) ≤ 15 * (6 / 100000000) := by nlinarith
      norm_num at hlog hm hs ⊢
      linarith
  · rw [div_lt_iff₀ hL]
    have h1' : (d : ℝ) ^ 16 < 8 ^ (k + 1) * 16 ^ 16 := by exact_mod_cast h1
    have hq : ((d : ℝ) / 16) ^ 16 < (8 : ℝ) ^ (k + 1) := by
      rw [div_pow, div_lt_iff₀ (by positivity)]
      exact h1'
    have hlog := Real.log_lt_log (by positivity) hq
    rw [l8] at hlog
    push_cast at hlog ⊢
    nlinarith
end Cert.Attn

namespace Cert.ReferenceIdeal.Attn
open Cert.ReferenceIdeal Cert.ReferenceIdeal.Gen Cert.ReferenceIdeal.Value Cert.Attn

/-- The bucket as words: from the distance and the integer part of its scaled logarithm. -/
def wordBucket (w X : BitVec 32) : BitVec 32 :=
  Scalar.select (IntOp.cmpi .slt (IntOp.maxsi w 0#32) 16#32) (IntOp.maxsi w 0#32) (IntOp.minsi (IntOp.addi 16#32 X) 31#32)

/-- The bucket wrapped as a table index. -/
def wrap (w : BitVec 32) : BitVec 32 := Scalar.select (IntOp.cmpi .slt w 0#32) (IntOp.addi w 32#32) w

theorem word_small (d : Fin 128) (h : d.val < 16) (X : BitVec 32) : wrap (wordBucket (BitVec.ofNat 32 d.val) X) = BitVec.ofNat 32 d.val := by
  have h1 : ∀ d : Fin 128, d.val < 16 → IntOp.cmpi .slt (IntOp.maxsi (BitVec.ofNat 32 d.val) 0#32) 16#32 = 1#1
      ∧ wrap (IntOp.maxsi (BitVec.ofNat 32 d.val) 0#32) = BitVec.ofNat 32 d.val := by decide +kernel
  unfold wordBucket
  rw [(h1 d h).1]
  exact (h1 d h).2

theorem word_large : ∀ (d : Fin 128) (k : Fin 16), 16 ≤ d.val → wrap (wordBucket (BitVec.ofNat 32 d.val) (BitVec.ofNat 32 k.val)) = BitVec.ofNat 32 (16 + k.val) := by
  decide +kernel

theorem word_pos : ∀ d : Fin 128, 16 ≤ d.val → (IntOp.maxsi (IntOp.maxsi (BitVec.ofNat 32 d.val) 0#32) 1#32).toInt = (d.val : ℤ) := by decide +kernel

theorem lit16 : Ideal.ofBits .f32 1098907648#32 = ((16 : ℝ) : EReal) := by
  simp [Ideal.ofBits, Ideal.ieee, -EReal.coe_mul]; norm_num
theorem litLog8 : Ideal.ofBits .f32 1074075026#32 = ((8721810 / 4194304 : ℝ) : EReal) := by
  simp [Ideal.ofBits, Ideal.ieee, -EReal.coe_mul]; norm_num

/-- The integer part of the scaled logarithm, as the reference computes it. -/
theorem word_steps (d : Fin 128) (h : 16 ≤ d.val) :
    Ideal.fptosi 32 (Ideal.div (Ideal.log (Ideal.div (FloatOps.sitofp (F := Ideal) .f32 (IntOp.maxsi (IntOp.maxsi (BitVec.ofNat 32 d.val) 0#32) 1#32))
      (Ideal.ofBits .f32 1098907648#32))) (Ideal.ofBits .f32 1074075026#32) * Ideal.ofBits .f32 1098907648#32) = BitVec.ofNat 32 (steps d.val) := by
  have hi : FloatOps.sitofp (F := Ideal) .f32 (IntOp.maxsi (IntOp.maxsi (BitVec.ofNat 32 d.val) 0#32) 1#32) = ((d.val : ℝ) : EReal) := by
    show (((IntOp.maxsi (IntOp.maxsi (BitVec.ofNat 32 d.val) 0#32) 1#32).toInt : ℝ) : EReal) = _
    rw [word_pos d h]; simp
  have hd' : (16 : ℝ) ≤ d.val := by exact_mod_cast h
  have hpos : ¬ ((d.val : ℝ) / 16 ≤ 0) := not_le.mpr (by positivity)
  have dr : ∀ x y : ℝ, y ≠ 0 → Ideal.div (x : EReal) (y : EReal) = ((x / y : ℝ) : EReal) := fun x y hy => by
    rw [div_real _ _ hy, ← EReal.coe_mul, div_eq_mul_inv]
  rw [hi, lit16, litLog8, dr _ _ (by norm_num), Ideal.log_coe, if_neg hpos, dr _ _ (by norm_num), ← EReal.coe_mul]
  have hr := steps_room d h
  have hf := floor_steps d.val (steps d.val) h (steps_le d) hr.1 hr.2
  have hs := steps_le d
  have h0 : (0 : ℝ) ≤ Real.log ((d.val : ℝ) / 16) / (8721810 / 4194304) * 16 := by
    have := Real.log_nonneg (show (1 : ℝ) ≤ (d.val : ℝ) / 16 by rw [le_div_iff₀ (by norm_num)]; linarith)
    positivity
  show BitVec.ofInt 32 (max (-(2 ^ 31 : ℕ)) (min ((2 ^ 31 : ℕ) - 1) (if 0 ≤ Real.log ((d.val : ℝ) / 16) / (8721810 / 4194304) * 16 then
    ⌊Real.log ((d.val : ℝ) / 16) / (8721810 / 4194304) * 16⌋ else _))) = _
  rw [if_pos h0, hf]
  have e : max (-((2 ^ 31 : ℕ) : ℤ)) (min (((2 ^ 31 : ℕ) : ℤ) - 1) (steps d.val : ℤ)) = (steps d.val : ℤ) := by
    rw [min_eq_right (by omega), max_eq_right (by omega)]
  rw [e]
  rfl

/-- The table index of a pair of positions inside the window is the bucket of their distance. -/
theorem refIndex_at (t s : Fin 4096) (d : Fin 128) (h : t.val = s.val + d.val) : refIndex (ix2 t s) = BitVec.ofNat 32 (bucket d.val) := by
  have hw : IntOp.subi (BitVec.ofNat 32 t.val) (BitVec.ofNat 32 s.val) = BitVec.ofNat 32 d.val := by
    have ht := t.isLt
    have hs := s.isLt
    apply BitVec.eq_of_toNat_eq
    simp only [IntOp.subi, BitVec.toNat_sub, BitVec.toNat_ofNat]
    omega
  pointwise [refIndex, refBucket, refPos, refDist]
  rw [hw]
  change wrap (wordBucket (BitVec.ofNat 32 d.val) (Ideal.fptosi 32 _)) = _
  by_cases h16 : d.val < 16
  · rw [word_small d h16]
    unfold bucket
    rw [if_pos h16]
  · have h16' : 16 ≤ d.val := Nat.le_of_not_lt h16
    rw [word_steps d h16', word_large d ⟨steps d.val, steps_le d⟩ h16']
    unfold bucket
    rw [if_neg h16]
end Cert.ReferenceIdeal.Attn
end
end
-- ==== Proof.HostReads.lean ====
module
public import proofs.«01_k».proof.Proof.Host
public import proofs.«01_k».proof.Proof.Bucket
public import Idealize.ShloMosaic.Lib.Routing.OpsSet
public import Idealize.ShloMosaic.Lib.Routing.OpsPair
@[expose] public section
set_option maxRecDepth 16384
noncomputable section
open Idealize.ShloMosaic Idealize.ShloMosaic.TcCoe Idealize.SL.Sem
namespace Cert.KernelIdeal.Attn
open Cert.KernelIdeal Cert.KernelIdeal.Gen Cert.Attn

/-- A packed query lane. -/
theorem packed_q (q : FVec Ideal S4x8x4096x64 .f32) (k v : FVec Ideal S4x2x4096x64 .f32) (p b : Fin 4) (t : Fin 4096) (x : Fin 128) :
    packed q k v (ix4 ⟨p.val, by omega⟩ b t x) = q (ix4 b ⟨x.val / 64 * 4 + p.val, by omega⟩ t ⟨x.val % 64, by omega⟩) := by
  pointwise [packed]
/-- A packed key lane. -/
theorem packed_k (q : FVec Ideal S4x8x4096x64 .f32) (k v : FVec Ideal S4x2x4096x64 .f32) (b : Fin 4) (t : Fin 4096) (x : Fin 128) :
    packed q k v (ix4 4 b t x) = k (ix4 b ⟨x.val / 64, by omega⟩ t ⟨x.val % 64, by omega⟩) := by
  pointwise [packed]
/-- A packed value lane. -/
theorem packed_v (q : FVec Ideal S4x8x4096x64 .f32) (k v : FVec Ideal S4x2x4096x64 .f32) (b : Fin 4) (t : Fin 4096) (x : Fin 128) :
    packed q k v (ix4 5 b t x) = v (ix4 b ⟨x.val / 64, by omega⟩ t ⟨x.val % 64, by omega⟩) := by
  pointwise [packed]

/-- The distance as a word. -/
theorem dist_word (r : Fin 256) (j : Fin 384) (d : Fin 128) (h : 128 + r.val = j.val + d.val) :
    hostDist (ix2 r j) = BitVec.ofNat 32 d.val := by
  pointwise [hostDist]
  have hr := r.isLt
  have hj := j.isLt
  apply BitVec.eq_of_toNat_eq
  simp only [IntOp.subi, IntOp.addi, BitVec.toNat_sub, BitVec.toNat_add, BitVec.toNat_ofNat]
  omega

theorem near_at (r : Fin 256) (j : Fin 384) : hostNear (ix2 r j) = if j.val ≤ 128 + r.val ∧ r.val < j.val then 1#1 else 0#1 := by
  pointwise [hostNear, hostDist]
  word_cmp
  have hr := r.isLt
  have hj := j.isLt
  have e : (IntOp.subi (IntOp.addi 128#32 (BitVec.ofNat 32 r.val)) (BitVec.ofNat 32 j.val)).toNat < 128 ↔ j.val ≤ 128 + r.val ∧ r.val < j.val := by
    simp only [IntOp.subi, IntOp.addi, BitVec.toNat_sub, BitVec.toNat_add, BitVec.toNat_ofNat]
    omega
  by_cases h : j.val ≤ 128 + r.val ∧ r.val < j.val
  · rw [if_pos h, decide_eq_true (e.mpr h)]; rfl
  · rw [if_neg h, decide_eq_false (fun q => h (e.mp q))]; rfl

theorem at_word : ∀ d : Fin 128, Scalar.select (IntOp.cmpi .slt (IntOp.minsi 127#32 (IntOp.maxsi 0#32 (BitVec.ofNat 32 d.val))) 0#32)
    (IntOp.addi (IntOp.minsi 127#32 (IntOp.maxsi 0#32 (BitVec.ofNat 32 d.val))) 128#32) (IntOp.minsi 127#32 (IntOp.maxsi 0#32 (BitVec.ofNat 32 d.val))) = BitVec.ofNat 32 d.val := by
  decide +kernel

theorem hostAt_at (r : Fin 256) (j : Fin 384) (d : Fin 128) (h : 128 + r.val = j.val + d.val) : hostAt (ix2 r j) = BitVec.ofNat 32 d.val := by
  pointwise [hostAt, hostClip]
  rw [dist_word r j d h]
  exact at_word d

theorem hostBuckets_at : ∀ d : Fin 128, hostBuckets (ix1 d) = BitVec.ofNat 32 (bucket d.val) := by
  decide +kernel

/-- The bias table's lookup by bucket. -/
theorem lookup1 {α : Type} (x : S8x32.Idx → α) (idx : IVec S128x1 32) (h : Fin 8) (d : Fin 128) (n : Fin 32) (hn : idx (ix2 d 0) = BitVec.ofNat 32 n.val) :
    Host.gather gather_S8x32_S128x1_S8x128_0_1_n_n_1_1_81 x idx (ix2 h d) = x (ix2 h n) := by
  unfold Host.gather
  refine congrArg x (funext fun a => Fin.ext ?_)
  match a with
  | ⟨0, _⟩ =>
    show 0 + 0 + h.val = h.val
    omega
  | ⟨1, _⟩ =>
    have hs : (gather_S8x32_S128x1_S8x128_0_1_n_n_1_1_81).start (ix2 h d) idx 1 = min (idx (ix2 d 0)).toInt.toNat 31 := by
      refine congrArg (fun i => min (idx i).toInt.toNat 31) (funext fun b => Fin.ext ?_)
      match b with
      | ⟨0, _⟩ => rfl
      | ⟨1, _⟩ => rfl
    show (gather_S8x32_S128x1_S8x128_0_1_n_n_1_1_81).start (ix2 h d) idx 1 + 0 + 0 = n.val
    rw [hs, hn]
    exact (by decide +kernel : ∀ n : Fin 32, min (BitVec.ofNat 32 n.val).toInt.toNat 31 + 0 + 0 = n.val) n

/-- The lookup by distance. -/
theorem lookup2 {α : Type} (x : S8x128.Idx → α) (idx : IVec S256x384x1 32) (h : Fin 8) (r : Fin 256) (j : Fin 384) (n : Fin 128)
    (hn : idx (ix3 r j 0) = BitVec.ofNat 32 n.val) :
    Host.gather gather_S8x128_S256x384x1_S8x256x384_0_1_n_n_1_2_81 x idx (ix3 h r j) = x (ix2 h n) := by
  unfold Host.gather
  refine congrArg x (funext fun a => Fin.ext ?_)
  match a with
  | ⟨0, _⟩ =>
    show 0 + 0 + h.val = h.val
    omega
  | ⟨1, _⟩ =>
    have hs : (gather_S8x128_S256x384x1_S8x256x384_0_1_n_n_1_2_81).start (ix3 h r j) idx 1 = min (idx (ix3 r j 0)).toInt.toNat 127 := by
      refine congrArg (fun i => min (idx i).toInt.toNat 127) (funext fun b => Fin.ext ?_)
      match b with
      | ⟨0, _⟩ => rfl
      | ⟨1, _⟩ => rfl
      | ⟨2, _⟩ => rfl
    show (gather_S8x128_S256x384x1_S8x256x384_0_1_n_n_1_2_81).start (ix3 h r j) idx 1 + 0 + 0 = n.val
    rw [hs, hn]
    exact (by decide +kernel : ∀ n : Fin 128, min (BitVec.ofNat 32 n.val).toInt.toNat 127 + 0 + 0 = n.val) n

/-- The bias of a head at a distance. -/
theorem byDist_at (rb : FVec Ideal S32x16 .f32) (h : Fin 8) (d : Fin 128) : hostByDist rb (ix2 h d) = rb (ix2 ⟨bucket d.val, bucket_lt d⟩ ⟨8 + h.val, by omega⟩) := by
  unfold hostByDist
  rw [lookup1 _ _ h d ⟨bucket d.val, bucket_lt d⟩ (by pointwise; exact hostBuckets_at d)]
  pointwise

/-- The table at a row and a column: the bias of their distance inside the window, bottom outside. -/
theorem table_near (rb : FVec Ideal S32x16 .f32) (h : Fin 8) (r : Fin 256) (j : Fin 384) (d : Fin 128) (hd : 128 + r.val = j.val + d.val) :
    hostTable rb (ix3 h r j) = rb (ix2 ⟨bucket d.val, bucket_lt d⟩ ⟨8 + h.val, by omega⟩) := by
  pointwise [hostTable]
  rw [near_at, if_pos (by omega), lookup2 _ _ h r j d (by pointwise; exact hostAt_at r j d hd), byDist_at]
  rfl
theorem table_far (rb : FVec Ideal S32x16 .f32) (h : Fin 8) (r : Fin 256) (j : Fin 384) (hd : ¬ (j.val ≤ 128 + r.val ∧ r.val < j.val)) :
    hostTable rb (ix3 h r j) = (⊥ : EReal) := by
  pointwise [hostTable]
  rw [near_at, if_neg hd]
  show Ideal.ofBits .f32 0xFF800000#32 = ⊥
  simp [Ideal.ofBits, Ideal.ieee]

/-- Where the sinks are written: column 0. -/
theorem lands (h' h : Fin 8) (r' r : Fin 256) (j : Fin 384) (idx : IVec S1 32) (hidx : idx (ix1 0) = 0#32) :
    (scatter_S8x256x384_S1_S8x256_01_2_2_0).resultIdx? (ix2 h' r') idx = some (ix3 h r j) ↔ h' = h ∧ r' = r ∧ j.val = 0 := by
  rw [Routing.resultIdx?_eq_some]
  have s0 : (scatter_S8x256x384_S1_S8x256_01_2_2_0).start (ix2 h' r') idx 0 = 0 := rfl
  have s1 : (scatter_S8x256x384_S1_S8x256_01_2_2_0).start (ix2 h' r') idx 1 = 0 := rfl
  have s2 : (scatter_S8x256x384_S1_S8x256_01_2_2_0).start (ix2 h' r') idx 2 = 0 := by
    have e : (scatter_S8x256x384_S1_S8x256_01_2_2_0).start (ix2 h' r') idx 2 = (idx (ix1 0)).toInt := by
      refine congrArg (fun i => (idx i).toInt) (funext fun b => Fin.ext ?_)
      match b with
      | ⟨0, _⟩ => rfl
    rw [e, hidx]; rfl
  have w0 : (scatter_S8x256x384_S1_S8x256_01_2_2_0).window (ix2 h' r') 0 = h'.val := rfl
  have w1 : (scatter_S8x256x384_S1_S8x256_01_2_2_0).window (ix2 h' r') 1 = r'.val := rfl
  have w2 : (scatter_S8x256x384_S1_S8x256_01_2_2_0).window (ix2 h' r') 2 = 0 := rfl
  constructor
  · intro q
    have q0 : (0 : ℤ) + (h'.val : ℤ) = (h.val : ℤ) := by have := q 0; rwa [s0, w0] at this
    have q1 : (0 : ℤ) + (r'.val : ℤ) = (r.val : ℤ) := by have := q 1; rwa [s1, w1] at this
    have q2 : (0 : ℤ) + ((0 : ℕ) : ℤ) = (j.val : ℤ) := by have := q 2; rwa [s2, w2] at this
    exact ⟨Fin.ext (by omega), Fin.ext (by omega), by omega⟩
  · rintro ⟨rfl, rfl, hj⟩ a
    match a with
    | ⟨0, _⟩ => exact (congrArg₂ (fun x y => x + (y : ℤ)) s0 (congrArg (Nat.cast (R := ℤ)) w0)).trans (zero_add _)
    | ⟨1, _⟩ => exact (congrArg₂ (fun x y => x + (y : ℤ)) s1 (congrArg (Nat.cast (R := ℤ)) w1)).trans (zero_add _)
    | ⟨2, _⟩ =>
      refine (congrArg₂ (fun x y => x + (y : ℤ)) s2 (congrArg (Nat.cast (R := ℤ)) w2)).trans ?_
      show (0 : ℤ) + ((0 : ℕ) : ℤ) = (j.val : ℤ)
      omega

/-- The bias operand: the head's sink in column 0, the table elsewhere. -/
theorem bias_at (rb : FVec Ideal S32x16 .f32) (sk : FVec Ideal S8 .f32) (h : Fin 8) (r : Fin 256) (j : Fin 384) :
    hostBias rb sk (ix3 h r j) = if j.val = 0 then sk (ix1 h) else hostTable rb (ix3 h r j) := by
  have hidx : (broadcastInDim S1 ![] bcast_S_S1 (constantI S_ 32 0#32)) (ix1 0) = 0#32 := rfl
  unfold hostBias
  have eta : ∀ i : S8x256.Idx, i = ix2 (⟨(i 0).val, (i 0).isLt⟩ : Fin 8) (⟨(i 1).val, (i 1).isLt⟩ : Fin 256) := fun i => by
    funext a
    match a with
    | ⟨0, _⟩ => rfl
    | ⟨1, _⟩ => rfl
  by_cases hj : j.val = 0
  · rw [if_pos hj]
    refine Routing.scatter_set_hit _ _ _ _ _ _ (fun i hi => ?_) (ix2 h r) ((lands h h r r j _ hidx).mpr ⟨rfl, rfl, hj⟩)
    rw [eta i] at hi ⊢
    obtain ⟨e, -, -⟩ := (lands _ h _ r j _ hidx).mp hi
    pointwise
    exact congrArg (fun x => sk (ix1 x)) e
  · rw [if_neg hj]
    refine Routing.scatter_set_miss _ _ _ _ _ fun i hi => hj ?_
    rw [eta i] at hi
    exact ((lands _ h _ r j _ hidx).mp hi).2.2
end Cert.KernelIdeal.Attn
end
end
-- ==== Proof.Payload.lean ====
module
public import proofs.«01_k».proof.Proof.Gen.KernelIdeal.Skeleton
public import Idealize.ShloMosaic.Lib.Pointwise
public import Idealize.ShloMosaic.Lib.WordCmp
@[expose] public section
set_option maxRecDepth 16384
noncomputable section
open Idealize.ShloMosaic Idealize.ShloMosaic.TcCoe Idealize.SL.Sem
namespace Cert.KernelIdeal.Attn
open Cert.KernelIdeal Cert.KernelIdeal.Gen

/-! ## The lane masks -/

/-- The lanes the first group of heads owns. -/
theorem mask0 : ∀ l : Fin 128, k0_pay10 (ix2 0 l) = if l.val < 64 then 1#1 else 0#1 := by
  decide +kernel
/-- The lanes the second group owns. -/
theorem mask1 : ∀ l : Fin 128, k0_pay17 k0_pay16 1#32 (ix2 0 l) = if l.val < 64 then 0#1 else 1#1 := by
  decide +kernel
/-- The lanes the merge takes from the first group. -/
theorem mask2 : ∀ l : Fin 128, k0_pay25 (iota .tc S1x128 32 [1] iota_S1x128_d1_w32) k0_pay22 k0_pay23 k0_pay24 (ix2 0 l)
    = if l.val < 64 then 1#1 else 0#1 := by
  decide +kernel

/-! ## The scores -/

/-- The row of the stacked queries that holds row `r` of head `p` of a group. -/
abbrev row (p : Fin 4) (r : Fin 256) : Fin 1024 := ⟨p.val * 256 + r.val, by omega⟩

/-- One score: the query's own lanes against a key, scaled, plus the bias scaled, plus the penalty. -/
def score (mk : Fin 128 → BitVec 1) (q k : Fin 128 → EReal) (bias pen : EReal) : EReal :=
  (∑ x, Scalar.select (mk x) (q x) 0 * k x) * Named.named (F := Ideal) (φ := .f32) κ "scale_log2e" 0x3E38AA3B#32
    + bias * Named.named (F := Ideal) (φ := .f32) κ "log2e" 0x3FB8AA3B#32 + pen

/-- The stacked queries at row `r` of head `p` are head `p`'s at row `r`. -/
theorem stacked (f : Vec Ideal S1x1x256x128 .bf16 → Fin 256 → EReal) (q0 q1 q2 q3 : Vec Ideal S1x1x256x128 .bf16) (p : Fin 4) (r : Fin 256) :
    (if h : p.val * 256 + r.val < 256 then f q0 ⟨p.val * 256 + r.val, h⟩
      else if h : p.val * 256 + r.val - 256 < 256 then f q1 ⟨p.val * 256 + r.val - 256, h⟩
      else if h : p.val * 256 + r.val - 256 - 256 < 256 then f q2 ⟨p.val * 256 + r.val - 256 - 256, h⟩
      else f q3 ⟨p.val * 256 + r.val - 256 - 256 - 256, by omega⟩) = f (![q0, q1, q2, q3] p) r := by
  have hr := r.isLt
  obtain ⟨p, hp⟩ := p
  obtain rfl | rfl | rfl | rfl : p = 0 ∨ p = 1 ∨ p = 2 ∨ p = 3 := by omega
  · rw [dif_pos (by dsimp only; omega)]
    exact congrArg (f q0) (Fin.ext (by dsimp only; omega))
  · rw [dif_neg (by dsimp only; omega), dif_pos (by dsimp only; omega)]
    exact congrArg (f q1) (Fin.ext (by dsimp only; omega))
  · rw [dif_neg (by dsimp only; omega), dif_neg (by dsimp only; omega), dif_pos (by dsimp only; omega)]
    exact congrArg (f q2) (Fin.ext (by dsimp only; omega))
  · rw [dif_neg (by dsimp only; omega), dif_neg (by dsimp only; omega), dif_neg (by dsimp only; omega)]
    exact congrArg (f q3) (Fin.ext (by dsimp only; omega))

/-- The bias at a stacked row is the head's bias at its row. -/
theorem biasRow (bias : Vec Ideal S4x256x384 .f32) (p : Fin 4) (r : Fin 256) (j : Fin 384) :
    bias (ix3 ⟨(p.val * 256 + r.val) / 256, by omega⟩ ⟨(p.val * 256 + r.val) % 256, by omega⟩ j) = bias (ix3 p r j) := by
  congr 2
  · exact Fin.ext (by dsimp only; omega)
  · exact Fin.ext (by dsimp only; omega)

/-- The scores of the first group. -/
theorem score0 (kc : FVec Ideal S384x128 .bf16) (pen : FVec Ideal S1x384 .f32) (mk : IVec S1x128 1)
    (q0 q1 q2 q3 : Vec Ideal S1x1x256x128 .bf16) (bias : Vec Ideal S4x256x384 .f32) (p : Fin 4) (r : Fin 256) (j : Fin 384) :
    k0_pay13 kc pen mk (k0_pay11 q0) k0_pay12 q1 q2 q3 bias (ix2 (row p r) j)
      = score (fun x => mk (ix2 0 x)) (fun x => (![q0, q1, q2, q3] p) (ix4 0 0 r x)) (fun x => kc (ix2 j x))
          (bias (ix3 p r j)) (pen (ix2 0 j)) := by
  pointwise [k0_pay13, k0_pay11, k0_pay12]
  rw [biasRow bias p r j]
  unfold score
  refine congrArg (· * _ + _ + _) (Finset.sum_congr rfl fun x _ => congrArg (· * _) ?_)
  exact stacked (fun q r' => Scalar.select (mk (ix2 0 x)) (q (ix4 0 0 r' x)) 0) q0 q1 q2 q3 p r

/-- The scores of the second group. -/
theorem score1 (kc : FVec Ideal S384x128 .bf16) (pen : FVec Ideal S1x384 .f32) (v156 : IVec S1x128 32) (c1 : BitVec 32)
    (q0 q1 q2 q3 : Vec Ideal S1x1x256x128 .bf16) (bias : Vec Ideal S4x256x384 .f32) (p : Fin 4) (r : Fin 256) (j : Fin 384) :
    k0_pay18 kc v156 c1 q0 q1 q2 q3 (ix2 (row p r) j) + k0_pay19 bias (ix2 (row p r) j) * k0_pay20 (ix2 (row p r) j) + pen (ix2 0 j)
      = score (fun x => k0_pay17 v156 c1 (ix2 0 x)) (fun x => (![q0, q1, q2, q3] p) (ix4 0 0 r x)) (fun x => kc (ix2 j x))
          (bias (ix3 p r j)) (pen (ix2 0 j)) := by
  pointwise [k0_pay18, k0_pay19, k0_pay20]
  rw [biasRow bias p r j]
  unfold score
  refine congrArg (· * _ + _ + _) (Finset.sum_congr rfl fun x _ => congrArg (· * _) ?_)
  exact stacked (fun q r' => Scalar.select (k0_pay17 v156 c1 (ix2 0 x)) (q (ix4 0 0 r' x)) 0) q0 q1 q2 q3 p r

/-! ## The row maximum and the group's output -/

/-- The running maximum over the three lane chunks, then over the lanes, is the maximum of the row. -/
theorem rowMax (s : Fin 384 → EReal) :
    Finset.univ.fold max (Ideal.ofBits .f32 0xFF800000#32)
      (fun x : Fin 128 => max (max (s ⟨x.val, by omega⟩) (s ⟨128 + x.val, by omega⟩)) (s ⟨256 + x.val, by omega⟩))
      = Finset.univ.sup s := by
  have h0 : Ideal.ofBits .f32 0xFF800000#32 = (⊥ : EReal) := by simp [Ideal.ofBits, Ideal.ieee]
  rw [h0]
  change Finset.univ.sup _ = _
  refine le_antisymm (Finset.sup_le fun x _ => ?_) (Finset.sup_le fun j _ => ?_)
  · exact max_le (max_le (Finset.le_sup (Finset.mem_univ _)) (Finset.le_sup (Finset.mem_univ _))) (Finset.le_sup (Finset.mem_univ _))
  · have hj := j.isLt
    rcases Nat.lt_or_ge j.val 128 with h | h
    · exact le_trans (le_trans (le_max_left _ _) (le_max_left _ _))
        (Finset.le_sup (f := fun x : Fin 128 => max (max (s ⟨x.val, by omega⟩) (s ⟨128 + x.val, by omega⟩)) (s ⟨256 + x.val, by omega⟩)) (Finset.mem_univ ⟨j.val, h⟩))
    · rcases Nat.lt_or_ge j.val 256 with h' | h'
      · have e : j = ⟨128 + (⟨j.val - 128, by omega⟩ : Fin 128).val, by dsimp only; omega⟩ := Fin.ext (by dsimp only; omega)
        refine le_trans ?_ (Finset.le_sup (f := fun x : Fin 128 => max (max (s ⟨x.val, by omega⟩) (s ⟨128 + x.val, by omega⟩)) (s ⟨256 + x.val, by omega⟩)) (Finset.mem_univ ⟨j.val - 128, by omega⟩))
        exact le_trans (by rw [← e]) (le_trans (le_max_right _ _) (le_max_left _ _))
      · have e : j = ⟨256 + (⟨j.val - 256, by omega⟩ : Fin 128).val, by dsimp only; omega⟩ := Fin.ext (by dsimp only; omega)
        refine le_trans ?_ (Finset.le_sup (f := fun x : Fin 128 => max (max (s ⟨x.val, by omega⟩) (s ⟨128 + x.val, by omega⟩)) (s ⟨256 + x.val, by omega⟩)) (Finset.mem_univ ⟨j.val - 256, by omega⟩))
        exact le_trans (by rw [← e]) (le_max_right _ _)

/-- A group's output at a lane: the weighted values over the same sum at the lane half a row away. -/
def gOut (s : Fin 384 → EReal) (mk : Fin 128 → BitVec 1) (v : Fin 384 → Fin 128 → EReal) (l : Fin 128) : EReal :=
  Ideal.div (∑ j, Ideal.exp2 (s j - Finset.univ.sup s) * Scalar.select (mk l) (v j l) 1)
    (∑ j, Ideal.exp2 (s j - Finset.univ.sup s) * Scalar.select (mk ⟨(l.val + 128 - 64) % 128, by omega⟩) (v j ⟨(l.val + 128 - 64) % 128, by omega⟩) 1)

/-- Reading one of three chunks of 128 columns is reading the row. -/
theorem chunk (f : Fin 384 → EReal) (x : Fin 384) :
    (if h : x.val < 128 then f x else if h : x.val - 128 < 128 then f ⟨128 + (x.val - 128), by omega⟩
      else f ⟨256 + (x.val - 128 - 128), by omega⟩) = f x := by
  have hx := x.isLt
  split_ifs
  · rfl
  · exact congrArg f (Fin.ext (by dsimp only; omega))
  · exact congrArg f (Fin.ext (by dsimp only; omega))

/-- The first group's output from its scores. -/
theorem out0 (vc : FVec Ideal S384x128 .bf16) (mk : IVec S1x128 1) (s : FVec Ideal S1024x384 .f32) (mx : FVec Ideal S1024x128 .f32)
    (r : Fin 1024) (l : Fin 128)
    (hm : ∀ x : Fin 128, mx (ix2 r x) = max (max (s (ix2 r ⟨x.val, by omega⟩)) (s (ix2 r ⟨128 + x.val, by omega⟩))) (s (ix2 r ⟨256 + x.val, by omega⟩))) :
    k0_pay15 vc mk s mx (ix2 r l) = gOut (fun j => s (ix2 r j)) (fun x => mk (ix2 0 x)) (fun j x => vc (ix2 j x)) l := by
  pointwise [k0_pay15]
  simp only [hm]
  rw [rowMax fun j => s (ix2 r j)]
  exact congrArg₂ Ideal.div
    (Finset.sum_congr rfl fun x _ => congrArg (· * _) (chunk (fun x => Ideal.exp2 (s (ix2 r x) - Finset.univ.sup fun j => s (ix2 r j))) x))
    (Finset.sum_congr rfl fun x _ => congrArg (· * _) (chunk (fun x => Ideal.exp2 (s (ix2 r x) - Finset.univ.sup fun j => s (ix2 r j))) x))

/-- The first group's running maximum over the lane chunks. -/
theorem max0 (kc : FVec Ideal S384x128 .bf16) (pen : FVec Ideal S1x384 .f32) (mk : IVec S1x128 1) (z0 z1 : FVec Ideal S256x128 .bf16)
    (q1 q2 q3 : Vec Ideal S1x1x256x128 .bf16) (bias : Vec Ideal S4x256x384 .f32) (r : Fin 1024) (x : Fin 128) :
    k0_pay14 kc pen mk z0 z1 q1 q2 q3 bias (ix2 r x)
      = max (max (k0_pay13 kc pen mk z0 z1 q1 q2 q3 bias (ix2 r ⟨x.val, by omega⟩)) (k0_pay13 kc pen mk z0 z1 q1 q2 q3 bias (ix2 r ⟨128 + x.val, by omega⟩)))
          (k0_pay13 kc pen mk z0 z1 q1 q2 q3 bias (ix2 r ⟨256 + x.val, by omega⟩)) := by
  pointwise [k0_pay14]

/-- The second group's scores, from the dot products, the bias and the penalty. -/
def sum1 (pen : FVec Ideal S1x384 .f32) (d b e : FVec Ideal S1024x384 .f32) : FVec Ideal S1024x384 .f32 :=
  addf (addf d (mulf b e)) (broadcastTo S1024x384 pen broadcasts_S1x384_S1024x384)

/-- The second group's running maximum over the lane chunks. -/
def max1 (s : FVec Ideal S1024x384 .f32) : FVec Ideal S1024x128 .f32 :=
  maximumf (maximumf (extractStridedSlice S1024x128 ![0, 0] s slices_S1024x384_o0_0_S1024x128)
    (extractStridedSlice S1024x128 ![0, 128] s slices_S1024x384_o0_128_S1024x128))
    (extractStridedSlice S1024x128 ![0, 256] s slices_S1024x384_o0_256_S1024x128)

/-- The second group's output is computed as the first group's is. -/
theorem out1_eq (vc : FVec Ideal S384x128 .bf16) (pen : FVec Ideal S1x384 .f32) (mk : IVec S1x128 1) (d b e : FVec Ideal S1024x384 .f32) :
    k0_pay21 vc pen mk d b e = k0_pay15 vc mk (sum1 pen d b e) (max1 (sum1 pen d b e)) := rfl

/-- The second group's output from its scores. -/
theorem out1 (vc : FVec Ideal S384x128 .bf16) (pen : FVec Ideal S1x384 .f32) (mk : IVec S1x128 1) (d b e : FVec Ideal S1024x384 .f32)
    (r : Fin 1024) (l : Fin 128) :
    k0_pay21 vc pen mk d b e (ix2 r l)
      = gOut (fun j => d (ix2 r j) + b (ix2 r j) * e (ix2 r j) + pen (ix2 0 j)) (fun x => mk (ix2 0 x)) (fun j x => vc (ix2 j x)) l := by
  rw [out1_eq, out0 _ _ _ _ r l (fun x => by pointwise [max1])]
  congr 1
  funext j
  pointwise [sum1]

/-! ## The merge -/

/-- What is stored for head `p` of each group. -/
theorem merge (v131 v223 : FVec Ideal S1024x128 .f32) (v226 : IVec S1x128 32) (v240 : IVec S1x128 1) (v224 v241 : IVec S1x128 32)
    (r : Fin 256) (l : Fin 128) :
    k0_pay26 v131 v223 v224 v226 v240 v241 (ix4 0 0 r l) = Scalar.select (k0_pay25 v224 v226 v240 v241 (ix2 0 l)) (v131 (ix2 (row 0 r) l)) (v223 (ix2 (row 0 r) l))
    ∧ k0_pay27 v131 v223 v224 v226 v240 v241 (ix4 0 0 r l) = Scalar.select (k0_pay25 v224 v226 v240 v241 (ix2 0 l)) (v131 (ix2 (row 1 r) l)) (v223 (ix2 (row 1 r) l))
    ∧ k0_pay28 v131 v223 v224 v226 v240 v241 (ix4 0 0 r l) = Scalar.select (k0_pay25 v224 v226 v240 v241 (ix2 0 l)) (v131 (ix2 (row 2 r) l)) (v223 (ix2 (row 2 r) l))
    ∧ k0_pay1 (k0_pay29 v131 v223 v224 v226 v240 v241) (ix4 0 0 r l) = Scalar.select (k0_pay25 v224 v226 v240 v241 (ix2 0 l)) (v131 (ix2 (row 3 r) l)) (v223 (ix2 (row 3 r) l)) := by
  refine ⟨?_, ?_, ?_, ?_⟩
  · pointwise [k0_pay26]
    rw [show row 0 r = ⟨r.val, by omega⟩ from Fin.ext (by simp [row])]
  · pointwise [k0_pay27]
    rw [show row 1 r = ⟨256 + r.val, by omega⟩ from Fin.ext (by simp [row])]
  · pointwise [k0_pay28]
    rw [show row 2 r = ⟨512 + r.val, by omega⟩ from Fin.ext (by simp [row])]
  · pointwise [k0_pay29, k0_pay1]
    rw [show row 3 r = ⟨768 + r.val, by omega⟩ from Fin.ext (by simp [row])]
end Cert.KernelIdeal.Attn
end
end
-- ==== Proof.Block.lean ====
module
public import proofs.«01_k».proof.Proof.Payload
public import proofs.«01_k».proof.Proof.Gen.KernelIdeal.Value
public import Idealize.ShloMosaic.Lib.Pipeline.ValueKit
@[expose] public section
set_option maxRecDepth 16384
noncomputable section
open Idealize.ShloMosaic Idealize.ShloMosaic.TcCoe Idealize.SL.Sem
namespace Cert.KernelIdeal.Attn
open Cert.KernelIdeal Cert.KernelIdeal.Gen

/-! ## What one block computes -/

/-- Scores of one query row of group `g`: its own half of the lanes against the keys, scaled, plus the bias, plus the penalty. -/
def blockScore (g : ℕ) (q : Fin 128 → EReal) (k : Fin 384 → Fin 128 → EReal) (b pen : Fin 384 → EReal) (j : Fin 384) : EReal :=
  (∑ x : Fin 128, (if x.val / 64 = g then q x else 0) * k j x) * Named.named (F := Ideal) (φ := .f32) κ "scale_log2e" 0x3E38AA3B#32
    + b j * Named.named (F := Ideal) (φ := .f32) κ "log2e" 0x3FB8AA3B#32 + pen j

/-- Values averaged with the weights `2 ^ (s - max s)`. -/
def average (s v : Fin 384 → EReal) : EReal :=
  Ideal.div (∑ j, Ideal.exp2 (s j - Finset.univ.sup s) * v j) (∑ j, Ideal.exp2 (s j - Finset.univ.sup s))

/-- On a lane the group owns, its output is the average of the values. -/
theorem gOut_own (s : Fin 384 → EReal) (mk : Fin 128 → BitVec 1) (v : Fin 384 → Fin 128 → EReal) (l : Fin 128)
    (h1 : mk l = 1#1) (h0 : mk ⟨(l.val + 128 - 64) % 128, by omega⟩ = 0#1) : gOut s mk v l = average s (fun j => v j l) := by
  unfold gOut average
  rw [h1, h0]
  simp [Scalar.select]

/-- The keys a block reads: row 0 replaced by zeros. -/
abbrev keys (k1 k2 k3 : Vec Ideal S1x1x128x128 .bf16) : FVec Ideal S384x128 .bf16 :=
  k0_pay7 (k0_pay3 k1 k2 k3) (iota Kind.tc S384x1 32 [0] iota_S384x1_d0_w32) k0_pay5
/-- The values a block reads: row 0 replaced by zeros. -/
abbrev vals (v1 v2 v3 : Vec Ideal S1x1x128x128 .bf16) : FVec Ideal S384x128 .bf16 :=
  k0_pay8 (k0_pay4 v1 v2 v3) (iota Kind.tc S384x1 32 [0] iota_S384x1_d0_w32) k0_pay5
/-- The penalty row of a block. -/
abbrev pens (i : grid0.Coords) : FVec Ideal S1x384 .f32 := k0_pay9 (iota Kind.tc S1x384 32 [1] iota_S1x384_d1_w32) (k0_pay2 i)
/-- Head 0's queries of a block. -/
abbrev head0 (q : Vec Ideal S4x1x256x128 .bf16) : Vec Ideal S1x1x256x128 .bf16 :=
  View.ld q (Rect.unit ![0, 0, 0, 0] ![1, 1, 256, 128] inb_S4x1x256x128_S1x1x256x128_0_0_0_0)
/-- Head 1's queries of a block. -/
abbrev head1 (q : Vec Ideal S4x1x256x128 .bf16) : Vec Ideal S1x1x256x128 .bf16 :=
  View.ld q (Rect.unit ![1, 0, 0, 0] ![1, 1, 256, 128] inb_S4x1x256x128_S1x1x256x128_1_0_0_0)
/-- Head 2's queries of a block. -/
abbrev head2 (q : Vec Ideal S4x1x256x128 .bf16) : Vec Ideal S1x1x256x128 .bf16 :=
  View.ld q (Rect.unit ![2, 0, 0, 0] ![1, 1, 256, 128] inb_S4x1x256x128_S1x1x256x128_2_0_0_0)
/-- Head 3's queries of a block. -/
abbrev head3 (q : Vec Ideal S4x1x256x128 .bf16) : Vec Ideal S1x1x256x128 .bf16 :=
  View.ld q (Rect.unit ![3, 0, 0, 0] ![1, 1, 256, 128] inb_S4x1x256x128_S1x1x256x128_3_0_0_0)
theorem head0_at (q : Vec Ideal S4x1x256x128 .bf16) (r : Fin 256) (x : Fin 128) : head0 q (ix4 0 0 r x) = q (ix4 0 0 r x) := by
  pointwise [head0]
theorem head1_at (q : Vec Ideal S4x1x256x128 .bf16) (r : Fin 256) (x : Fin 128) : head1 q (ix4 0 0 r x) = q (ix4 1 0 r x) := by
  pointwise [head1]
theorem head2_at (q : Vec Ideal S4x1x256x128 .bf16) (r : Fin 256) (x : Fin 128) : head2 q (ix4 0 0 r x) = q (ix4 2 0 r x) := by
  pointwise [head2]
theorem head3_at (q : Vec Ideal S4x1x256x128 .bf16) (r : Fin 256) (x : Fin 128) : head3 q (ix4 0 0 r x) = q (ix4 3 0 r x) := by
  pointwise [head3]
/-- The first group's biases of a block. -/
abbrev bias0 (b : Vec Ideal S8x256x384 .f32) : Vec Ideal S4x256x384 .f32 :=
  View.ld b (Rect.unit ![0, 0, 0] ![4, 256, 384] inb_S8x256x384_S4x256x384_0_0_0)
/-- The second group's biases of a block. -/
abbrev bias1 (b : Vec Ideal S8x256x384 .f32) : Vec Ideal S4x256x384 .f32 :=
  View.ld b (Rect.unit ![4, 0, 0] ![4, 256, 384] inb_S8x256x384_S4x256x384_4_0_0)
theorem bias0_at (b : Vec Ideal S8x256x384 .f32) (p : Fin 4) (r : Fin 256) (j : Fin 384) : bias0 b (ix3 p r j) = b (ix3 ⟨p.val, by omega⟩ r j) := by
  pointwise [bias0]
theorem bias1_at (b : Vec Ideal S8x256x384 .f32) (p : Fin 4) (r : Fin 256) (j : Fin 384) : bias1 b (ix3 p r j) = b (ix3 ⟨4 + p.val, by omega⟩ r j) := by
  pointwise [bias1]
/-- The first group's rows of a block. -/
abbrev rows0 (i : grid0.Coords) (q : Vec Ideal S4x1x256x128 .bf16) (k1 k2 k3 v1 v2 v3 : Vec Ideal S1x1x128x128 .bf16) (b : Vec Ideal S8x256x384 .f32) :
    FVec Ideal S1024x128 .f32 :=
  k0_pay15 (vals v1 v2 v3) k0_pay10
    (k0_pay13 (keys k1 k2 k3) (pens i) k0_pay10
      (k0_pay11 (head0 q)) k0_pay12
      (head1 q)
      (head2 q)
      (head3 q)
      (bias0 b))
    (k0_pay14 (keys k1 k2 k3) (pens i) k0_pay10
      (k0_pay11 (head0 q)) k0_pay12
      (head1 q)
      (head2 q)
      (head3 q)
      (bias0 b))
/-- The second group's rows of a block. -/
abbrev rows1 (i : grid0.Coords) (q : Vec Ideal S4x1x256x128 .bf16) (k1 k2 k3 v1 v2 v3 : Vec Ideal S1x1x128x128 .bf16) (b : Vec Ideal S8x256x384 .f32) :
    FVec Ideal S1024x128 .f32 :=
  k0_pay21 (vals v1 v2 v3) (pens i) (k0_pay17 k0_pay16 1#32)
    (k0_pay18 (keys k1 k2 k3) k0_pay16 1#32
      (head0 q)
      (head1 q)
      (head2 q)
      (head3 q))
    (k0_pay19 (bias1 b)) k0_pay20

/-- The four heads of a group's queries, loaded one by one. -/
theorem heads (q : Vec Ideal S4x1x256x128 .bf16) (p : Fin 4) (r : Fin 256) (x : Fin 128) :
    (![head0 q, head1 q, head2 q, head3 q] : Fin 4 → Vec Ideal S1x1x256x128 .bf16) p (ix4 0 0 r x) = q (ix4 p 0 r x) := by
  obtain ⟨p, hp⟩ := p
  obtain rfl | rfl | rfl | rfl : p = 0 ∨ p = 1 ∨ p = 2 ∨ p = 3 := by omega
  · exact head0_at q r x
  · exact head1_at q r x
  · exact head2_at q r x
  · exact head3_at q r x

/-- One row of the first group, on a lane it owns. -/
theorem rows0_at (i : grid0.Coords) (q : Vec Ideal S4x1x256x128 .bf16) (k1 k2 k3 v1 v2 v3 : Vec Ideal S1x1x128x128 .bf16) (b : Vec Ideal S8x256x384 .f32)
    (p : Fin 4) (r : Fin 256) (l : Fin 128) (hl : l.val < 64) :
    rows0 i q k1 k2 k3 v1 v2 v3 b (ix2 (row p r) l)
      = average (blockScore 0 (fun x => q (ix4 p 0 r x)) (fun j x => keys k1 k2 k3 (ix2 j x)) (fun j => b (ix3 ⟨p.val, by omega⟩ r j)) (fun j => pens i (ix2 0 j)))
          (fun j => vals v1 v2 v3 (ix2 j l)) := by
  unfold rows0
  rw [out0 _ _ _ _ (row p r) l (fun x => max0 _ _ _ _ _ _ _ _ _ _ _), gOut_own _ _ _ _ (by rw [mask0, if_pos hl]) (by rw [mask0, if_neg (by dsimp only; omega)])]
  refine congrArg (average · _) (funext fun j => ?_)
  rw [score0]
  unfold score blockScore
  rw [bias0_at]
  refine congrArg (· * _ + _ + _) (Finset.sum_congr rfl fun x _ => congrArg (· * _) ?_)
  beta_reduce
  rw [heads, mask0]
  have hx : x.val / 64 = 0 ↔ x.val < 64 := by omega
  simp only [hx]
  split_ifs <;> simp [Scalar.select]

/-- One row of the second group, on a lane it owns. -/
theorem rows1_at (i : grid0.Coords) (q : Vec Ideal S4x1x256x128 .bf16) (k1 k2 k3 v1 v2 v3 : Vec Ideal S1x1x128x128 .bf16) (b : Vec Ideal S8x256x384 .f32)
    (p : Fin 4) (r : Fin 256) (l : Fin 128) (hl : ¬ l.val < 64) :
    rows1 i q k1 k2 k3 v1 v2 v3 b (ix2 (row p r) l)
      = average (blockScore 1 (fun x => q (ix4 p 0 r x)) (fun j x => keys k1 k2 k3 (ix2 j x)) (fun j => b (ix3 ⟨4 + p.val, by omega⟩ r j)) (fun j => pens i (ix2 0 j)))
          (fun j => vals v1 v2 v3 (ix2 j l)) := by
  unfold rows1
  rw [out1, gOut_own _ _ _ _ (by rw [mask1, if_neg hl]) (by rw [mask1, if_pos (by dsimp only; omega)])]
  refine congrArg (average · _) (funext fun j => ?_)
  rw [score1]
  unfold score blockScore
  rw [bias1_at]
  refine congrArg (· * _ + _ + _) (Finset.sum_congr rfl fun x _ => congrArg (· * _) ?_)
  beta_reduce
  rw [heads, mask1]
  have hx : x.val / 64 = 1 ↔ ¬ x.val < 64 := by omega
  simp only [hx]
  split_ifs <;> simp_all [Scalar.select]

/-- What a block stores at head `p` of each group, row `r`, lane `l`. -/
def blockOut (i : grid0.Coords) (q : Vec Ideal S4x1x256x128 .bf16) (k1 k2 k3 v1 v2 v3 : Vec Ideal S1x1x128x128 .bf16) (b : Vec Ideal S8x256x384 .f32)
    (p : Fin 4) (r : Fin 256) (l : Fin 128) : EReal :=
  average (blockScore (l.val / 64) (fun x => q (ix4 p 0 r x)) (fun j x => keys k1 k2 k3 (ix2 j x)) (fun j => b (ix3 ⟨l.val / 64 * 4 + p.val, by omega⟩ r j))
    (fun j => pens i (ix2 0 j))) (fun j => vals v1 v2 v3 (ix2 j l))

/-- The merge takes each lane from the group that owns it. -/
theorem merged (i : grid0.Coords) (q : Vec Ideal S4x1x256x128 .bf16) (k1 k2 k3 v1 v2 v3 : Vec Ideal S1x1x128x128 .bf16) (b : Vec Ideal S8x256x384 .f32)
    (p : Fin 4) (r : Fin 256) (l : Fin 128) :
    Scalar.select (k0_pay25 (iota .tc S1x128 32 [1] iota_S1x128_d1_w32) k0_pay22 k0_pay23 k0_pay24 (ix2 0 l))
      (rows0 i q k1 k2 k3 v1 v2 v3 b (ix2 (row p r) l)) (rows1 i q k1 k2 k3 v1 v2 v3 b (ix2 (row p r) l))
      = blockOut i q k1 k2 k3 v1 v2 v3 b p r l := by
  rw [mask2]
  unfold blockOut
  by_cases hl : l.val < 64
  · have e : l.val / 64 = 0 := by omega
    rw [if_pos hl, rows0_at _ _ _ _ _ _ _ _ _ _ _ _ hl]
    simp only [e, Nat.zero_mul, Nat.zero_add]
    rfl
  · have e : l.val / 64 = 1 := by omega
    rw [if_neg hl, rows1_at _ _ _ _ _ _ _ _ _ _ _ _ hl]
    simp only [e, Nat.one_mul]
    rfl

variable (m : (ℓ : Loc nD τ sig) → Buf (Elt Ideal) ℓ)

/-- An index of one head's piece, from its row and its lane. -/
theorem piece_index (x : S1x1x256x128.Idx) (r : Fin 256) (l : Fin 128) (h2 : r.val = (x 2).val) (h3 : l.val = (x 3).val) : x = ix4 0 0 r l := by
  funext a
  match a with
  | ⟨0, _⟩ => exact Fin.ext (Nat.lt_one_iff.mp (x 0).isLt)
  | ⟨1, _⟩ => exact Fin.ext (Nat.lt_one_iff.mp (x 1).isLt)
  | ⟨2, _⟩ => exact Fin.ext h2.symm
  | ⟨3, _⟩ => exact Fin.ext h3.symm

/-- What point `t` leaves in the output window. -/
theorem point (c : Dev nD) (t : Fin cfg0.N) (p : Fin 4) (r : Fin 256) (l : Fin 128) :
    outsAt0 m c t (ix4 p 0 r l)
      = blockOut (grid0.coords t) (X0_0 m c t) (iblk m c 1 t) (iblk m c 2 t) (iblk m c 3 t) (iblk m c 4 t) (iblk m c 5 t) (iblk m c 6 t) (iblk m c 7 t) p r l := by
  unfold outsAt0; frame_out
  have hp := p.isLt
  canon_tiles x h
  case piece0 =>
    obtain rfl : p = 3 := Fin.ext (by change p.val = _ at h0; show p.val = 3; omega)
    obtain rfl := piece_index x r l h2 h3
    exact ((merge _ _ _ _ _ _ r l).2.2.2).trans (merged (grid0.coords t) (X0_0 m c t) _ _ _ _ _ _ _ 3 r l)
  case piece1 =>
    obtain rfl : p = 2 := Fin.ext (by change p.val = _ at h0; show p.val = 2; omega)
    obtain rfl := piece_index x r l h2 h3
    exact ((merge _ _ _ _ _ _ r l).2.2.1).trans (merged (grid0.coords t) (X0_0 m c t) _ _ _ _ _ _ _ 2 r l)
  case piece2 =>
    obtain rfl : p = 1 := Fin.ext (by change p.val = _ at h0; show p.val = 1; omega)
    obtain rfl := piece_index x r l h2 h3
    exact ((merge _ _ _ _ _ _ r l).2.1).trans (merged (grid0.coords t) (X0_0 m c t) _ _ _ _ _ _ _ 1 r l)
  case piece3 =>
    obtain rfl : p = 0 := Fin.ext (by change p.val = _ at h0; show p.val = 0; omega)
    obtain rfl := piece_index x r l h2 h3
    exact ((merge _ _ _ _ _ _ r l).1).trans (merged (grid0.coords t) (X0_0 m c t) _ _ _ _ _ _ _ 0 r l)
end Cert.KernelIdeal.Attn
end
end
-- ==== Proof.Array.lean ====
module
public import proofs.«01_k».proof.Proof.Block
@[expose] public section
set_option maxRecDepth 16384
noncomputable section
open Idealize.ShloMosaic Idealize.ShloMosaic.TcCoe Idealize.SL.Sem
namespace Cert.KernelIdeal.Attn
open Cert.KernelIdeal Cert.KernelIdeal.Gen

/-! ## The block's keys, values and penalties at their indices -/

/-- A row of three stacked tiles, row 0 replaced by zeros. -/
def tiled (k1 k2 k3 : Vec Ideal S1x1x128x128 .bf16) (j : Fin 384) (x : Fin 128) : EReal :=
  if j.val = 0 then 0 else if h : j.val < 128 then k1 (ix4 0 0 ⟨j.val, h⟩ x)
    else if h : j.val - 128 < 128 then k2 (ix4 0 0 ⟨j.val - 128, h⟩ x) else k3 (ix4 0 0 ⟨j.val - 128 - 128, by omega⟩ x)

theorem word_zero (j : Fin 384) : IntOp.cmpi .eq (BitVec.ofNat 32 j.val) 0#32 = if j.val = 0 then 1#1 else 0#1 := by
  revert j; decide +kernel

theorem keys_at (k1 k2 k3 : Vec Ideal S1x1x128x128 .bf16) (j : Fin 384) (x : Fin 128) : keys k1 k2 k3 (ix2 j x) = tiled k1 k2 k3 j x := by
  pointwise [keys, k0_pay7, k0_pay6, k0_pay5, k0_pay3]
  rw [word_zero]
  unfold tiled
  by_cases h : j.val = 0
  · simp [h, Scalar.select]
  · simp only [h, if_false, Scalar.select]
    rfl

theorem vals_at (k1 k2 k3 : Vec Ideal S1x1x128x128 .bf16) (j : Fin 384) (x : Fin 128) : vals k1 k2 k3 (ix2 j x) = tiled k1 k2 k3 j x :=
  keys_at k1 k2 k3 j x

/-- The penalty of a column: none on the sink column and on columns at or after the first key. -/
def penalty (i : ℕ) (j : Fin 384) : EReal := if j.val = 0 then 0 else if 128 ≤ i * 256 + j.val then 0 else ⊥

theorem word_before (i : Fin 16) (j : Fin 384) :
    IntOp.cmpi .sge (Scalar.addi (Scalar.subi (Scalar.muli (Scalar.addi (BitVec.ofNat 32 i.val) 1#32) 256#32) 384#32) (BitVec.ofNat 32 j.val)) 0#32
      = if 128 ≤ i.val * 256 + j.val then 1#1 else 0#1 := by
  revert i j; decide +kernel

theorem pens_at (i : grid0.Coords) (j : Fin 384) : pens i (ix2 0 j) = penalty (i 1).val j := by
  pointwise [pens, k0_pay9, k0_pay2]
  have hm : Named.named (F := Ideal) (φ := .f32) κ "mask" 0xF149F2CA#32 = (⊥ : EReal) := rfl
  have hw := word_before (i 1) j
  rw [word_zero]
  change Scalar.select _ _ (Scalar.select (IntOp.cmpi .sge (Scalar.addi (Scalar.subi (Scalar.muli (Scalar.addi (BitVec.ofNat 32 (i 1).val) 1#32) 256#32) 384#32) (BitVec.ofNat 32 j.val)) 0#32) _ _) = _
  rw [hw, hm]
  unfold penalty
  split_ifs <;> simp [Scalar.select]

theorem idx : ∀ t : Fin cfg0.N, win0_0.index t = ![0, (grid0.coords t 0).val, (grid0.coords t 1).val, 0]
    ∧ win0_1.index t = ![4, (grid0.coords t 0).val, 2 * (grid0.coords t 1).val - 1, 0]
    ∧ win0_2.index t = ![4, (grid0.coords t 0).val, 2 * (grid0.coords t 1).val, 0]
    ∧ win0_3.index t = ![4, (grid0.coords t 0).val, 2 * (grid0.coords t 1).val + 1, 0]
    ∧ win0_4.index t = ![5, (grid0.coords t 0).val, 2 * (grid0.coords t 1).val - 1, 0]
    ∧ win0_5.index t = ![5, (grid0.coords t 0).val, 2 * (grid0.coords t 1).val, 0]
    ∧ win0_6.index t = ![5, (grid0.coords t 0).val, 2 * (grid0.coords t 1).val + 1, 0]
    ∧ win0_7.index t = ![0, 0, 0]
    ∧ win0_8.index t = ![0, (grid0.coords t 0).val, (grid0.coords t 1).val, 0] :=
  (by decide +kernel : ∀ t : Fin grid0.N, _)

/-- Column `j` of the keys (`n = 4`) or the values (`n = 5`) at block `i` of batch `b`. -/
def column (A : FVec Ideal S6x4x4096x128 .bf16) (n : Fin 6) (b : Fin 4) (i : Fin 16) (j : Fin 384) (x : Fin 128) : EReal :=
  if j.val = 0 then 0 else if h : 128 ≤ i.val * 256 + j.val then A (ix4 n b ⟨i.val * 256 + j.val - 128, by omega⟩ x) else A (ix4 n b ⟨j.val, by omega⟩ x)

/-- The array the kernel leaves, over its packed operand and its bias table. -/
def outArr (A : FVec Ideal S6x4x4096x128 .bf16) (B : FVec Ideal S8x256x384 .f32) (p b : Fin 4) (i : Fin 16) (r : Fin 256) (l : Fin 128) : EReal :=
  average (blockScore (l.val / 64) (fun x => A (ix4 ⟨p.val, by omega⟩ b ⟨i.val * 256 + r.val, by omega⟩ x)) (column A 4 b i)
    (fun j => B (ix3 ⟨l.val / 64 * 4 + p.val, by omega⟩ r j)) (penalty i.val)) (fun j => column A 5 b i j l)

variable (m : (ℓ : Loc nD τ sig) → Buf (Elt Ideal) ℓ)

theorem q_at (c : Dev nD) (t : Fin cfg0.N) (p : Fin 4) (r : Fin 256) (x : Fin 128) (b : Fin 4) (i : Fin 16)
    (hb : b.val = (grid0.coords t 0).val) (hi : i.val = (grid0.coords t 1).val) :
    X0_0 m c t (ix4 p 0 r x) = (V m c main_v10 : FVec Ideal S6x4x4096x128 .bf16) (ix4 ⟨p.val, by omega⟩ b ⟨i.val * 256 + r.val, by omega⟩ x) := by
  unfold X0_0 Pipeline.Window.fill
  rw [dif_pos (moved0_0 t _)]
  blk_ext [iblk, idx t]
theorem tile1_at (c : Dev nD) (t : Fin cfg0.N) (j x : Fin 128) (b : Fin 4) (R : Fin 4096)
    (hb : b.val = (grid0.coords t 0).val) (hR : R.val = (2 * (grid0.coords t 1).val - 1) * 128 + j.val) :
    iblk m c 1 t (ix4 0 0 j x) = (V m c main_v10 : FVec Ideal S6x4x4096x128 .bf16) (ix4 4 b R x) := by
  blk_ext [iblk, idx t]
theorem tile2_at (c : Dev nD) (t : Fin cfg0.N) (j x : Fin 128) (b : Fin 4) (R : Fin 4096)
    (hb : b.val = (grid0.coords t 0).val) (hR : R.val = (2 * (grid0.coords t 1).val) * 128 + j.val) :
    iblk m c 2 t (ix4 0 0 j x) = (V m c main_v10 : FVec Ideal S6x4x4096x128 .bf16) (ix4 4 b R x) := by
  blk_ext [iblk, idx t]
theorem tile3_at (c : Dev nD) (t : Fin cfg0.N) (j x : Fin 128) (b : Fin 4) (R : Fin 4096)
    (hb : b.val = (grid0.coords t 0).val) (hR : R.val = (2 * (grid0.coords t 1).val + 1) * 128 + j.val) :
    iblk m c 3 t (ix4 0 0 j x) = (V m c main_v10 : FVec Ideal S6x4x4096x128 .bf16) (ix4 4 b R x) := by
  blk_ext [iblk, idx t]
theorem tile4_at (c : Dev nD) (t : Fin cfg0.N) (j x : Fin 128) (b : Fin 4) (R : Fin 4096)
    (hb : b.val = (grid0.coords t 0).val) (hR : R.val = (2 * (grid0.coords t 1).val - 1) * 128 + j.val) :
    iblk m c 4 t (ix4 0 0 j x) = (V m c main_v10 : FVec Ideal S6x4x4096x128 .bf16) (ix4 5 b R x) := by
  blk_ext [iblk, idx t]
theorem tile5_at (c : Dev nD) (t : Fin cfg0.N) (j x : Fin 128) (b : Fin 4) (R : Fin 4096)
    (hb : b.val = (grid0.coords t 0).val) (hR : R.val = (2 * (grid0.coords t 1).val) * 128 + j.val) :
    iblk m c 5 t (ix4 0 0 j x) = (V m c main_v10 : FVec Ideal S6x4x4096x128 .bf16) (ix4 5 b R x) := by
  blk_ext [iblk, idx t]
theorem tile6_at (c : Dev nD) (t : Fin cfg0.N) (j x : Fin 128) (b : Fin 4) (R : Fin 4096)
    (hb : b.val = (grid0.coords t 0).val) (hR : R.val = (2 * (grid0.coords t 1).val + 1) * 128 + j.val) :
    iblk m c 6 t (ix4 0 0 j x) = (V m c main_v10 : FVec Ideal S6x4x4096x128 .bf16) (ix4 5 b R x) := by
  blk_ext [iblk, idx t]
theorem k_at (c : Dev nD) (t : Fin cfg0.N) (j : Fin 384) (x : Fin 128) (b : Fin 4) (i : Fin 16)
    (hb : b.val = (grid0.coords t 0).val) (hi : i.val = (grid0.coords t 1).val) :
    tiled (iblk m c 1 t) (iblk m c 2 t) (iblk m c 3 t) j x = column (V m c main_v10) 4 b i j x := by
  have hj := j.isLt
  unfold tiled column
  split_ifs
  · rfl
  · exact tile1_at m c t _ x b _ hb (by dsimp only; omega)
  · exact tile1_at m c t _ x b _ hb (by dsimp only; omega)
  · exact tile2_at m c t _ x b _ hb (by dsimp only; omega)
  · omega
  · exact tile3_at m c t _ x b _ hb (by dsimp only; omega)
  · omega
theorem v_at (c : Dev nD) (t : Fin cfg0.N) (j : Fin 384) (x : Fin 128) (b : Fin 4) (i : Fin 16)
    (hb : b.val = (grid0.coords t 0).val) (hi : i.val = (grid0.coords t 1).val) :
    tiled (iblk m c 4 t) (iblk m c 5 t) (iblk m c 6 t) j x = column (V m c main_v10) 5 b i j x := by
  have hj := j.isLt
  unfold tiled column
  split_ifs
  · rfl
  · exact tile4_at m c t _ x b _ hb (by dsimp only; omega)
  · exact tile4_at m c t _ x b _ hb (by dsimp only; omega)
  · exact tile5_at m c t _ x b _ hb (by dsimp only; omega)
  · omega
  · exact tile6_at m c t _ x b _ hb (by dsimp only; omega)
  · omega
theorem b_at (c : Dev nD) (t : Fin cfg0.N) (h : Fin 8) (r : Fin 256) (j : Fin 384) :
    iblk m c 7 t (ix3 h r j) = (V m c main_v43 : FVec Ideal S8x256x384 .f32) (ix3 h r j) := by
  blk_ext [iblk, idx t]

/-- The array the kernel leaves, index by index. -/
def outAll (A : FVec Ideal S6x4x4096x128 .bf16) (B : FVec Ideal S8x256x384 .f32) : FVec Ideal S4x4x4096x128 .bf16 := fun y =>
  outArr A B ⟨(y 0).val, (y 0).isLt⟩ ⟨(y 1).val, (y 1).isLt⟩
    ⟨(y 2).val / 256, by have : (y 2).val < 4096 := (y 2).isLt; omega⟩ ⟨(y 2).val % 256, by omega⟩ ⟨(y 3).val, (y 3).isLt⟩

/-- What a block stores, over the packed operand and the bias table. -/
theorem block_at (c : Dev nD) (t : Fin cfg0.N) (p : Fin 4) (r : Fin 256) (l : Fin 128) (b : Fin 4) (i : Fin 16)
    (hb : b.val = (grid0.coords t 0).val) (hi : i.val = (grid0.coords t 1).val) :
    outsAt0 m c t (ix4 p 0 r l) = outArr (V m c main_v10) (V m c main_v43) p b i r l := by
  rw [point]
  unfold blockOut outArr
  have hk : (fun j x => keys (iblk m c 1 t) (iblk m c 2 t) (iblk m c 3 t) (ix2 j x)) = column (V m c main_v10) 4 b i :=
    funext fun j => funext fun x => (keys_at _ _ _ j x).trans (k_at m c t j x b i hb hi)
  have hv : (fun j => vals (iblk m c 4 t) (iblk m c 5 t) (iblk m c 6 t) (ix2 j l)) = fun j => column (V m c main_v10) 5 b i j l :=
    funext fun j => (vals_at _ _ _ j l).trans (v_at m c t j l b i hb hi)
  have hq : (fun x => X0_0 m c t (ix4 p 0 r x)) = fun x => (V m c main_v10 : FVec Ideal S6x4x4096x128 .bf16) (ix4 ⟨p.val, by omega⟩ b ⟨i.val * 256 + r.val, by omega⟩ x) :=
    funext fun x => q_at m c t p r x b i hb hi
  have hp : (fun j => pens (grid0.coords t) (ix2 0 j)) = penalty i.val := funext fun j => (pens_at _ j).trans (by rw [hi])
  rw [hk, hv, hq, hp]
  refine congrArg (average · _) (congrArg (blockScore _ _ _ · _) (funext fun j => b_at m c t _ r j))

/-- The kernel's result array. -/
theorem final (c : Dev nD) : (dats m 0 c).arrAt 8 (cfgs 0).N = outAll (V m c main_v10) (V m c main_v43) := by
  refine (dats m 0 c).arrAt_eq_of_covers 8 _ (by decide +kernel) fun t _ y => ?_
  blk_simp
  rw [after0_8]
  have h0 : (y 0).val < 4 := (y 0).isLt
  have h1 : (y 1).val < 1 := (y 1).isLt
  have h2 : (y 2).val < 256 := (y 2).isLt
  have h3 : (y 3).val < 128 := (y 3).isLt
  have hy : y = ix4 (⟨(y 0).val, h0⟩ : Fin 4) (0 : Fin 1) (⟨(y 2).val, h2⟩ : Fin 256) (⟨(y 3).val, h3⟩ : Fin 128) := by
    funext a
    match a with
    | ⟨0, _⟩ => rfl
    | ⟨1, _⟩ => exact Fin.ext (Nat.lt_one_iff.mp h1)
    | ⟨2, _⟩ => rfl
    | ⟨3, _⟩ => rfl
  have hb : (grid0.coords t 0).val < 4 := (grid0.coords t 0).isLt
  have hi : (grid0.coords t 1).val < 16 := (grid0.coords t 1).isLt
  refine Eq.trans (congrArg (outsAt0 m c t) hy) ((block_at m c t _ _ _ ⟨_, hb⟩ ⟨_, hi⟩ rfl rfl).trans ?_)
  unfold outAll
  congr 1
  all_goals (refine Fin.ext ?_; blk_simp [idx t])
  all_goals (dsimp only; try omega)
end Cert.KernelIdeal.Attn
end
end
-- ==== Proof.Equation.lean ====
module
public import proofs.«01_k».proof.Proof.HostReads
public import proofs.«01_k».proof.Proof.Array
@[expose] public section
set_option maxRecDepth 16384
noncomputable section
open Idealize.ShloMosaic Idealize.ShloMosaic.TcCoe Idealize.SL.Sem
namespace Cert.Attn
open Cert.KernelIdeal Cert.KernelIdeal.Attn Cert.ReferenceIdeal.Attn

/-- The scale with the logarithm of 2 divided out. -/
theorem named_scale : Named.named (F := Ideal) (φ := .f32) Cert.KernelIdeal.κ "scale_log2e" 0x3E38AA3B#32 = (((8 * Real.log 2)⁻¹ : ℝ) : EReal) := rfl
/-- One over the logarithm of 2. -/
theorem named_log2e : Named.named (F := Ideal) (φ := .f32) Cert.KernelIdeal.κ "log2e" 0x3FB8AA3B#32 = (((Real.log 2)⁻¹ : ℝ) : EReal) := rfl
/-- The reference's scale. -/
theorem eighth : Ideal.ofBits .f32 0x3E000000#32 = ((1 / 8 : ℝ) : EReal) := by
  simp [Ideal.ofBits, Ideal.ieee, -EReal.coe_mul]; norm_num

section
variable (q : FVec Ideal S4x8x4096x64 .f32) (k v : FVec Ideal S4x2x4096x64 .f32) (rb : FVec Ideal S32x16 .f32) (sk : FVec Ideal S8 .f32)
  (p b : Fin 4) (i : Fin 16) (r : Fin 256) (l : Fin 128)

/-- The block's row as a position. -/
abbrev pos : Fin 4096 := ⟨i.val * 256 + r.val, by omega⟩
/-- The key group of a lane. -/
abbrev grp : Fin 2 := ⟨l.val / 64, by omega⟩
/-- The head of a lane. -/
abbrev head : Fin 8 := ⟨l.val / 64 * 4 + p.val, by omega⟩

/-- The columns that carry weight: the sink's, and the keys at most 127 positions back. -/
def Live (j : Fin 384) : Prop := j.val = 0 ∨ (r.val < j.val ∧ j.val ≤ r.val + 128 ∧ 128 ≤ i.val * 256 + j.val)
/-- The keys that carry weight, the sink last. -/
def Live' (s : Fin 4097) : Prop := s.val = 4096 ∨ (s.val ≤ i.val * 256 + r.val ∧ i.val * 256 + r.val < s.val + 128)
/-- The key of a column. -/
def keyOf (j : Fin 384) : Fin 4097 := ⟨if j.val = 0 then 4096 else i.val * 256 + j.val - 128, by split_ifs <;> omega⟩
/-- The column of a key. -/
def colOf (s : Fin 4097) : Fin 384 := ⟨min (if s.val = 4096 then 0 else s.val + 128 - i.val * 256) 383, by omega⟩

theorem live_key (j : Fin 384) (h : Live i r j) : Live' i r (keyOf i j) := by
  unfold Live at h; unfold Live' keyOf
  dsimp only
  split_ifs <;> omega
theorem live_col (s : Fin 4097) (h : Live' i r s) : Live i r (colOf i s) := by
  unfold Live' at h; unfold Live colOf
  dsimp only
  split_ifs <;> omega
theorem col_key (j : Fin 384) (h : Live i r j) : colOf i (keyOf i j) = j := by
  unfold Live at h; unfold colOf keyOf
  refine Fin.ext ?_
  dsimp only
  split_ifs <;> omega
theorem key_col (s : Fin 4097) (h : Live' i r s) : keyOf i (colOf i s) = s := by
  unfold Live' at h; unfold colOf keyOf
  refine Fin.ext ?_
  dsimp only
  split_ifs <;> omega

/-- The scaled and biased logit of a column as a real; the sink in column 0. -/
def logit (j : Fin 384) : ℝ :=
  if j.val = 0 then (sk (ix1 (head p l)) : EReal).toReal
  else (∑ x : Fin 64, (q (ix4 b (head p l) (pos i r) x) : EReal).toReal * (k (ix4 b (grp l) ⟨i.val * 256 + j.val - 128, by omega⟩ x) : EReal).toReal) * (1 / 8)
    + (rb (ix2 ⟨bucket (r.val + 128 - j.val) % 32, Nat.mod_lt _ (by norm_num)⟩ ⟨8 + (head p l).val, by omega⟩) : EReal).toReal

/-- The block's dot product over 128 lanes, masked to the head's group, is the head's over 64. -/
theorem dot_eq (j : Fin 384) (hj : j.val ≠ 0) (hk : 128 ≤ i.val * 256 + j.val) :
    (∑ x : Fin 128, (if x.val / 64 = l.val / 64 then packed q k v (ix4 ⟨p.val, by omega⟩ b ⟨i.val * 256 + r.val, by omega⟩ x) else (0 : EReal)) * column (packed q k v) 4 b i j x)
      = ∑ x : Fin 64, q (ix4 b (head p l) (pos i r) x) * k (ix4 b (grp l) ⟨i.val * 256 + j.val - 128, by omega⟩ x) := by
  refine sum_live (fun x : Fin 128 => x.val / 64 = l.val / 64) (fun _ : Fin 64 => True) (fun x => ⟨x.val % 64, by omega⟩) (fun y => ⟨l.val / 64 * 64 + y.val, by omega⟩)
    (fun _ _ => trivial) (fun y _ => ?_) (fun x hx => Fin.ext ?_) (fun y _ => Fin.ext ?_) _ _ (fun x hx => ?_) (fun _ h => absurd trivial h) (fun x hx => ?_)
  · dsimp only; omega
  · dsimp only; omega
  · dsimp only; omega
  · rw [if_neg hx]; exact zero_mul _
  · rw [if_pos hx]
    unfold column
    rw [if_neg hj, dif_pos hk, packed_q, packed_k]
    have e1 : (⟨x.val / 64 * 4 + p.val, by omega⟩ : Fin 8) = head p l := Fin.ext (by show x.val / 64 * 4 + p.val = l.val / 64 * 4 + p.val; rw [hx])
    have e2 : (⟨x.val / 64, by omega⟩ : Fin 2) = grp l := Fin.ext hx
    rw [e1, e2]

variable (hq : ∀ i, q i = (((q i : EReal).toReal : ℝ) : EReal)) (hk : ∀ i, k i = (((k i : EReal).toReal : ℝ) : EReal))
  (hr : ∀ i, rb i = (((rb i : EReal).toReal : ℝ) : EReal)) (hs : ∀ i, sk i = (((sk i : EReal).toReal : ℝ) : EReal))

include hq hk in
theorem dot_real (s : Fin 4096) :
    ∑ x : Fin 64, q (ix4 b (head p l) (pos i r) x) * k (ix4 b (grp l) s x)
      = ((∑ x : Fin 64, (q (ix4 b (head p l) (pos i r) x) : EReal).toReal * (k (ix4 b (grp l) s x) : EReal).toReal : ℝ) : EReal) := by
  rw [← sum_real]
  refine Finset.sum_congr rfl fun x _ => ?_
  rw [EReal.coe_mul, ← hq, ← hk]

/-- The block's scores of one row. -/
abbrev score : Fin 384 → EReal := blockScore (l.val / 64) (fun x => packed q k v (ix4 ⟨p.val, by omega⟩ b ⟨i.val * 256 + r.val, by omega⟩ x)) (column (packed q k v) 4 b i)
  (fun j => hostBias rb sk (ix3 (head p l) r j)) (penalty i.val)

include hq hk hr hs in
/-- A live column's score is its logit in base two. -/
theorem score_live (j : Fin 384) (h : Live i r j) :
    score q k v rb sk p b i r l j = (((Real.log 2)⁻¹ * logit q k rb sk p b i r l j : ℝ) : EReal) := by
  unfold score blockScore
  beta_reduce
  rw [named_scale, named_log2e, bias_at]
  by_cases hj : j.val = 0
  · have hd : (∑ x : Fin 128, (if x.val / 64 = l.val / 64 then packed q k v (ix4 ⟨p.val, by omega⟩ b ⟨i.val * 256 + r.val, by omega⟩ x) else (0 : EReal)) * column (packed q k v) 4 b i j x) = 0 :=
      Finset.sum_eq_zero fun x _ => by
        unfold column
        rw [if_pos hj, mul_zero]
    rw [hd]
    unfold penalty logit
    rw [if_pos hj, if_pos hj, if_pos hj, hs, zero_mul, zero_add, add_zero, ← EReal.coe_mul, mul_comm]
    rfl
  · obtain ⟨h1, h2, h3⟩ := h.resolve_left hj
    rw [dot_eq q k v p b i r l j hj h3, dot_real q k p b i r l hq hk, if_neg hj,
      table_near rb (head p l) r j ⟨r.val + 128 - j.val, by omega⟩ (by dsimp only; omega), hr]
    unfold penalty logit
    rw [if_neg hj, if_neg hj, if_pos h3, add_zero, ← EReal.coe_mul, ← EReal.coe_mul, ← EReal.coe_add]
    have e : (⟨bucket (r.val + 128 - j.val) % 32, Nat.mod_lt _ (by norm_num)⟩ : Fin 32) = ⟨bucket (r.val + 128 - j.val), bucket_lt ⟨r.val + 128 - j.val, by omega⟩⟩ :=
      Fin.ext (Nat.mod_eq_of_lt (bucket_lt ⟨r.val + 128 - j.val, by omega⟩))
    rw [e, mul_inv]
    congr 1
    ring

/-- Any other column's score is bottom. -/
theorem score_dead (j : Fin 384) (h : ¬ Live i r j) : score q k v rb sk p b i r l j = (⊥ : EReal) := by
  have hj : j.val ≠ 0 := fun e => h (Or.inl e)
  have hlog : (0 : ℝ) < (Real.log 2)⁻¹ := inv_pos.mpr (Real.log_pos (by norm_num))
  unfold score blockScore
  by_cases h3 : 128 ≤ i.val * 256 + j.val
  · beta_reduce
    rw [bias_at, if_neg hj, table_far rb (head p l) r j (fun q => h (Or.inr ⟨q.2, by omega, h3⟩)), named_log2e, EReal.bot_mul_coe_of_pos hlog,
      EReal.add_bot, EReal.bot_add]
  · unfold penalty
    rw [if_neg hj, if_neg h3, EReal.add_bot]

include hq hk hr hs in
/-- A live key's logit in the reference. -/
theorem cat_live (j : Fin 384) (h : Live i r j) :
    refCat q k rb sk (ix5 b (grp l) p (pos i r) (keyOf i j)) = ((logit q k rb sk p b i r l j : ℝ) : EReal) := by
  rw [refCat_at]
  by_cases hj : j.val = 0
  · have hkey : ¬ (keyOf i j).val < 4096 := by unfold keyOf; dsimp only; rw [if_pos hj]; omega
    rw [dif_neg hkey]
    unfold logit
    rw [if_pos hj]
    exact hs _
  · obtain ⟨h1, h2, h3⟩ := h.resolve_left hj
    have hv : (keyOf i j).val = i.val * 256 + j.val - 128 := by unfold keyOf; dsimp only; rw [if_neg hj]
    have hkey : (keyOf i j).val < 4096 := by omega
    have e : (⟨(keyOf i j).val, hkey⟩ : Fin 4096) = ⟨i.val * 256 + j.val - 128, by omega⟩ := Fin.ext hv
    rw [dif_pos hkey, e, refLogits_at, if_pos ⟨by dsimp only; omega, by dsimp only; omega⟩]
    have hi := refIndex_at (pos i r) ⟨i.val * 256 + j.val - 128, by omega⟩ ⟨r.val + 128 - j.val, by omega⟩ (by dsimp only; omega)
    rw [refBias_at rb (grp l) p (pos i r) _ ⟨bucket (r.val + 128 - j.val), bucket_lt ⟨r.val + 128 - j.val, by omega⟩⟩ hi]
    have hd := dot_real q k p b i r l hq hk ⟨i.val * 256 + j.val - 128, by omega⟩
    have ec : (⟨8 + (grp l).val * 4 + p.val, by dsimp only; omega⟩ : Fin 16) = ⟨8 + (head p l).val, by omega⟩ := Fin.ext (by dsimp only; omega)
    rw [ec, hr]
    change (∑ x : Fin 64, q (ix4 b (head p l) (pos i r) x) * k (ix4 b (grp l) ⟨i.val * 256 + j.val - 128, by omega⟩ x)) * _ + _ = _
    rw [hd]
    unfold logit
    rw [if_neg hj, eighth, ← EReal.coe_mul, ← EReal.coe_add]
    have e : (⟨bucket (r.val + 128 - j.val) % 32, Nat.mod_lt _ (by norm_num)⟩ : Fin 32) = ⟨bucket (r.val + 128 - j.val), bucket_lt ⟨r.val + 128 - j.val, by omega⟩⟩ :=
      Fin.ext (Nat.mod_eq_of_lt (bucket_lt ⟨r.val + 128 - j.val, by omega⟩))
    rw [e]

/-- Any other key's logit in the reference is bottom. -/
theorem cat_dead (s : Fin 4097) (h : ¬ Live' i r s) : refCat q k rb sk (ix5 b (grp l) p (pos i r) s) = (⊥ : EReal) := by
  have h1 : s.val < 4096 := lt_of_le_of_ne (Nat.le_of_lt_succ s.isLt) fun e => h (Or.inl e)
  rw [refCat_at, dif_pos h1, refLogits_at, if_neg fun q => h (Or.inr q)]

/-- The value of a key, zero for the sink. -/
def value (s : Fin 4097) : EReal := if h : s.val < 4096 then v (ix4 b (grp l) ⟨s.val, h⟩ ⟨l.val % 64, by omega⟩) else 0

theorem value_live (j : Fin 384) (h : Live i r j) : column (packed q k v) 5 b i j l = value v b l (keyOf i j) := by
  unfold column value
  by_cases hj : j.val = 0
  · rw [if_pos hj, dif_neg (by unfold keyOf; dsimp only; rw [if_pos hj]; omega)]
  · obtain ⟨h1, h2, h3⟩ := h.resolve_left hj
    have hv : (keyOf i j).val = i.val * 256 + j.val - 128 := by unfold keyOf; dsimp only; rw [if_neg hj]
    have hkey : (keyOf i j).val < 4096 := by omega
    have e : (⟨(keyOf i j).val, hkey⟩ : Fin 4096) = ⟨i.val * 256 + j.val - 128, by omega⟩ := Fin.ext hv
    rw [if_neg hj, dif_pos h3, dif_pos hkey, e, packed_v]

include hq hk hr hs in
/-- **One entry.** The block's average over its columns is the reference's softmax over all keys and the sink. -/
theorem entry_eq : outArr (packed q k v) (hostBias rb sk) p b i r l = refOut (refExp (refCat q k rb sk)) v (ix4 p b (pos i r) l) := by
  have hlog : (0 : ℝ) < Real.log 2 := Real.log_pos (by norm_num)
  rw [refOut_at]
  simp only [refExp_at]
  refine (softmax_eq (Live i r) (Live' i r) (keyOf i) (colOf i) (live_key i r) (live_col i r) (col_key i r) (key_col i r)
    (Real.log 2)⁻¹ (inv_pos.mpr hlog) (inv_mul_cancel₀ hlog.ne') (logit q k rb sk p b i r l) (score q k v rb sk p b i r l)
    (fun s => refCat q k rb sk (ix5 b (grp l) p (pos i r) s)) (score_live q k v rb sk p b i r l hq hk hr hs) (score_dead q k v rb sk p b i r l)
    (cat_live q k rb sk p b i r l hq hk hr hs) (cat_dead q k rb sk p b i r l) 0 (Or.inl rfl) (fun j => column (packed q k v) 5 b i j l) (value v b l)
    (value_live q k v b i r l)).trans ?_
  rw [Fin.sum_univ_castSucc]
  have hlast : value v b l (Fin.last 4096) = 0 := by
    unfold value
    rw [dif_neg (by simp)]
  rw [hlast, mul_zero, add_zero]
  refine Finset.sum_congr rfl fun x _ => ?_
  have hx : value v b l x.castSucc = v (ix4 b (grp l) x ⟨l.val % 64, by omega⟩) := by
    unfold value
    rw [dif_pos (by simp)]
    rfl
  rw [hx]
  rfl
end

/-- **The equation.** The array the kernel writes is the array the reference computes. -/
theorem arrays_eq (q : FVec Ideal S4x8x4096x64 .f32) (k v : FVec Ideal S4x2x4096x64 .f32) (rb : FVec Ideal S32x16 .f32) (sk : FVec Ideal S8 .f32)
    (hq : ∀ i, q i = (((q i : EReal).toReal : ℝ) : EReal)) (hk : ∀ i, k i = (((k i : EReal).toReal : ℝ) : EReal))
    (hr : ∀ i, rb i = (((rb i : EReal).toReal : ℝ) : EReal)) (hs : ∀ i, sk i = (((sk i : EReal).toReal : ℝ) : EReal)) :
    outAll (packed q k v) (hostBias rb sk) = refOut (refExp (refCat q k rb sk)) v := by
  funext y
  have h2 : (y 2).val < 4096 := (y 2).isLt
  refine (entry_eq q k v rb sk ⟨(y 0).val, (y 0).isLt⟩ ⟨(y 1).val, (y 1).isLt⟩ ⟨(y 2).val / 256, by omega⟩ ⟨(y 2).val % 256, by omega⟩ ⟨(y 3).val, (y 3).isLt⟩ hq hk hr hs).trans ?_
  refine congrArg (refOut (refExp (refCat q k rb sk)) v) (funext fun a => Fin.ext ?_)
  match a with
  | ⟨0, _⟩ => rfl
  | ⟨1, _⟩ => rfl
  | ⟨2, _⟩ => show (y 2).val / 256 * 256 + (y 2).val % 256 = (y 2).val; omega
  | ⟨3, _⟩ => rfl
end Cert.Attn
end
end
-- ==== Proof.FfnPayload.lean ====
module
public import proofs.«01_k».proof.Proof.Gen.FfnIdeal.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem

/-! ## The feed-forward part's operations on extended reals -/
namespace Cert.Ffn

/-- A float literal's value. -/
abbrev lit (w : BitVec 32) : EReal := Ideal.ofBits .f32 w

/-- Entry `k` of a row divided by its root mean square, times a gain. -/
def normed (x g : Fin 1024 → EReal) (k : Fin 1024) : EReal :=
  x k * Ideal.rsqrt (Ideal.div (∑ j, x j * x j) (lit 0x44800000#32) + lit 0x358637BD#32) * g k

/-- The activation, in its hyperbolic-tangent form. -/
def gelu (z : EReal) : EReal :=
  z * (lit 0x3F000000#32 * (1 + Ideal.tanh (lit 0x3F4C422A#32 * (z + lit 0x3D372713#32 * (z * z * z)))))

/-- Three taps and a bias. -/
def conv (w0 w1 w2 b a2 a1 a0 : EReal) : EReal := w0 * a2 + w1 * a1 + w2 * a0 + b

end Cert.Ffn

namespace Cert.FfnIdeal.Ffn
open Cert.FfnIdeal Cert.FfnIdeal.Gen Cert.Ffn

/-! ## The body's payloads at their indices -/

theorem norm_rows (x : Vec Ideal S1024x1024 .f32) (g : Vec Ideal S1x1024 .f32) (r k : Fin 1024) :
    k0_pay3 x g (ix2 r k) = normed (fun j => x (ix2 r j)) (fun j => g (ix2 0 j)) k := by
  pointwise [k0_pay3]
  rfl

theorem norm_halo (x : Vec Ideal S8x1024 .f32) (g : Vec Ideal S1x1024 .f32) (r : Fin 8) (k : Fin 1024) :
    k0_pay4 x g (ix2 r k) = normed (fun j => x (ix2 r j)) (fun j => g (ix2 0 j)) k := by
  pointwise [k0_pay4]
  rfl

theorem zeros (y : S1024x1024.Idx) : k0_pay5 (F := Ideal) y = 0 := by
  pointwise [k0_pay5]
  try simp

/-- No row before the first of a sequence. -/
def keep (i : ℕ) : EReal := if i % 4 = 0 then 0 else 1

theorem word_first (i : Fin 16) :
    Scalar.cmpi .eq (Scalar.select (Scalar.andi (Scalar.xori (Scalar.cmpi .slt (Scalar.remsi (BitVec.ofNat 32 i.val) (Scalar.select (Scalar.cmpi .eq 4#32 0#32) 1#32 4#32)) 0#32)
      (Scalar.cmpi .slt (Scalar.select (Scalar.cmpi .eq 4#32 0#32) 1#32 4#32) 0#32)) (Scalar.cmpi .ne (Scalar.remsi (BitVec.ofNat 32 i.val) (Scalar.select (Scalar.cmpi .eq 4#32 0#32) 1#32 4#32)) 0#32))
      (Scalar.addi (Scalar.remsi (BitVec.ofNat 32 i.val) (Scalar.select (Scalar.cmpi .eq 4#32 0#32) 1#32 4#32)) (Scalar.select (Scalar.cmpi .eq 4#32 0#32) 1#32 4#32))
      (Scalar.remsi (BitVec.ofNat 32 i.val) (Scalar.select (Scalar.cmpi .eq 4#32 0#32) 1#32 4#32))) 0#32 = if i.val % 4 = 0 then 1#1 else 0#1 := by
  revert i; decide +kernel

theorem halo_gate (i : grid0.Coords) (hh : Vec Ideal S8x1024 .bf16) (w : Vec Ideal S1024x1024 .bf16) (r : Fin 8) (k : Fin 1024) :
    k0_pay6 i hh w (ix2 r k) = (∑ x : Fin 1024, hh (ix2 r x) * w (ix2 x k)) * keep (i 0).val := by
  have hw := word_first (i 0)
  pointwise [k0_pay6]
  rw [hw]
  unfold keep
  split_ifs <;> simp [Scalar.select]

/-- The gate's rows, one chunk of columns. -/
theorem gate0 (h : Vec Ideal S1024x1024 .bf16) (w : Vec Ideal S1024x256 .bf16) (r : Fin 1024) (k : Fin 256) :
    k0_pay7 h w (ix2 r k) = ∑ x : Fin 1024, h (ix2 r x) * w (ix2 x k) := by
  pointwise [k0_pay7]
theorem gate1 (h : Vec Ideal S1024x1024 .bf16) (w : Vec Ideal S1024x256 .bf16) (r : Fin 1024) (k : Fin 256) :
    k0_pay11 h w (ix2 r k) = ∑ x : Fin 1024, h (ix2 r x) * w (ix2 x k) := gate0 h w r k
theorem gate2 (h : Vec Ideal S1024x1024 .bf16) (w : Vec Ideal S1024x256 .bf16) (r : Fin 1024) (k : Fin 256) :
    k0_pay17 h w (ix2 r k) = ∑ x : Fin 1024, h (ix2 r x) * w (ix2 x k) := gate0 h w r k
theorem gate3 (h : Vec Ideal S1024x1024 .bf16) (w : Vec Ideal S1024x256 .bf16) (r : Fin 1024) (k : Fin 256) :
    k0_pay21 h w (ix2 r k) = ∑ x : Fin 1024, h (ix2 r x) * w (ix2 x k) := gate0 h w r k
theorem kept0 (h : Vec Ideal S1024x1024 .bf16) (w : Vec Ideal S1024x256 .bf16) (r : Fin 1024) (k : Fin 256) :
    k0_pay8 h w (ix2 r k) = ∑ x : Fin 1024, h (ix2 r x) * w (ix2 x k) := by
  pointwise [k0_pay8]
  exact gate0 h w r k
theorem kept1 (h : Vec Ideal S1024x1024 .bf16) (w : Vec Ideal S1024x256 .bf16) (r : Fin 1024) (k : Fin 256) :
    k0_pay12 h w (ix2 r k) = ∑ x : Fin 1024, h (ix2 r x) * w (ix2 x k) := kept0 h w r k
theorem kept2 (h : Vec Ideal S1024x1024 .bf16) (w : Vec Ideal S1024x256 .bf16) (r : Fin 1024) (k : Fin 256) :
    k0_pay18 h w (ix2 r k) = ∑ x : Fin 1024, h (ix2 r x) * w (ix2 x k) := kept0 h w r k
theorem kept3 (h : Vec Ideal S1024x1024 .bf16) (w : Vec Ideal S1024x256 .bf16) (r : Fin 1024) (k : Fin 256) :
    k0_pay22 h w (ix2 r k) = ∑ x : Fin 1024, h (ix2 r x) * w (ix2 x k) := kept0 h w r k

/-- The gated rows of one chunk, over its taps, its biases and the gate's rows. -/
def gated (a2 a1 a0 : Vec Ideal S1024x256 .f32) (w0 w1 w2 b : Vec Ideal S1x256 .f32) (h : Vec Ideal S1024x1024 .bf16)
    (w : Vec Ideal S1024x256 .bf16) (r : Fin 1024) (k : Fin 256) : EReal :=
  gelu (conv (w0 (ix2 0 k)) (w1 (ix2 0 k)) (w2 (ix2 0 k)) (b (ix2 0 k)) (a2 (ix2 r k)) (a1 (ix2 r k)) (a0 (ix2 r k))) * ∑ x : Fin 1024, h (ix2 r x) * w (ix2 x k)

variable (a2 a1 a0 : Vec Ideal S1024x256 .f32) (w0 w1 w2 b : Vec Ideal S1x256 .f32) (h : Vec Ideal S1024x1024 .bf16) (wg w : Vec Ideal S1024x256 .bf16)

theorem gated0 (r : Fin 1024) (k : Fin 256) :
    k0_pay10 (k0_pay9 a0 w0 a2 w1 a1 w2 b h w) (ix2 r k) = gated a2 a1 a0 w0 w1 w2 b h w r k := by
  pointwise [k0_pay10, k0_pay9]
  rfl

theorem gated1 (r : Fin 1024) (k : Fin 256) :
    k0_pay16 (k0_pay13 h wg w0 a2 w1 a1 w2 b) (k0_pay14 h wg w0 a2 w1 a1 w2 b) k0_pay15 h w (ix2 r k)
      = gated a2 a1 (k0_pay11 h wg) w0 w1 w2 b h w r k := by
  pointwise [k0_pay16, k0_pay14, k0_pay13, k0_pay15]
  rfl

theorem gated2 (r : Fin 1024) (k : Fin 256) :
    k0_pay20 (k0_pay19 h wg w0 a2 w1 a1 w2) b h w (ix2 r k) = gated a2 a1 (k0_pay17 h wg) w0 w1 w2 b h w r k := by
  pointwise [k0_pay20, k0_pay19]
  rfl

/-- Four chunks of columns side by side. -/
def side (f0 f1 f2 f3 : Fin 256 → EReal) (k : Fin 1024) : EReal :=
  if h : k.val < 256 then f0 ⟨k.val, h⟩ else if h : k.val - 256 < 256 then f1 ⟨k.val - 256, h⟩
    else if h : k.val - 256 - 256 < 256 then f2 ⟨k.val - 256 - 256, h⟩ else f3 ⟨k.val - 256 - 256 - 256, by omega⟩

theorem summed (f0 f1 f2 : FVec Ideal S1024x256 .bf16) (acc : Vec Ideal S1024x1024 .f32) (wd : Vec Ideal S1024x1024 .bf16) (r d : Fin 1024) :
    k0_pay1 (k0_pay25 f0 f1 f2 (k0_pay21 h wg) (k0_pay23 w0 a2) (k0_pay24 w1) a1 w2 b h w acc wd) (ix2 r d)
      = acc (ix2 r d) + ∑ k : Fin 1024, side (fun k => f0 (ix2 r k)) (fun k => f1 (ix2 r k)) (fun k => f2 (ix2 r k)) (gated a2 a1 (k0_pay21 h wg) w0 w1 w2 b h w r) k
        * wd (ix2 k d) := by
  pointwise [k0_pay1, k0_pay25, k0_pay23, k0_pay24]
  rfl

theorem last (x acc : Vec Ideal S1024x1024 .f32) (y : S1024x1024.Idx) : k0_pay2 x acc y = x y + acc y := by
  pointwise [k0_pay2]

end Cert.FfnIdeal.Ffn
-- ==== Proof.FfnStep.lean ====
module
public import proofs.«01_k».proof.Proof.FfnPayload
@[expose] public section
set_option maxRecDepth 16384
noncomputable section
open Idealize.ShloMosaic Idealize.ShloMosaic.TcCoe Idealize.SL.Sem
namespace Cert.FfnIdeal.Ffn
open Cert.FfnIdeal Cert.FfnIdeal.Gen Cert.Ffn

/-! ## The gate's buffer: eight rows of the tile before, then the tile's rows -/

section
variable (i : grid0.Coords) (h : Vec Ideal S1024x1024 .bf16) (hh : Vec Ideal S8x1024 .bf16) (wg wu : Vec Ideal S1024x1024 .bf16)
  (cw : Vec Ideal S3x1024 .f32) (cb : Vec Ideal S1x1024 .f32) (wd : Vec Ideal S1024x1024 .bf16) (acc : Vec Ideal S1024x1024 .f32)

/-- The rows before the tile. -/
abbrev leftH : List (View.Piece (Elt Ideal) S1032x1024 .f32) :=
  [⟨Rect.unit ![0, 0] ![8, 1024] inb_S1032x1024_S8x1024_0_0, k0_pay6 i hh wg⟩]
/-- What has been stored when chunk 0 is read. -/
abbrev left0 : List (View.Piece (Elt Ideal) S1032x1024 .f32) :=
  ⟨Rect.unit ![8, 0] ![1024, 256] inb_S1032x1024_S1024x256_8_0, k0_pay8 h (View.ld wg (Rect.unit ![0, 0] ![1024, 256] inb_S1024x1024_S1024x256_0_0))⟩ :: leftH i hh wg
/-- What has been stored when chunk 1 is read. -/
abbrev left1 : List (View.Piece (Elt Ideal) S1032x1024 .f32) :=
  ⟨Rect.unit ![8, 256] ![1024, 256] inb_S1032x1024_S1024x256_8_256, k0_pay12 h (View.ld wg (Rect.unit ![0, 256] ![1024, 256] inb_S1024x1024_S1024x256_0_256))⟩ :: left0 i h hh wg
/-- What has been stored when chunk 2 is read. -/
abbrev left2 : List (View.Piece (Elt Ideal) S1032x1024 .f32) :=
  ⟨Rect.unit ![8, 512] ![1024, 256] inb_S1032x1024_S1024x256_8_512, k0_pay18 h (View.ld wg (Rect.unit ![0, 512] ![1024, 256] inb_S1024x1024_S1024x256_0_512))⟩ :: left1 i h hh wg
/-- What has been stored when chunk 3 is read. -/
abbrev left3 : List (View.Piece (Elt Ideal) S1032x1024 .f32) :=
  ⟨Rect.unit ![8, 768] ![1024, 256] inb_S1032x1024_S1024x256_8_768, k0_pay22 h (View.ld wg (Rect.unit ![0, 768] ![1024, 256] inb_S1024x1024_S1024x256_0_768))⟩ :: left2 i h hh wg
/-- Where chunk 0 is read, 2 rows back. -/
abbrev box2_0 : Rect S1032x1024 := Rect.unit ![6, 0] ![1024, 256] inb_S1032x1024_S1024x256_6_0
/-- Chunk 0 read 2 rows back. -/
abbrev back2_0 : Vec Ideal S1024x256 .f32 := (View.whole cc0_scratch2).readCov (left0 i h hh wg) box2_0.toLoadRect
/-- Where chunk 0 is read, 1 rows back. -/
abbrev box1_0 : Rect S1032x1024 := Rect.unit ![7, 0] ![1024, 256] inb_S1032x1024_S1024x256_7_0
/-- Chunk 0 read 1 rows back. -/
abbrev back1_0 : Vec Ideal S1024x256 .f32 := (View.whole cc0_scratch2).readCov (left0 i h hh wg) box1_0.toLoadRect
/-- Where chunk 1 is read, 2 rows back. -/
abbrev box2_1 : Rect S1032x1024 := Rect.unit ![6, 256] ![1024, 256] inb_S1032x1024_S1024x256_6_256
/-- Chunk 1 read 2 rows back. -/
abbrev back2_1 : Vec Ideal S1024x256 .f32 := (View.whole cc0_scratch2).readCov (left1 i h hh wg) box2_1.toLoadRect
/-- Where chunk 1 is read, 1 rows back. -/
abbrev box1_1 : Rect S1032x1024 := Rect.unit ![7, 256] ![1024, 256] inb_S1032x1024_S1024x256_7_256
/-- Chunk 1 read 1 rows back. -/
abbrev back1_1 : Vec Ideal S1024x256 .f32 := (View.whole cc0_scratch2).readCov (left1 i h hh wg) box1_1.toLoadRect
/-- Where chunk 2 is read, 2 rows back. -/
abbrev box2_2 : Rect S1032x1024 := Rect.unit ![6, 512] ![1024, 256] inb_S1032x1024_S1024x256_6_512
/-- Chunk 2 read 2 rows back. -/
abbrev back2_2 : Vec Ideal S1024x256 .f32 := (View.whole cc0_scratch2).readCov (left2 i h hh wg) box2_2.toLoadRect
/-- Where chunk 2 is read, 1 rows back. -/
abbrev box1_2 : Rect S1032x1024 := Rect.unit ![7, 512] ![1024, 256] inb_S1032x1024_S1024x256_7_512
/-- Chunk 2 read 1 rows back. -/
abbrev back1_2 : Vec Ideal S1024x256 .f32 := (View.whole cc0_scratch2).readCov (left2 i h hh wg) box1_2.toLoadRect
/-- Where chunk 3 is read, 2 rows back. -/
abbrev box2_3 : Rect S1032x1024 := Rect.unit ![6, 768] ![1024, 256] inb_S1032x1024_S1024x256_6_768
/-- Chunk 3 read 2 rows back. -/
abbrev back2_3 : Vec Ideal S1024x256 .f32 := (View.whole cc0_scratch2).readCov (left3 i h hh wg) box2_3.toLoadRect
/-- Where chunk 3 is read, 1 rows back. -/
abbrev box1_3 : Rect S1032x1024 := Rect.unit ![7, 768] ![1024, 256] inb_S1032x1024_S1024x256_7_768
/-- Chunk 3 read 1 rows back. -/
abbrev back1_3 : Vec Ideal S1024x256 .f32 := (View.whole cc0_scratch2).readCov (left3 i h hh wg) box1_3.toLoadRect

/-- The accumulator after one step. -/
abbrev stepAcc : FVec Ideal S1024x1024 .f32 :=
  k0_pay1 (k0_pay25
    (k0_pay10 (k0_pay9 (k0_pay7 h (View.ld wg (Rect.unit ![0, 0] ![1024, 256] inb_S1024x1024_S1024x256_0_0))) (View.ld cw (Rect.unit ![0, 0] ![1, 256] inb_S3x1024_S1x256_0_0)) (back2_0 i h hh wg)
      (View.ld cw (Rect.unit ![1, 0] ![1, 256] inb_S3x1024_S1x256_1_0)) (back1_0 i h hh wg) (View.ld cw (Rect.unit ![2, 0] ![1, 256] inb_S3x1024_S1x256_2_0)) (View.ld cb (Rect.unit ![0, 0] ![1, 256] inb_S1x1024_S1x256_0_0)) h (View.ld wu (Rect.unit ![0, 0] ![1024, 256] inb_S1024x1024_S1024x256_0_0))))
    (k0_pay16 (k0_pay13 h (View.ld wg (Rect.unit ![0, 256] ![1024, 256] inb_S1024x1024_S1024x256_0_256)) (View.ld cw (Rect.unit ![0, 256] ![1, 256] inb_S3x1024_S1x256_0_256)) (back2_1 i h hh wg)
        (View.ld cw (Rect.unit ![1, 256] ![1, 256] inb_S3x1024_S1x256_1_256)) (back1_1 i h hh wg) (View.ld cw (Rect.unit ![2, 256] ![1, 256] inb_S3x1024_S1x256_2_256)) (View.ld cb (Rect.unit ![0, 256] ![1, 256] inb_S1x1024_S1x256_0_256)))
      (k0_pay14 h (View.ld wg (Rect.unit ![0, 256] ![1024, 256] inb_S1024x1024_S1024x256_0_256)) (View.ld cw (Rect.unit ![0, 256] ![1, 256] inb_S3x1024_S1x256_0_256)) (back2_1 i h hh wg)
        (View.ld cw (Rect.unit ![1, 256] ![1, 256] inb_S3x1024_S1x256_1_256)) (back1_1 i h hh wg) (View.ld cw (Rect.unit ![2, 256] ![1, 256] inb_S3x1024_S1x256_2_256)) (View.ld cb (Rect.unit ![0, 256] ![1, 256] inb_S1x1024_S1x256_0_256))) k0_pay15 h (View.ld wu (Rect.unit ![0, 256] ![1024, 256] inb_S1024x1024_S1024x256_0_256)))
    (k0_pay20 (k0_pay19 h (View.ld wg (Rect.unit ![0, 512] ![1024, 256] inb_S1024x1024_S1024x256_0_512)) (View.ld cw (Rect.unit ![0, 512] ![1, 256] inb_S3x1024_S1x256_0_512)) (back2_2 i h hh wg)
        (View.ld cw (Rect.unit ![1, 512] ![1, 256] inb_S3x1024_S1x256_1_512)) (back1_2 i h hh wg) (View.ld cw (Rect.unit ![2, 512] ![1, 256] inb_S3x1024_S1x256_2_512))) (View.ld cb (Rect.unit ![0, 512] ![1, 256] inb_S1x1024_S1x256_0_512)) h (View.ld wu (Rect.unit ![0, 512] ![1024, 256] inb_S1024x1024_S1024x256_0_512)))
    (k0_pay21 h (View.ld wg (Rect.unit ![0, 768] ![1024, 256] inb_S1024x1024_S1024x256_0_768))) (k0_pay23 (View.ld cw (Rect.unit ![0, 768] ![1, 256] inb_S3x1024_S1x256_0_768)) (back2_3 i h hh wg)) (k0_pay24 (View.ld cw (Rect.unit ![1, 768] ![1, 256] inb_S3x1024_S1x256_1_768)))
    (back1_3 i h hh wg) (View.ld cw (Rect.unit ![2, 768] ![1, 256] inb_S3x1024_S1x256_2_768)) (View.ld cb (Rect.unit ![0, 768] ![1, 256] inb_S1x1024_S1x256_0_768)) h (View.ld wu (Rect.unit ![0, 768] ![1024, 256] inb_S1024x1024_S1024x256_0_768)) acc wd)

/-- The gate at row `R` of its buffer. -/
def gateRow (R : ℕ) (k : Fin 1024) : EReal :=
  if hR : R < 8 then (∑ x : Fin 1024, hh (ix2 ⟨R, hR⟩ x) * wg (ix2 x k)) * keep (i 0).val
  else if hR : R - 8 < 1024 then ∑ x : Fin 1024, h (ix2 ⟨R - 8, hR⟩ x) * wg (ix2 x k) else 0

/-- The buffer's contents. -/
def gateBuf (y : S1032x1024.Idx) : Elt Ideal .f32 := gateRow i h hh wg (y 0).val ⟨(y 1).val, (y 1).isLt⟩

theorem gateRow_tile (R : Fin 1024) (k : Fin 1024) : gateRow i h hh wg (8 + R.val) k = ∑ x : Fin 1024, h (ix2 R x) * wg (ix2 x k) := by
  have := R.isLt
  unfold gateRow
  rw [dif_neg (by omega), dif_pos (by omega)]
  refine Finset.sum_congr rfl fun x _ => congrArg (fun R' => h (ix2 R' x) * _) (Fin.ext ?_)
  simp

theorem gateRow_halo (R : Fin 8) (k : Fin 1024) : gateRow i h hh wg R.val k = (∑ x : Fin 1024, hh (ix2 R x) * wg (ix2 x k)) * keep (i 0).val := by
  unfold gateRow
  rw [dif_pos R.isLt]

theorem chunk0_at (w : Vec Ideal S1024x1024 .bf16) (x : Fin 1024) (k : Fin 256) :
    (View.ld w (Rect.unit ![0, 0] ![1024, 256] inb_S1024x1024_S1024x256_0_0)) (ix2 x k) = w (ix2 x ⟨0 + k.val, by omega⟩) := by
  pointwise []
theorem tap0_0 (k : Fin 256) : (View.ld cw (Rect.unit ![0, 0] ![1, 256] inb_S3x1024_S1x256_0_0)) (ix2 0 k) = cw (ix2 0 ⟨0 + k.val, by omega⟩) := by
  pointwise []
theorem tap0_1 (k : Fin 256) : (View.ld cw (Rect.unit ![1, 0] ![1, 256] inb_S3x1024_S1x256_1_0)) (ix2 0 k) = cw (ix2 1 ⟨0 + k.val, by omega⟩) := by
  pointwise []
theorem tap0_2 (k : Fin 256) : (View.ld cw (Rect.unit ![2, 0] ![1, 256] inb_S3x1024_S1x256_2_0)) (ix2 0 k) = cw (ix2 2 ⟨0 + k.val, by omega⟩) := by
  pointwise []
theorem bias0_at (k : Fin 256) : (View.ld cb (Rect.unit ![0, 0] ![1, 256] inb_S1x1024_S1x256_0_0)) (ix2 0 k) = cb (ix2 0 ⟨0 + k.val, by omega⟩) := by
  pointwise []
theorem chunk1_at (w : Vec Ideal S1024x1024 .bf16) (x : Fin 1024) (k : Fin 256) :
    (View.ld w (Rect.unit ![0, 256] ![1024, 256] inb_S1024x1024_S1024x256_0_256)) (ix2 x k) = w (ix2 x ⟨256 + k.val, by omega⟩) := by
  pointwise []
theorem tap1_0 (k : Fin 256) : (View.ld cw (Rect.unit ![0, 256] ![1, 256] inb_S3x1024_S1x256_0_256)) (ix2 0 k) = cw (ix2 0 ⟨256 + k.val, by omega⟩) := by
  pointwise []
theorem tap1_1 (k : Fin 256) : (View.ld cw (Rect.unit ![1, 256] ![1, 256] inb_S3x1024_S1x256_1_256)) (ix2 0 k) = cw (ix2 1 ⟨256 + k.val, by omega⟩) := by
  pointwise []
theorem tap1_2 (k : Fin 256) : (View.ld cw (Rect.unit ![2, 256] ![1, 256] inb_S3x1024_S1x256_2_256)) (ix2 0 k) = cw (ix2 2 ⟨256 + k.val, by omega⟩) := by
  pointwise []
theorem bias1_at (k : Fin 256) : (View.ld cb (Rect.unit ![0, 256] ![1, 256] inb_S1x1024_S1x256_0_256)) (ix2 0 k) = cb (ix2 0 ⟨256 + k.val, by omega⟩) := by
  pointwise []
theorem chunk2_at (w : Vec Ideal S1024x1024 .bf16) (x : Fin 1024) (k : Fin 256) :
    (View.ld w (Rect.unit ![0, 512] ![1024, 256] inb_S1024x1024_S1024x256_0_512)) (ix2 x k) = w (ix2 x ⟨512 + k.val, by omega⟩) := by
  pointwise []
theorem tap2_0 (k : Fin 256) : (View.ld cw (Rect.unit ![0, 512] ![1, 256] inb_S3x1024_S1x256_0_512)) (ix2 0 k) = cw (ix2 0 ⟨512 + k.val, by omega⟩) := by
  pointwise []
theorem tap2_1 (k : Fin 256) : (View.ld cw (Rect.unit ![1, 512] ![1, 256] inb_S3x1024_S1x256_1_512)) (ix2 0 k) = cw (ix2 1 ⟨512 + k.val, by omega⟩) := by
  pointwise []
theorem tap2_2 (k : Fin 256) : (View.ld cw (Rect.unit ![2, 512] ![1, 256] inb_S3x1024_S1x256_2_512)) (ix2 0 k) = cw (ix2 2 ⟨512 + k.val, by omega⟩) := by
  pointwise []
theorem bias2_at (k : Fin 256) : (View.ld cb (Rect.unit ![0, 512] ![1, 256] inb_S1x1024_S1x256_0_512)) (ix2 0 k) = cb (ix2 0 ⟨512 + k.val, by omega⟩) := by
  pointwise []
theorem chunk3_at (w : Vec Ideal S1024x1024 .bf16) (x : Fin 1024) (k : Fin 256) :
    (View.ld w (Rect.unit ![0, 768] ![1024, 256] inb_S1024x1024_S1024x256_0_768)) (ix2 x k) = w (ix2 x ⟨768 + k.val, by omega⟩) := by
  pointwise []
theorem tap3_0 (k : Fin 256) : (View.ld cw (Rect.unit ![0, 768] ![1, 256] inb_S3x1024_S1x256_0_768)) (ix2 0 k) = cw (ix2 0 ⟨768 + k.val, by omega⟩) := by
  pointwise []
theorem tap3_1 (k : Fin 256) : (View.ld cw (Rect.unit ![1, 768] ![1, 256] inb_S3x1024_S1x256_1_768)) (ix2 0 k) = cw (ix2 1 ⟨768 + k.val, by omega⟩) := by
  pointwise []
theorem tap3_2 (k : Fin 256) : (View.ld cw (Rect.unit ![2, 768] ![1, 256] inb_S3x1024_S1x256_2_768)) (ix2 0 k) = cw (ix2 2 ⟨768 + k.val, by omega⟩) := by
  pointwise []
theorem bias3_at (k : Fin 256) : (View.ld cb (Rect.unit ![0, 768] ![1, 256] inb_S1x1024_S1x256_0_768)) (ix2 0 k) = cb (ix2 0 ⟨768 + k.val, by omega⟩) := by
  pointwise []

theorem piecesH : View.PiecesOf (gateBuf i h hh wg) (leftH i hh wg) := by
  refine ⟨fun (x : S8x1024.Idx) => ?_, trivial⟩
  rw [show x = ix2 (x 0) (x 1) from eq_ix2 x]
  refine (halo_gate i hh wg (x 0) (x 1)).trans ((gateRow_halo i h hh wg (x 0) (x 1)).symm.trans ?_)
  unfold gateBuf
  congr 1
  · simp
  · refine Fin.ext ?_
    simp
theorem pieces0 : View.PiecesOf (gateBuf i h hh wg) (left0 i h hh wg) := by
  refine ⟨fun (x : S1024x256.Idx) => ?_, piecesH i h hh wg⟩
  rw [show x = ix2 (x 0) (x 1) from eq_ix2 x]
  refine (kept0 h _ (x 0) (x 1)).trans (Eq.trans ?_ ((gateRow_tile i h hh wg (x 0) ⟨0 + (x 1).val, by have := (x 1).isLt; change (x 1).val < 256 at this; omega⟩).symm.trans ?_))
  · exact Finset.sum_congr rfl fun y _ => congrArg (h (ix2 (x 0) y) * ·) (chunk0_at wg y (x 1))
  unfold gateBuf
  congr 1
  · simp
  · refine Fin.ext ?_
    simp
theorem pieces1 : View.PiecesOf (gateBuf i h hh wg) (left1 i h hh wg) := by
  refine ⟨fun (x : S1024x256.Idx) => ?_, pieces0 i h hh wg⟩
  rw [show x = ix2 (x 0) (x 1) from eq_ix2 x]
  refine (kept1 h _ (x 0) (x 1)).trans (Eq.trans ?_ ((gateRow_tile i h hh wg (x 0) ⟨256 + (x 1).val, by have := (x 1).isLt; change (x 1).val < 256 at this; omega⟩).symm.trans ?_))
  · exact Finset.sum_congr rfl fun y _ => congrArg (h (ix2 (x 0) y) * ·) (chunk1_at wg y (x 1))
  unfold gateBuf
  congr 1
  · simp
  · refine Fin.ext ?_
    simp
theorem pieces2 : View.PiecesOf (gateBuf i h hh wg) (left2 i h hh wg) := by
  refine ⟨fun (x : S1024x256.Idx) => ?_, pieces1 i h hh wg⟩
  rw [show x = ix2 (x 0) (x 1) from eq_ix2 x]
  refine (kept2 h _ (x 0) (x 1)).trans (Eq.trans ?_ ((gateRow_tile i h hh wg (x 0) ⟨512 + (x 1).val, by have := (x 1).isLt; change (x 1).val < 256 at this; omega⟩).symm.trans ?_))
  · exact Finset.sum_congr rfl fun y _ => congrArg (h (ix2 (x 0) y) * ·) (chunk2_at wg y (x 1))
  unfold gateBuf
  congr 1
  · simp
  · refine Fin.ext ?_
    simp
theorem pieces3 : View.PiecesOf (gateBuf i h hh wg) (left3 i h hh wg) := by
  refine ⟨fun (x : S1024x256.Idx) => ?_, pieces2 i h hh wg⟩
  rw [show x = ix2 (x 0) (x 1) from eq_ix2 x]
  refine (kept3 h _ (x 0) (x 1)).trans (Eq.trans ?_ ((gateRow_tile i h hh wg (x 0) ⟨768 + (x 1).val, by have := (x 1).isLt; change (x 1).val < 256 at this; omega⟩).symm.trans ?_))
  · exact Finset.sum_congr rfl fun y _ => congrArg (h (ix2 (x 0) y) * ·) (chunk3_at wg y (x 1))
  unfold gateBuf
  congr 1
  · simp
  · refine Fin.ext ?_
    simp

theorem mem_halo (R : Fin 1032) (K : Fin 1024) (hr : R.val < 8) :
    (ix2 R K : S1032x1024.Idx) ∈ (Rect.unit (s := S1032x1024) ![0, 0] ![8, 1024] inb_S1032x1024_S8x1024_0_0).set := by
  have := K.isLt
  refine Rect.mem_set_unit.mpr (Fin.forall_fin_two.mpr ⟨?_, ?_⟩)
  · exact ⟨Nat.zero_le _, by show R.val < 0 + 8; omega⟩
  · exact ⟨Nat.zero_le _, by show K.val < 0 + 1024; omega⟩
theorem mem0 (R : Fin 1032) (K : Fin 1024) (hr : 8 ≤ R.val) (hk : 0 ≤ K.val) (hk' : K.val < 256) :
    (ix2 R K : S1032x1024.Idx) ∈ (Rect.unit (s := S1032x1024) ![8, 0] ![1024, 256] inb_S1032x1024_S1024x256_8_0).set := by
  have := R.isLt
  refine Rect.mem_set_unit.mpr (Fin.forall_fin_two.mpr ⟨?_, ?_⟩)
  · exact ⟨hr, by show R.val < 8 + 1024; omega⟩
  · exact ⟨hk, by show K.val < 0 + 256; omega⟩
theorem mem1 (R : Fin 1032) (K : Fin 1024) (hr : 8 ≤ R.val) (hk : 256 ≤ K.val) (hk' : K.val < 512) :
    (ix2 R K : S1032x1024.Idx) ∈ (Rect.unit (s := S1032x1024) ![8, 256] ![1024, 256] inb_S1032x1024_S1024x256_8_256).set := by
  have := R.isLt
  refine Rect.mem_set_unit.mpr (Fin.forall_fin_two.mpr ⟨?_, ?_⟩)
  · exact ⟨hr, by show R.val < 8 + 1024; omega⟩
  · exact ⟨hk, by show K.val < 256 + 256; omega⟩
theorem mem2 (R : Fin 1032) (K : Fin 1024) (hr : 8 ≤ R.val) (hk : 512 ≤ K.val) (hk' : K.val < 768) :
    (ix2 R K : S1032x1024.Idx) ∈ (Rect.unit (s := S1032x1024) ![8, 512] ![1024, 256] inb_S1032x1024_S1024x256_8_512).set := by
  have := R.isLt
  refine Rect.mem_set_unit.mpr (Fin.forall_fin_two.mpr ⟨?_, ?_⟩)
  · exact ⟨hr, by show R.val < 8 + 1024; omega⟩
  · exact ⟨hk, by show K.val < 512 + 256; omega⟩
theorem mem3 (R : Fin 1032) (K : Fin 1024) (hr : 8 ≤ R.val) (hk : 768 ≤ K.val) (hk' : K.val < 1024) :
    (ix2 R K : S1032x1024.Idx) ∈ (Rect.unit (s := S1032x1024) ![8, 768] ![1024, 256] inb_S1032x1024_S1024x256_8_768).set := by
  have := R.isLt
  refine Rect.mem_set_unit.mpr (Fin.forall_fin_two.mpr ⟨?_, ?_⟩)
  · exact ⟨hr, by show R.val < 8 + 1024; omega⟩
  · exact ⟨hk, by show K.val < 768 + 256; omega⟩
theorem back2_0_at (r : Fin 1024) (k : Fin 256) :
    back2_0 i h hh wg (ix2 r k) = gateRow i h hh wg (6 + r.val) ⟨0 + k.val, by omega⟩ := by
  have he : box2_0.toLoadRect.idx (ix2 r k) = (ix2 ⟨6 + r.val, by omega⟩ ⟨0 + k.val, by omega⟩ : S1032x1024.Idx) := by
    refine funext fun a => Fin.ext ?_
    match a with
    | ⟨0, _⟩ => exact congrArg (6 + ·) (Nat.one_mul r.val)
    | ⟨1, _⟩ => exact congrArg (0 + ·) (Nat.one_mul k.val)
  have hc : ∃ p ∈ left0 i h hh wg, (ix2 ⟨6 + r.val, by omega⟩ ⟨0 + k.val, by omega⟩ : S1032x1024.Idx) ∈ p.1.set := by
    by_cases hr : 6 + r.val < 8
    · exact ⟨_, List.mem_cons_of_mem _ (List.mem_singleton.mpr rfl), mem_halo _ _ hr⟩
    · exact ⟨_, List.mem_cons_self, mem0 _ _ (by dsimp only; omega) (by dsimp only; omega) (by dsimp only; omega)⟩
  have hp := View.canon_append_of_piecesOf (gateBuf i h hh wg) [] (left0 i h hh wg) (pieces0 i h hh wg) _ hc
  rw [List.append_nil] at hp
  refine (congrFun (View.readCov_eq_canon' (View.whole cc0_scratch2) (left0 i h hh wg) box2_0.toLoadRect) (ix2 r k)).trans ?_
  exact (congrArg (View.canon (left0 i h hh wg)) he).trans hp
theorem back1_0_at (r : Fin 1024) (k : Fin 256) :
    back1_0 i h hh wg (ix2 r k) = gateRow i h hh wg (7 + r.val) ⟨0 + k.val, by omega⟩ := by
  have he : box1_0.toLoadRect.idx (ix2 r k) = (ix2 ⟨7 + r.val, by omega⟩ ⟨0 + k.val, by omega⟩ : S1032x1024.Idx) := by
    refine funext fun a => Fin.ext ?_
    match a with
    | ⟨0, _⟩ => exact congrArg (7 + ·) (Nat.one_mul r.val)
    | ⟨1, _⟩ => exact congrArg (0 + ·) (Nat.one_mul k.val)
  have hc : ∃ p ∈ left0 i h hh wg, (ix2 ⟨7 + r.val, by omega⟩ ⟨0 + k.val, by omega⟩ : S1032x1024.Idx) ∈ p.1.set := by
    by_cases hr : 7 + r.val < 8
    · exact ⟨_, List.mem_cons_of_mem _ (List.mem_singleton.mpr rfl), mem_halo _ _ hr⟩
    · exact ⟨_, List.mem_cons_self, mem0 _ _ (by dsimp only; omega) (by dsimp only; omega) (by dsimp only; omega)⟩
  have hp := View.canon_append_of_piecesOf (gateBuf i h hh wg) [] (left0 i h hh wg) (pieces0 i h hh wg) _ hc
  rw [List.append_nil] at hp
  refine (congrFun (View.readCov_eq_canon' (View.whole cc0_scratch2) (left0 i h hh wg) box1_0.toLoadRect) (ix2 r k)).trans ?_
  exact (congrArg (View.canon (left0 i h hh wg)) he).trans hp
theorem back2_1_at (r : Fin 1024) (k : Fin 256) :
    back2_1 i h hh wg (ix2 r k) = gateRow i h hh wg (6 + r.val) ⟨256 + k.val, by omega⟩ := by
  have he : box2_1.toLoadRect.idx (ix2 r k) = (ix2 ⟨6 + r.val, by omega⟩ ⟨256 + k.val, by omega⟩ : S1032x1024.Idx) := by
    refine funext fun a => Fin.ext ?_
    match a with
    | ⟨0, _⟩ => exact congrArg (6 + ·) (Nat.one_mul r.val)
    | ⟨1, _⟩ => exact congrArg (256 + ·) (Nat.one_mul k.val)
  have hc : ∃ p ∈ left1 i h hh wg, (ix2 ⟨6 + r.val, by omega⟩ ⟨256 + k.val, by omega⟩ : S1032x1024.Idx) ∈ p.1.set := by
    by_cases hr : 6 + r.val < 8
    · exact ⟨_, List.mem_cons_of_mem _ (List.mem_cons_of_mem _ (List.mem_singleton.mpr rfl)), mem_halo _ _ hr⟩
    · exact ⟨_, List.mem_cons_self, mem1 _ _ (by dsimp only; omega) (by dsimp only; omega) (by dsimp only; omega)⟩
  have hp := View.canon_append_of_piecesOf (gateBuf i h hh wg) [] (left1 i h hh wg) (pieces1 i h hh wg) _ hc
  rw [List.append_nil] at hp
  refine (congrFun (View.readCov_eq_canon' (View.whole cc0_scratch2) (left1 i h hh wg) box2_1.toLoadRect) (ix2 r k)).trans ?_
  exact (congrArg (View.canon (left1 i h hh wg)) he).trans hp
theorem back1_1_at (r : Fin 1024) (k : Fin 256) :
    back1_1 i h hh wg (ix2 r k) = gateRow i h hh wg (7 + r.val) ⟨256 + k.val, by omega⟩ := by
  have he : box1_1.toLoadRect.idx (ix2 r k) = (ix2 ⟨7 + r.val, by omega⟩ ⟨256 + k.val, by omega⟩ : S1032x1024.Idx) := by
    refine funext fun a => Fin.ext ?_
    match a with
    | ⟨0, _⟩ => exact congrArg (7 + ·) (Nat.one_mul r.val)
    | ⟨1, _⟩ => exact congrArg (256 + ·) (Nat.one_mul k.val)
  have hc : ∃ p ∈ left1 i h hh wg, (ix2 ⟨7 + r.val, by omega⟩ ⟨256 + k.val, by omega⟩ : S1032x1024.Idx) ∈ p.1.set := by
    by_cases hr : 7 + r.val < 8
    · exact ⟨_, List.mem_cons_of_mem _ (List.mem_cons_of_mem _ (List.mem_singleton.mpr rfl)), mem_halo _ _ hr⟩
    · exact ⟨_, List.mem_cons_self, mem1 _ _ (by dsimp only; omega) (by dsimp only; omega) (by dsimp only; omega)⟩
  have hp := View.canon_append_of_piecesOf (gateBuf i h hh wg) [] (left1 i h hh wg) (pieces1 i h hh wg) _ hc
  rw [List.append_nil] at hp
  refine (congrFun (View.readCov_eq_canon' (View.whole cc0_scratch2) (left1 i h hh wg) box1_1.toLoadRect) (ix2 r k)).trans ?_
  exact (congrArg (View.canon (left1 i h hh wg)) he).trans hp
theorem back2_2_at (r : Fin 1024) (k : Fin 256) :
    back2_2 i h hh wg (ix2 r k) = gateRow i h hh wg (6 + r.val) ⟨512 + k.val, by omega⟩ := by
  have he : box2_2.toLoadRect.idx (ix2 r k) = (ix2 ⟨6 + r.val, by omega⟩ ⟨512 + k.val, by omega⟩ : S1032x1024.Idx) := by
    refine funext fun a => Fin.ext ?_
    match a with
    | ⟨0, _⟩ => exact congrArg (6 + ·) (Nat.one_mul r.val)
    | ⟨1, _⟩ => exact congrArg (512 + ·) (Nat.one_mul k.val)
  have hc : ∃ p ∈ left2 i h hh wg, (ix2 ⟨6 + r.val, by omega⟩ ⟨512 + k.val, by omega⟩ : S1032x1024.Idx) ∈ p.1.set := by
    by_cases hr : 6 + r.val < 8
    · exact ⟨_, List.mem_cons_of_mem _ (List.mem_cons_of_mem _ (List.mem_cons_of_mem _ (List.mem_singleton.mpr rfl))), mem_halo _ _ hr⟩
    · exact ⟨_, List.mem_cons_self, mem2 _ _ (by dsimp only; omega) (by dsimp only; omega) (by dsimp only; omega)⟩
  have hp := View.canon_append_of_piecesOf (gateBuf i h hh wg) [] (left2 i h hh wg) (pieces2 i h hh wg) _ hc
  rw [List.append_nil] at hp
  refine (congrFun (View.readCov_eq_canon' (View.whole cc0_scratch2) (left2 i h hh wg) box2_2.toLoadRect) (ix2 r k)).trans ?_
  exact (congrArg (View.canon (left2 i h hh wg)) he).trans hp
theorem back1_2_at (r : Fin 1024) (k : Fin 256) :
    back1_2 i h hh wg (ix2 r k) = gateRow i h hh wg (7 + r.val) ⟨512 + k.val, by omega⟩ := by
  have he : box1_2.toLoadRect.idx (ix2 r k) = (ix2 ⟨7 + r.val, by omega⟩ ⟨512 + k.val, by omega⟩ : S1032x1024.Idx) := by
    refine funext fun a => Fin.ext ?_
    match a with
    | ⟨0, _⟩ => exact congrArg (7 + ·) (Nat.one_mul r.val)
    | ⟨1, _⟩ => exact congrArg (512 + ·) (Nat.one_mul k.val)
  have hc : ∃ p ∈ left2 i h hh wg, (ix2 ⟨7 + r.val, by omega⟩ ⟨512 + k.val, by omega⟩ : S1032x1024.Idx) ∈ p.1.set := by
    by_cases hr : 7 + r.val < 8
    · exact ⟨_, List.mem_cons_of_mem _ (List.mem_cons_of_mem _ (List.mem_cons_of_mem _ (List.mem_singleton.mpr rfl))), mem_halo _ _ hr⟩
    · exact ⟨_, List.mem_cons_self, mem2 _ _ (by dsimp only; omega) (by dsimp only; omega) (by dsimp only; omega)⟩
  have hp := View.canon_append_of_piecesOf (gateBuf i h hh wg) [] (left2 i h hh wg) (pieces2 i h hh wg) _ hc
  rw [List.append_nil] at hp
  refine (congrFun (View.readCov_eq_canon' (View.whole cc0_scratch2) (left2 i h hh wg) box1_2.toLoadRect) (ix2 r k)).trans ?_
  exact (congrArg (View.canon (left2 i h hh wg)) he).trans hp
theorem back2_3_at (r : Fin 1024) (k : Fin 256) :
    back2_3 i h hh wg (ix2 r k) = gateRow i h hh wg (6 + r.val) ⟨768 + k.val, by omega⟩ := by
  have he : box2_3.toLoadRect.idx (ix2 r k) = (ix2 ⟨6 + r.val, by omega⟩ ⟨768 + k.val, by omega⟩ : S1032x1024.Idx) := by
    refine funext fun a => Fin.ext ?_
    match a with
    | ⟨0, _⟩ => exact congrArg (6 + ·) (Nat.one_mul r.val)
    | ⟨1, _⟩ => exact congrArg (768 + ·) (Nat.one_mul k.val)
  have hc : ∃ p ∈ left3 i h hh wg, (ix2 ⟨6 + r.val, by omega⟩ ⟨768 + k.val, by omega⟩ : S1032x1024.Idx) ∈ p.1.set := by
    by_cases hr : 6 + r.val < 8
    · exact ⟨_, List.mem_cons_of_mem _ (List.mem_cons_of_mem _ (List.mem_cons_of_mem _ (List.mem_cons_of_mem _ (List.mem_singleton.mpr rfl)))), mem_halo _ _ hr⟩
    · exact ⟨_, List.mem_cons_self, mem3 _ _ (by dsimp only; omega) (by dsimp only; omega) (by dsimp only; omega)⟩
  have hp := View.canon_append_of_piecesOf (gateBuf i h hh wg) [] (left3 i h hh wg) (pieces3 i h hh wg) _ hc
  rw [List.append_nil] at hp
  refine (congrFun (View.readCov_eq_canon' (View.whole cc0_scratch2) (left3 i h hh wg) box2_3.toLoadRect) (ix2 r k)).trans ?_
  exact (congrArg (View.canon (left3 i h hh wg)) he).trans hp
theorem back1_3_at (r : Fin 1024) (k : Fin 256) :
    back1_3 i h hh wg (ix2 r k) = gateRow i h hh wg (7 + r.val) ⟨768 + k.val, by omega⟩ := by
  have he : box1_3.toLoadRect.idx (ix2 r k) = (ix2 ⟨7 + r.val, by omega⟩ ⟨768 + k.val, by omega⟩ : S1032x1024.Idx) := by
    refine funext fun a => Fin.ext ?_
    match a with
    | ⟨0, _⟩ => exact congrArg (7 + ·) (Nat.one_mul r.val)
    | ⟨1, _⟩ => exact congrArg (768 + ·) (Nat.one_mul k.val)
  have hc : ∃ p ∈ left3 i h hh wg, (ix2 ⟨7 + r.val, by omega⟩ ⟨768 + k.val, by omega⟩ : S1032x1024.Idx) ∈ p.1.set := by
    by_cases hr : 7 + r.val < 8
    · exact ⟨_, List.mem_cons_of_mem _ (List.mem_cons_of_mem _ (List.mem_cons_of_mem _ (List.mem_cons_of_mem _ (List.mem_singleton.mpr rfl)))), mem_halo _ _ hr⟩
    · exact ⟨_, List.mem_cons_self, mem3 _ _ (by dsimp only; omega) (by dsimp only; omega) (by dsimp only; omega)⟩
  have hp := View.canon_append_of_piecesOf (gateBuf i h hh wg) [] (left3 i h hh wg) (pieces3 i h hh wg) _ hc
  rw [List.append_nil] at hp
  refine (congrFun (View.readCov_eq_canon' (View.whole cc0_scratch2) (left3 i h hh wg) box1_3.toLoadRect) (ix2 r k)).trans ?_
  exact (congrArg (View.canon (left3 i h hh wg)) he).trans hp

/-- An entry of the gated product, column `k` of the chunk of columns the step holds. -/
def act (r k : Fin 1024) : EReal :=
  gelu (conv (cw (ix2 0 k)) (cw (ix2 1 k)) (cw (ix2 2 k)) (cb (ix2 0 k)) (gateRow i h hh wg (6 + r.val) k) (gateRow i h hh wg (7 + r.val) k)
    (∑ x : Fin 1024, h (ix2 r x) * wg (ix2 x k))) * ∑ x : Fin 1024, h (ix2 r x) * wu (ix2 x k)

theorem side_eq (f0 f1 f2 f3 : Fin 256 → EReal) (f : Fin 1024 → EReal)
    (e0 : ∀ k : Fin 256, f0 k = f ⟨0 + k.val, by omega⟩) (e1 : ∀ k : Fin 256, f1 k = f ⟨256 + k.val, by omega⟩)
    (e2 : ∀ k : Fin 256, f2 k = f ⟨512 + k.val, by omega⟩) (e3 : ∀ k : Fin 256, f3 k = f ⟨768 + k.val, by omega⟩) (k : Fin 1024) :
    side f0 f1 f2 f3 k = f k := by
  unfold side
  split_ifs
  · rw [e0]; exact congrArg f (Fin.ext (by simp))
  · rw [e1]; exact congrArg f (Fin.ext (by simp; omega))
  · rw [e2]; exact congrArg f (Fin.ext (by simp; omega))
  · rw [e3]; exact congrArg f (Fin.ext (by simp; omega))

theorem act0 (r : Fin 1024) (k : Fin 256) :
    gated (back2_0 i h hh wg) (back1_0 i h hh wg) (k0_pay7 h (View.ld wg (Rect.unit ![0, 0] ![1024, 256] inb_S1024x1024_S1024x256_0_0))) (View.ld cw (Rect.unit ![0, 0] ![1, 256] inb_S3x1024_S1x256_0_0)) (View.ld cw (Rect.unit ![1, 0] ![1, 256] inb_S3x1024_S1x256_1_0)) (View.ld cw (Rect.unit ![2, 0] ![1, 256] inb_S3x1024_S1x256_2_0)) (View.ld cb (Rect.unit ![0, 0] ![1, 256] inb_S1x1024_S1x256_0_0)) h (View.ld wu (Rect.unit ![0, 0] ![1024, 256] inb_S1024x1024_S1024x256_0_0)) r k
      = act i h hh wg wu cw cb r ⟨0 + k.val, by omega⟩ := by
  unfold gated act
  rw [tap0_0, tap0_1, tap0_2, bias0_at, back2_0_at, back1_0_at, gate0]
  have e (w : Vec Ideal S1024x1024 .bf16) : (∑ x : Fin 1024, h (ix2 r x) * (View.ld w (Rect.unit ![0, 0] ![1024, 256] inb_S1024x1024_S1024x256_0_0)) (ix2 x k)) = ∑ x : Fin 1024, h (ix2 r x) * w (ix2 x ⟨0 + k.val, by omega⟩) :=
    Finset.sum_congr rfl fun x _ => congrArg (h (ix2 r x) * ·) (chunk0_at w x k)
  exact congrArg₂ (· * ·) (congrArg gelu (congrArg (conv _ _ _ _ _ _) (e wg))) (e wu)

theorem act1 (r : Fin 1024) (k : Fin 256) :
    gated (back2_1 i h hh wg) (back1_1 i h hh wg) (k0_pay11 h (View.ld wg (Rect.unit ![0, 256] ![1024, 256] inb_S1024x1024_S1024x256_0_256))) (View.ld cw (Rect.unit ![0, 256] ![1, 256] inb_S3x1024_S1x256_0_256)) (View.ld cw (Rect.unit ![1, 256] ![1, 256] inb_S3x1024_S1x256_1_256)) (View.ld cw (Rect.unit ![2, 256] ![1, 256] inb_S3x1024_S1x256_2_256)) (View.ld cb (Rect.unit ![0, 256] ![1, 256] inb_S1x1024_S1x256_0_256)) h (View.ld wu (Rect.unit ![0, 256] ![1024, 256] inb_S1024x1024_S1024x256_0_256)) r k
      = act i h hh wg wu cw cb r ⟨256 + k.val, by omega⟩ := by
  unfold gated act
  rw [tap1_0, tap1_1, tap1_2, bias1_at, back2_1_at, back1_1_at, gate1]
  have e (w : Vec Ideal S1024x1024 .bf16) : (∑ x : Fin 1024, h (ix2 r x) * (View.ld w (Rect.unit ![0, 256] ![1024, 256] inb_S1024x1024_S1024x256_0_256)) (ix2 x k)) = ∑ x : Fin 1024, h (ix2 r x) * w (ix2 x ⟨256 + k.val, by omega⟩) :=
    Finset.sum_congr rfl fun x _ => congrArg (h (ix2 r x) * ·) (chunk1_at w x k)
  exact congrArg₂ (· * ·) (congrArg gelu (congrArg (conv _ _ _ _ _ _) (e wg))) (e wu)

theorem act2 (r : Fin 1024) (k : Fin 256) :
    gated (back2_2 i h hh wg) (back1_2 i h hh wg) (k0_pay17 h (View.ld wg (Rect.unit ![0, 512] ![1024, 256] inb_S1024x1024_S1024x256_0_512))) (View.ld cw (Rect.unit ![0, 512] ![1, 256] inb_S3x1024_S1x256_0_512)) (View.ld cw (Rect.unit ![1, 512] ![1, 256] inb_S3x1024_S1x256_1_512)) (View.ld cw (Rect.unit ![2, 512] ![1, 256] inb_S3x1024_S1x256_2_512)) (View.ld cb (Rect.unit ![0, 512] ![1, 256] inb_S1x1024_S1x256_0_512)) h (View.ld wu (Rect.unit ![0, 512] ![1024, 256] inb_S1024x1024_S1024x256_0_512)) r k
      = act i h hh wg wu cw cb r ⟨512 + k.val, by omega⟩ := by
  unfold gated act
  rw [tap2_0, tap2_1, tap2_2, bias2_at, back2_2_at, back1_2_at, gate2]
  have e (w : Vec Ideal S1024x1024 .bf16) : (∑ x : Fin 1024, h (ix2 r x) * (View.ld w (Rect.unit ![0, 512] ![1024, 256] inb_S1024x1024_S1024x256_0_512)) (ix2 x k)) = ∑ x : Fin 1024, h (ix2 r x) * w (ix2 x ⟨512 + k.val, by omega⟩) :=
    Finset.sum_congr rfl fun x _ => congrArg (h (ix2 r x) * ·) (chunk2_at w x k)
  exact congrArg₂ (· * ·) (congrArg gelu (congrArg (conv _ _ _ _ _ _) (e wg))) (e wu)

theorem act3 (r : Fin 1024) (k : Fin 256) :
    gated (back2_3 i h hh wg) (back1_3 i h hh wg) (k0_pay21 h (View.ld wg (Rect.unit ![0, 768] ![1024, 256] inb_S1024x1024_S1024x256_0_768))) (View.ld cw (Rect.unit ![0, 768] ![1, 256] inb_S3x1024_S1x256_0_768)) (View.ld cw (Rect.unit ![1, 768] ![1, 256] inb_S3x1024_S1x256_1_768)) (View.ld cw (Rect.unit ![2, 768] ![1, 256] inb_S3x1024_S1x256_2_768)) (View.ld cb (Rect.unit ![0, 768] ![1, 256] inb_S1x1024_S1x256_0_768)) h (View.ld wu (Rect.unit ![0, 768] ![1024, 256] inb_S1024x1024_S1024x256_0_768)) r k
      = act i h hh wg wu cw cb r ⟨768 + k.val, by omega⟩ := by
  unfold gated act
  rw [tap3_0, tap3_1, tap3_2, bias3_at, back2_3_at, back1_3_at, gate3]
  have e (w : Vec Ideal S1024x1024 .bf16) : (∑ x : Fin 1024, h (ix2 r x) * (View.ld w (Rect.unit ![0, 768] ![1024, 256] inb_S1024x1024_S1024x256_0_768)) (ix2 x k)) = ∑ x : Fin 1024, h (ix2 r x) * w (ix2 x ⟨768 + k.val, by omega⟩) :=
    Finset.sum_congr rfl fun x _ => congrArg (h (ix2 r x) * ·) (chunk3_at w x k)
  exact congrArg₂ (· * ·) (congrArg gelu (congrArg (conv _ _ _ _ _ _) (e wg))) (e wu)

theorem stepAcc_at (r d : Fin 1024) :
    stepAcc i h hh wg wu cw cb wd acc (ix2 r d) = acc (ix2 r d) + ∑ k : Fin 1024, act i h hh wg wu cw cb r k * wd (ix2 k d) := by
  unfold stepAcc
  rw [summed]
  refine congrArg (acc (ix2 r d) + ·) (Finset.sum_congr rfl fun k _ => congrArg (· * wd (ix2 k d)) ?_)
  refine side_eq _ _ _ _ (act i h hh wg wu cw cb r) (fun k => ?_) (fun k => ?_) (fun k => ?_) (fun k => ?_) k
  · exact (gated0 _ _ _ _ _ _ _ _ _ r k).trans (act0 i h hh wg wu cw cb r k)
  · exact (gated1 _ _ _ _ _ _ _ _ _ r k).trans (act1 i h hh wg wu cw cb r k)
  · exact (gated2 _ _ _ _ _ _ _ _ _ r k).trans (act2 i h hh wg wu cw cb r k)
  · exact act3 i h hh wg wu cw cb r k

end

variable (m : (ℓ : Loc nD τ sig) → Buf (Elt Ideal) ℓ)

/-- What a tile's first step leaves. -/
theorem stepA (c : Dev nD) (t : Fin cfg0.N) (h0 : t.val % 3 = 0) (h1 : ¬t.val % 3 = 2) :
    (outsAt0 m c t.val t.isLt).2.2.2 = stepAcc (grid0.coords t) (k0_pay3 (iblk m c 0 t) (iblk m c 2 t)) (k0_pay4 (iblk m c 1 t) (iblk m c 2 t)) (iblk m c 4 t) (iblk m c 5 t) (iblk m c 6 t) (iblk m c 7 t) (iblk m c 8 t) (k0_pay5 (F := Ideal))
    ∧ (outsAt0 m c t.val t.isLt).2.1 = (k0_pay3 (iblk m c 0 t) (iblk m c 2 t)) ∧ (outsAt0 m c t.val t.isLt).2.2.1 = (k0_pay4 (iblk m c 1 t) (iblk m c 2 t)) := by
  rw [outsAt0_A m c t h0 h1]
  frame_open
  simp (disch := decide) only [↓ View.readCov_skip, ↓ View.readCov_cons_toLoadRect, ↓ View.readCov_fill]
  frame_out
  exact ⟨trivial, trivial, trivial⟩

/-- What a tile's second step leaves. -/
theorem stepB (c : Dev nD) (t : Fin cfg0.N) (h0 : ¬t.val % 3 = 0) (h1 : ¬t.val % 3 = 2) :
    (outsAt0 m c t.val t.isLt).2.2.2
      = stepAcc (grid0.coords t) (outsAt0 m c (t.val - 1) (Nat.lt_of_le_of_lt (Nat.sub_le _ _) t.isLt)).2.1 (outsAt0 m c (t.val - 1) (Nat.lt_of_le_of_lt (Nat.sub_le _ _) t.isLt)).2.2.1 (iblk m c 4 t) (iblk m c 5 t) (iblk m c 6 t) (iblk m c 7 t) (iblk m c 8 t) (outsAt0 m c (t.val - 1) (Nat.lt_of_le_of_lt (Nat.sub_le _ _) t.isLt)).2.2.2
    ∧ (outsAt0 m c t.val t.isLt).2.1 = (outsAt0 m c (t.val - 1) (Nat.lt_of_le_of_lt (Nat.sub_le _ _) t.isLt)).2.1 ∧ (outsAt0 m c t.val t.isLt).2.2.1 = (outsAt0 m c (t.val - 1) (Nat.lt_of_le_of_lt (Nat.sub_le _ _) t.isLt)).2.2.1 := by
  rw [outsAt0_B m c t h0 h1]
  frame_open
  simp (disch := decide) only [↓ View.readCov_skip, ↓ View.readCov_cons_toLoadRect, ↓ View.readCov_fill]
  frame_out
  simp only [read_unread_whole]
  exact ⟨trivial, rfl, rfl⟩

/-- What a tile's last step leaves. -/
theorem stepC (c : Dev nD) (t : Fin cfg0.N) (h0 : ¬t.val % 3 = 0) (h1 : t.val % 3 = 2) :
    (outsAt0 m c t.val t.isLt).1
      = k0_pay2 (iblk m c 0 t) (stepAcc (grid0.coords t) (outsAt0 m c (t.val - 1) (Nat.lt_of_le_of_lt (Nat.sub_le _ _) t.isLt)).2.1 (outsAt0 m c (t.val - 1) (Nat.lt_of_le_of_lt (Nat.sub_le _ _) t.isLt)).2.2.1 (iblk m c 4 t) (iblk m c 5 t) (iblk m c 6 t) (iblk m c 7 t) (iblk m c 8 t) (outsAt0 m c (t.val - 1) (Nat.lt_of_le_of_lt (Nat.sub_le _ _) t.isLt)).2.2.2) := by
  rw [outsAt0_C m c t h0 h1]
  frame_open
  simp (disch := decide) only [↓ View.readCov_skip, ↓ View.readCov_cons_toLoadRect, ↓ View.readCov_fill]
  frame_out
  simp only [read_unread_whole]

end Cert.FfnIdeal.Ffn
-- ==== Proof.FfnArray.lean ====
module
public import proofs.«01_k».proof.Proof.FfnStep
@[expose] public section
set_option maxRecDepth 16384
noncomputable section
open Idealize.ShloMosaic Idealize.ShloMosaic.TcCoe Idealize.SL.Sem
namespace Cert.FfnIdeal.Ffn
open Cert.FfnIdeal Cert.FfnIdeal.Gen Cert.Ffn

/-! ## The array the call leaves, over its operands -/

section
variable (X : FVec Ideal S16384x1024 .f32) (G : FVec Ideal S1x1024 .f32) (WG WU : FVec Ideal S1024x3072 .bf16)
  (CW : FVec Ideal S3x3072 .f32) (CB : FVec Ideal S1x3072 .f32) (WD : FVec Ideal S3072x1024 .bf16)

/-- A normalised row. -/
def hRow (R : Fin 16384) (x : Fin 1024) : EReal := normed (fun j => X (ix2 R j)) (fun j => G (ix2 0 j)) x

/-- The gate at a row and a column. -/
def gateAt (R : Fin 16384) (K : Fin 3072) : EReal := ∑ x : Fin 1024, hRow X G R x * WG (ix2 x K)

/-- The gate `n` rows earlier in the same sequence, zero before its start. -/
def earlier (n : ℕ) (R : Fin 16384) (K : Fin 3072) : EReal :=
  if R.val % 4096 < n then 0 else gateAt X G WG ⟨R.val - n, by omega⟩ K

/-- The gated product. -/
def actAt (R : Fin 16384) (K : Fin 3072) : EReal :=
  gelu (conv (CW (ix2 0 K)) (CW (ix2 1 K)) (CW (ix2 2 K)) (CB (ix2 0 K)) (earlier X G WG 2 R K) (earlier X G WG 1 R K) (gateAt X G WG R K))
    * ∑ x : Fin 1024, hRow X G R x * WU (ix2 x K)

/-- One step's part of an output entry. -/
def part (f : Fin 3) (R : Fin 16384) (d : Fin 1024) : EReal :=
  ∑ k : Fin 1024, actAt X G WG WU CW CB R ⟨1024 * f.val + k.val, by omega⟩ * WD (ix2 ⟨1024 * f.val + k.val, by omega⟩ d)

/-- An entry of the output. -/
def outAt (R : Fin 16384) (d : Fin 1024) : EReal :=
  X (ix2 R d) + (0 + part X G WG WU CW CB WD 0 R d + part X G WG WU CW CB WD 1 R d + part X G WG WU CW CB WD 2 R d)

/-- The output. -/
def outArr : FVec Ideal S16384x1024 .f32 := fun y => outAt X G WG WU CW CB WD ⟨(y 0).val, (y 0).isLt⟩ ⟨(y 1).val, (y 1).isLt⟩
end

theorem idx : ∀ t : Fin cfg0.N, win0_0.index t = ![t.val / 3, 0] ∧ win0_1.index t = ![t.val / 3 * 128 - 1, 0]
    ∧ win0_2.index t = ![0, 0] ∧ win0_4.index t = ![0, t.val % 3] ∧ win0_5.index t = ![0, t.val % 3] ∧ win0_6.index t = ![0, t.val % 3]
    ∧ win0_7.index t = ![0, t.val % 3] ∧ win0_8.index t = ![t.val % 3, 0] ∧ win0_9.index t = ![t.val / 3, 0] :=
  (by decide +kernel : ∀ t : Fin grid0.N, _)

theorem coord : ∀ t : Fin cfg0.N, (grid0.coords t 0).val = t.val / 3 := (by decide +kernel : ∀ t : Fin grid0.N, _)

theorem pts (t : Fin cfg0.N) : t.val < 48 := t.isLt

variable (m : (ℓ : Loc nD τ sig) → Buf (Elt Ideal) ℓ)

section
variable (c : Dev nD) (t : Fin cfg0.N)
theorem x_at (r x : Fin 1024) (R : Fin 16384) (hR : R.val = 1024 * (t.val / 3) + r.val) :
    iblk m c 0 t (ix2 r x) = (V m c main_v0 : FVec Ideal S16384x1024 .f32) (ix2 R x) := by
  blk_ext [iblk, idx t]
theorem halo_at (r : Fin 8) (x : Fin 1024) (R : Fin 16384) (hR : R.val = 8 * (t.val / 3 * 128 - 1) + r.val) :
    iblk m c 1 t (ix2 r x) = (V m c main_v0 : FVec Ideal S16384x1024 .f32) (ix2 R x) := by
  blk_ext [iblk, idx t]
theorem g_at (x : Fin 1024) : iblk m c 2 t (ix2 0 x) = (V m c main_v9 : FVec Ideal S1x1024 .f32) (ix2 0 x) := by
  blk_ext [iblk, idx t]
theorem wg_at (x k : Fin 1024) (K : Fin 3072) (hK : K.val = 1024 * (t.val % 3) + k.val) :
    iblk m c 4 t (ix2 x k) = (V m c main_v4 : FVec Ideal S1024x3072 .bf16) (ix2 x K) := by
  blk_ext [iblk, idx t]
theorem wu_at (x k : Fin 1024) (K : Fin 3072) (hK : K.val = 1024 * (t.val % 3) + k.val) :
    iblk m c 5 t (ix2 x k) = (V m c main_v5 : FVec Ideal S1024x3072 .bf16) (ix2 x K) := by
  blk_ext [iblk, idx t]
theorem cw_at (x : Fin 3) (k : Fin 1024) (K : Fin 3072) (hK : K.val = 1024 * (t.val % 3) + k.val) :
    iblk m c 6 t (ix2 x k) = (V m c main_v6 : FVec Ideal S3x3072 .f32) (ix2 x K) := by
  blk_ext [iblk, idx t]
theorem cb_at (k : Fin 1024) (K : Fin 3072) (hK : K.val = 1024 * (t.val % 3) + k.val) :
    iblk m c 7 t (ix2 0 k) = (V m c main_v11 : FVec Ideal S1x3072 .f32) (ix2 0 K) := by
  blk_ext [iblk, idx t]
theorem wd_at (k d : Fin 1024) (K : Fin 3072) (hK : K.val = 1024 * (t.val % 3) + k.val) :
    iblk m c 8 t (ix2 k d) = (V m c main_v8 : FVec Ideal S3072x1024 .bf16) (ix2 K d) := by
  blk_ext [iblk, idx t]
end

/-- Row `r` of tile `i`. -/
abbrev rowOf (t : Fin cfg0.N) (r : Fin 1024) : Fin 16384 := ⟨1024 * (t.val / 3) + r.val, by have := pts t; omega⟩
/-- Column `k` of the columns a step holds. -/
abbrev colOf (t : Fin cfg0.N) (k : Fin 1024) : Fin 3072 := ⟨1024 * (t.val % 3) + k.val, by omega⟩
/-- Row `r` of the block before tile `i`. -/
abbrev haloOf (t : Fin cfg0.N) (r : Fin 8) : Fin 16384 := ⟨8 * (t.val / 3 * 128 - 1) + r.val, by have := pts t; omega⟩

/-- The normalised rows a tile's steps share. -/
structure Rows (c : Dev nD) (t : Fin cfg0.N) (h : Vec Ideal S1024x1024 .bf16) (hh : Vec Ideal S8x1024 .bf16) : Prop where
  tile : ∀ r x : Fin 1024, h (ix2 r x) = hRow (V m c main_v0) (V m c main_v9) (rowOf t r) x
  halo : ∀ (r : Fin 8) (x : Fin 1024), hh (ix2 r x) = hRow (V m c main_v0) (V m c main_v9) (haloOf t r) x

theorem rows_first (c : Dev nD) (t : Fin cfg0.N) : Rows m c t (k0_pay3 (iblk m c 0 t) (iblk m c 2 t)) (k0_pay4 (iblk m c 1 t) (iblk m c 2 t)) where
  tile r x := by
    refine (norm_rows _ _ r x).trans ?_
    unfold hRow
    exact congrArg₂ (normed · · x) (funext fun j => x_at m c t r j _ rfl) (funext fun j => g_at m c t j)
  halo r x := by
    refine (norm_halo _ _ r x).trans ?_
    unfold hRow
    exact congrArg₂ (normed · · x) (funext fun j => halo_at m c t r j _ rfl) (funext fun j => g_at m c t j)

section
variable (c : Dev nD) (t : Fin cfg0.N) (h : Vec Ideal S1024x1024 .bf16) (hh : Vec Ideal S8x1024 .bf16) (hr : Rows m c t h hh)
include hr

theorem tile_gate (r k : Fin 1024) : (∑ x : Fin 1024, h (ix2 r x) * iblk m c 4 t (ix2 x k))
    = gateAt (V m c main_v0) (V m c main_v9) (V m c main_v4) (rowOf t r) (colOf t k) := by
  unfold gateAt
  exact Finset.sum_congr rfl fun x _ => congrArg₂ (· * ·) (hr.tile r x) (wg_at m c t x k _ rfl)

theorem tile_up (r k : Fin 1024) : (∑ x : Fin 1024, h (ix2 r x) * iblk m c 5 t (ix2 x k))
    = ∑ x : Fin 1024, hRow (V m c main_v0) (V m c main_v9) (rowOf t r) x * (V m c main_v5 : FVec Ideal S1024x3072 .bf16) (ix2 x (colOf t k)) := by
  exact Finset.sum_congr rfl fun x _ => congrArg₂ (· * ·) (hr.tile r x) (wu_at m c t x k _ rfl)

theorem halo_gateAt (r : Fin 8) (k : Fin 1024) : (∑ x : Fin 1024, hh (ix2 r x) * iblk m c 4 t (ix2 x k))
    = gateAt (V m c main_v0) (V m c main_v9) (V m c main_v4) (haloOf t r) (colOf t k) := by
  unfold gateAt
  exact Finset.sum_congr rfl fun x _ => congrArg₂ (· * ·) (hr.halo r x) (wg_at m c t x k _ rfl)

/-- What the buffer holds `n` rows back. -/
theorem buf_earlier (n : ℕ) (hn : 1 ≤ n) (hn' : n ≤ 2) (r k : Fin 1024) : gateRow (grid0.coords t) h hh (iblk m c 4 t) (8 - n + r.val) k
    = earlier (V m c main_v0) (V m c main_v9) (V m c main_v4) n (rowOf t r) (colOf t k) := by
  have ht := pts t
  have hc := coord t
  unfold earlier
  by_cases h8 : 8 - n + r.val < 8
  · refine (gateRow_halo (grid0.coords t) h hh (iblk m c 4 t) ⟨8 - n + r.val, h8⟩ k).trans ?_
    rw [halo_gateAt m c t h hh hr, hc]
    unfold keep
    by_cases h4 : t.val / 3 % 4 = 0
    · rw [if_pos h4, mul_zero, if_pos (by dsimp only; omega)]
    · rw [if_neg h4, mul_one, if_neg (by dsimp only; omega)]
      exact congrArg (gateAt _ _ _ · _) (Fin.ext (by dsimp only; omega))
  · have e := gateRow_tile (grid0.coords t) h hh (iblk m c 4 t) ⟨r.val - n, by omega⟩ k
    dsimp only at e
    rw [show 8 + (r.val - n) = 8 - n + r.val by omega] at e
    rw [e, tile_gate m c t h hh hr, if_neg (by dsimp only; omega)]
    exact congrArg (gateAt _ _ _ · _) (Fin.ext (by dsimp only; omega))

/-- A step adds its part. -/
theorem step_at (acc : Vec Ideal S1024x1024 .f32) (f : Fin 3) (hf : f.val = t.val % 3) (r d : Fin 1024) :
    stepAcc (grid0.coords t) h hh (iblk m c 4 t) (iblk m c 5 t) (iblk m c 6 t) (iblk m c 7 t) (iblk m c 8 t) acc (ix2 r d)
      = acc (ix2 r d) + part (V m c main_v0) (V m c main_v9) (V m c main_v4) (V m c main_v5) (V m c main_v6) (V m c main_v11) (V m c main_v8) f (rowOf t r) d := by
  rw [stepAcc_at]
  refine congrArg (acc (ix2 r d) + ·) ?_
  unfold part
  refine Finset.sum_congr rfl fun k _ => ?_
  have hK : (⟨1024 * f.val + k.val, by omega⟩ : Fin 3072) = colOf t k := Fin.ext (by dsimp only; omega)
  rw [hK]
  refine congrArg₂ (· * ·) ?_ (wd_at m c t k d _ rfl)
  have e2 : gateRow (grid0.coords t) h hh (iblk m c 4 t) (6 + r.val) k = _ := buf_earlier m c t h hh hr 2 (by omega) (by omega) r k
  have e1 : gateRow (grid0.coords t) h hh (iblk m c 4 t) (7 + r.val) k = _ := buf_earlier m c t h hh hr 1 (by omega) (by omega) r k
  unfold act actAt
  rw [tile_gate m c t h hh hr, tile_up m c t h hh hr, e2, e1,
    cw_at m c t 0 k (colOf t k) rfl, cw_at m c t 1 k (colOf t k) rfl, cw_at m c t 2 k (colOf t k) rfl, cb_at m c t k (colOf t k) rfl]
end

/-- The rows and sums a step leaves are the same at points of one tile. -/
theorem Rows.next (c : Dev nD) (s t : Fin cfg0.N) (hst : s.val / 3 = t.val / 3) (h : Vec Ideal S1024x1024 .bf16) (hh : Vec Ideal S8x1024 .bf16)
    (hr : Rows m c s h hh) : Rows m c t h hh where
  tile r x := (hr.tile r x).trans (congrArg (hRow _ _ · x) (Fin.ext (by dsimp only; rw [hst])))
  halo r x := (hr.halo r x).trans (congrArg (hRow _ _ · x) (Fin.ext (by dsimp only; rw [hst])))

/-- A step's part, over the operands the call is given. -/
abbrev partV (c : Dev nD) (f : Fin 3) (R : Fin 16384) (d : Fin 1024) : EReal :=
  part (V m c main_v0) (V m c main_v9) (V m c main_v4) (V m c main_v5) (V m c main_v6) (V m c main_v11) (V m c main_v8) f R d

theorem after_first (c : Dev nD) (t : Fin cfg0.N) (h0 : t.val % 3 = 0) :
    Rows m c t (outsAt0 m c t.val t.isLt).2.1 (outsAt0 m c t.val t.isLt).2.2.1
    ∧ ∀ r d : Fin 1024, (outsAt0 m c t.val t.isLt).2.2.2 (ix2 r d) = 0 + partV m c 0 (rowOf t r) d := by
  obtain ⟨ea, eh, ehh⟩ := stepA m c t h0 (by omega)
  rw [ea, eh, ehh]
  refine ⟨rows_first m c t, fun r d => ?_⟩
  refine (step_at m c t _ _ (rows_first m c t) _ 0 h0.symm r d).trans ?_
  exact congrArg (· + partV m c 0 (rowOf t r) d) (zeros _)

theorem after_second (c : Dev nD) (t : Fin cfg0.N) (h1 : t.val % 3 = 1) :
    Rows m c t (outsAt0 m c t.val t.isLt).2.1 (outsAt0 m c t.val t.isLt).2.2.1
    ∧ ∀ r d : Fin 1024, (outsAt0 m c t.val t.isLt).2.2.2 (ix2 r d) = 0 + partV m c 0 (rowOf t r) d + partV m c 1 (rowOf t r) d := by
  obtain ⟨ea, eh, ehh⟩ := stepB m c t (by omega) (by omega)
  have hs : (⟨t.val - 1, Nat.lt_of_le_of_lt (Nat.sub_le _ _) t.isLt⟩ : Fin cfg0.N).val / 3 = t.val / 3 := by dsimp only; omega
  obtain ⟨pr, pa⟩ := after_first m c ⟨t.val - 1, Nat.lt_of_le_of_lt (Nat.sub_le _ _) t.isLt⟩ (by dsimp only; omega)
  have hr := Rows.next m c _ t hs _ _ pr
  rw [ea, eh, ehh]
  refine ⟨hr, fun r d => ?_⟩
  refine (step_at m c t _ _ hr _ 1 h1.symm r d).trans (congrArg (· + partV m c 1 (rowOf t r) d) ((pa r d).trans ?_))
  exact congrArg (fun R => 0 + partV m c 0 R d) (Fin.ext (by dsimp only at hs ⊢; rw [hs]))

theorem after_last (c : Dev nD) (t : Fin cfg0.N) (h2 : t.val % 3 = 2) (r d : Fin 1024) :
    (outsAt0 m c t.val t.isLt).1 (ix2 r d)
      = outAt (V m c main_v0) (V m c main_v9) (V m c main_v4) (V m c main_v5) (V m c main_v6) (V m c main_v11) (V m c main_v8) (rowOf t r) d := by
  have hs : (⟨t.val - 1, Nat.lt_of_le_of_lt (Nat.sub_le _ _) t.isLt⟩ : Fin cfg0.N).val / 3 = t.val / 3 := by dsimp only; omega
  obtain ⟨pr, pa⟩ := after_second m c ⟨t.val - 1, Nat.lt_of_le_of_lt (Nat.sub_le _ _) t.isLt⟩ (by dsimp only; omega)
  have hr := Rows.next m c _ t hs _ _ pr
  rw [stepC m c t (by omega) h2]
  unfold outAt
  refine (last _ _ _).trans (congrArg₂ (α := EReal) (β := EReal) (· + ·) (x_at m c t r d _ rfl) ?_)
  refine (step_at m c t _ _ hr _ 2 h2.symm r d).trans (congrArg (· + partV m c 2 (rowOf t r) d) ((pa r d).trans ?_))
  exact congrArg (fun R => 0 + partV m c 0 R d + partV m c 1 R d) (Fin.ext (by dsimp only at hs ⊢; rw [hs]))

/-- The kernel's result array. -/
theorem final (c : Dev nD) : (dats m 0 c).arrAt 9 cfg0.N
    = outArr (V m c main_v0) (V m c main_v9) (V m c main_v4) (V m c main_v5) (V m c main_v6) (V m c main_v11) (V m c main_v8) := by
  refine (dats m 0 c).arrAt_eq_of_covers 9 _ (by decide +kernel) fun t hf y => ?_
  have h2 : t.val % 3 = 2 := (flush0_9 t).mp hf
  blk_simp
  rw [after0_9]
  have h0 : (y 0).val < 1024 := (y 0).isLt
  have h1 : (y 1).val < 1024 := (y 1).isLt
  have hy : y = ix2 (⟨(y 0).val, h0⟩ : Fin 1024) (⟨(y 1).val, h1⟩ : Fin 1024) := by
    funext a
    match a with
    | ⟨0, _⟩ => rfl
    | ⟨1, _⟩ => rfl
  refine Eq.trans (congrArg (outsAt0 m c t.val t.isLt).1 hy) ((after_last m c t h2 _ _).trans ?_)
  have ht := pts t
  unfold outArr
  refine congrArg₂ (outAt _ _ _ _ _ _ _) (Fin.ext ?_) (Fin.ext ?_) <;> blk_simp [idx t]
  all_goals (dsimp only; try omega)
end Cert.FfnIdeal.Ffn
-- ==== Proof.FfnHost.lean ====
module
public import proofs.«01_k».proof.Proof.Gen.FfnIdeal.Value
public import Idealize.ShloMosaic.Lib.Pointwise
@[expose] public section
set_option maxRecDepth 16384
noncomputable section
open Idealize.ShloMosaic Idealize.ShloMosaic.TcCoe Idealize.SL.Sem
namespace Cert.FfnIdeal.Ffn
open Cert.FfnIdeal Cert.FfnIdeal.Gen

/-! ## The arrays the call is given -/

/-- The input's rows. -/
def opX (x : FVec Ideal S4x4096x1024 .f32) : FVec Ideal S16384x1024 .f32 := shapeCast S16384x1024 x shapeCasts_S4x4096x1024_S16384x1024
/-- The gain as a row. -/
def opG (g : FVec Ideal S1024 .f32) : FVec Ideal S1x1024 .f32 := shapeCast S1x1024 g shapeCasts_S1024_S1x1024
/-- A matrix of columns padded with zeros. -/
def opW (w : FVec Ideal S1024x2816 .f32) : FVec Ideal S1024x3072 .bf16 :=
  pad S1024x3072 ![0, 0] ![0, 256] ![0, 0] (truncf .bf16 w bitsLt_bf16_f32) (sitofp (F := Ideal) .bf16 (constantI S_ 32 0#32)) pads_S1024x2816_S1024x3072_000_02560 h_S_
/-- The taps padded with zeros. -/
def opC (w : FVec Ideal S3x2816 .f32) : FVec Ideal S3x3072 .f32 :=
  pad S3x3072 ![0, 0] ![0, 256] ![0, 0] w (sitofp (F := Ideal) .f32 (constantI S_ 32 0#32)) pads_S3x2816_S3x3072_000_02560 h_S_
/-- The biases padded with zeros, as a row. -/
def opB (w : FVec Ideal S2816 .f32) : FVec Ideal S1x3072 .f32 :=
  shapeCast S1x3072 (pad S3072 ![0] ![256] ![0] w (sitofp (F := Ideal) .f32 (constantI S_ 32 0#32)) pads_S2816_S3072_02560 h_S_) shapeCasts_S3072_S1x3072
/-- A matrix of rows padded with zeros. -/
def opD (w : FVec Ideal S2816x1024 .f32) : FVec Ideal S3072x1024 .bf16 :=
  pad S3072x1024 ![0, 0] ![256, 0] ![0, 0] (truncf .bf16 w bitsLt_bf16_f32) (sitofp (F := Ideal) .bf16 (constantI S_ 32 0#32)) pads_S2816x1024_S3072x1024_02560_000 h_S_

section
variable (m : (ℓ : Loc nD τ sig) → Buf (Elt Ideal) ℓ) (c : Dev nD)
theorem v0_eq : V m c main_v0 = opX (m ((c : Thread nD τ).loc main_arg0)) := by
  simp only [V, hostOps0, hostOps0_1, hostOps0_10, hostOps0_2, hostOps0_3, hostOps0_4, hostOps0_5, hostOps0_6, hostOps0_7, hostOps0_8, hostOps0_9, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v9_eq : V m c main_v9 = opG (m ((c : Thread nD τ).loc main_arg1)) := by
  simp only [V, hostOps0, hostOps0_1, hostOps0_10, hostOps0_2, hostOps0_3, hostOps0_4, hostOps0_5, hostOps0_6, hostOps0_7, hostOps0_8, hostOps0_9, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v4_eq : V m c main_v4 = opW (m ((c : Thread nD τ).loc main_arg2)) := by
  simp only [V, hostOps0, hostOps0_1, hostOps0_10, hostOps0_2, hostOps0_3, hostOps0_4, hostOps0_5, hostOps0_6, hostOps0_7, hostOps0_8, hostOps0_9, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v5_eq : V m c main_v5 = opW (m ((c : Thread nD τ).loc main_arg3)) := by
  simp only [V, hostOps0, hostOps0_1, hostOps0_10, hostOps0_2, hostOps0_3, hostOps0_4, hostOps0_5, hostOps0_6, hostOps0_7, hostOps0_8, hostOps0_9, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v6_eq : V m c main_v6 = opC (m ((c : Thread nD τ).loc main_arg4)) := by
  simp only [V, hostOps0, hostOps0_1, hostOps0_10, hostOps0_2, hostOps0_3, hostOps0_4, hostOps0_5, hostOps0_6, hostOps0_7, hostOps0_8, hostOps0_9, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v11_eq : V m c main_v11 = opB (m ((c : Thread nD τ).loc main_arg5)) := by
  simp only [V, hostOps0, hostOps0_1, hostOps0_10, hostOps0_2, hostOps0_3, hostOps0_4, hostOps0_5, hostOps0_6, hostOps0_7, hostOps0_8, hostOps0_9, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v8_eq : V m c main_v8 = opD (m ((c : Thread nD τ).loc main_arg6)) := by
  simp only [V, hostOps0, hostOps0_1, hostOps0_10, hostOps0_2, hostOps0_3, hostOps0_4, hostOps0_5, hostOps0_6, hostOps0_7, hostOps0_8, hostOps0_9, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
end

theorem opX_at (x : FVec Ideal S4x4096x1024 .f32) (R : Fin 16384) (d : Fin 1024) :
    opX x (ix2 R d) = x (ix3 ⟨R.val / 4096, by omega⟩ ⟨R.val % 4096, by omega⟩ d) := by
  pointwise [opX]
theorem opG_at (g : FVec Ideal S1024 .f32) (k : Fin 1024) : opG g (ix2 0 k) = g (ix1 k) := by
  pointwise [opG]
theorem opW_at (w : FVec Ideal S1024x2816 .f32) (x : Fin 1024) (k : Fin 2816) : opW w (ix2 x ⟨k.val, by omega⟩) = w (ix2 x k) := by
  pointwise [opW]
theorem opC_at (w : FVec Ideal S3x2816 .f32) (x : Fin 3) (k : Fin 2816) : opC w (ix2 x ⟨k.val, by omega⟩) = w (ix2 x k) := by
  pointwise [opC]
theorem opB_at (w : FVec Ideal S2816 .f32) (k : Fin 2816) : opB w (ix2 0 ⟨k.val, by omega⟩) = w (ix1 k) := by
  pointwise [opB]
theorem opD_at (w : FVec Ideal S2816x1024 .f32) (k : Fin 2816) (d : Fin 1024) : opD w (ix2 ⟨k.val, by omega⟩ d) = w (ix2 k d) := by
  pointwise [opD]
theorem opD_past (w : FVec Ideal S2816x1024 .f32) (K : Fin 3072) (d : Fin 1024) (h : 2816 ≤ K.val) : opD w (ix2 K d) = 0 := by
  pointwise [opD]
  rw [dif_neg (by omega)]
  change (((((0#32 : BitVec 32).toInt : ℤ) : ℝ)) : EReal) = 0
  simp
end Cert.FfnIdeal.Ffn
end
end
-- ==== Proof.FfnSpec.lean ====
module
public import proofs.«01_k».proof.Proof.FfnPayload
@[expose] public section
noncomputable section
open Idealize.ShloMosaic
namespace Cert.Ffn

/-! ## What the feed-forward part computes -/

section
variable (x : Fin 4 → Fin 4096 → Fin 1024 → EReal) (g : Fin 1024 → EReal) (wg wu : Fin 1024 → Fin 2816 → EReal)
  (cw : Fin 3 → Fin 2816 → EReal) (cb : Fin 2816 → EReal) (wd : Fin 2816 → Fin 1024 → EReal)

/-- A position's product with a matrix after the norm. -/
def proj (w : Fin 1024 → Fin 2816 → EReal) (b : Fin 4) (t : Fin 4096) (k : Fin 2816) : EReal := ∑ j, normed (x b t) g j * w j k

/-- The gate `n` positions earlier, zero before the sequence. -/
def past (n : ℕ) (b : Fin 4) (t : Fin 4096) (k : Fin 2816) : EReal :=
  if t.val < n then 0 else proj x g wg b ⟨t.val - n, by omega⟩ k

/-- The gated product at a position. -/
def mixed (b : Fin 4) (t : Fin 4096) (k : Fin 2816) : EReal :=
  gelu (conv (cw 0 k) (cw 1 k) (cw 2 k) (cb k) (past x g wg 2 b t k) (past x g wg 1 b t k) (proj x g wg b t k)) * proj x g wu b t k

/-- The feed-forward part's output, its input added. -/
def ffn (b : Fin 4) (t : Fin 4096) (d : Fin 1024) : EReal := x b t d + ∑ k, mixed x g wg wu cw cb b t k * wd k d
end

/-- Three runs of 1024 make 3072. -/
theorem sum_three (f : Fin 3072 → EReal) :
    ∑ K, f K = 0 + (∑ k : Fin 1024, f ⟨1024 * 0 + k.val, by omega⟩) + (∑ k : Fin 1024, f ⟨1024 * 1 + k.val, by omega⟩) + ∑ k : Fin 1024, f ⟨1024 * 2 + k.val, by omega⟩ := by
  rw [zero_add, Fin.sum_univ_add (a := 2048) (b := 1024) f, Fin.sum_univ_add (a := 1024) (b := 1024) (fun i => f (Fin.castAdd 1024 i))]
  refine congrArg₂ (· + ·) (congrArg₂ (· + ·) (Finset.sum_congr rfl fun k _ => congrArg f (Fin.ext ?_)) (Finset.sum_congr rfl fun k _ => congrArg f (Fin.ext ?_)))
    (Finset.sum_congr rfl fun k _ => congrArg f (Fin.ext ?_))
  · simp
  · simp; omega
  · simp

/-- Columns past the last add nothing. -/
theorem sum_live (f : Fin 3072 → EReal) (h : ∀ K : Fin 3072, 2816 ≤ K.val → f K = 0) : ∑ K, f K = ∑ k : Fin 2816, f ⟨k.val, by omega⟩ := by
  rw [Fin.sum_univ_add (a := 2816) (b := 256) f]
  rw [Finset.sum_eq_zero (s := Finset.univ) (f := fun i : Fin 256 => f (Fin.natAdd 2816 i)) fun i _ => h _ (by simp), add_zero]
  rfl
end Cert.Ffn
end
end
-- ==== Proof.FfnReference.lean ====
module
public import proofs.«01_k».proof.Proof.Gen.FfnReferenceIdeal.Run
public import proofs.«01_k».proof.Proof.FfnSpec
public import Idealize.ShloMosaic.Lib.Pointwise
@[expose] public section
set_option maxRecDepth 16384
noncomputable section
open Idealize.ShloMosaic Idealize.ShloMosaic.TcCoe Idealize.SL.Sem
namespace Cert.FfnReferenceIdeal.Ffn
open Cert.FfnReferenceIdeal Cert.FfnReferenceIdeal.Gen Cert.FfnReferenceIdeal.Value Cert.Ffn

/-! ## The reference's steps -/

/-- The input after the norm. -/
def refH (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- A product with a matrix. -/
def refDot (h : FVec Ideal S4x4096x1024 .f32) (w : FVec Ideal S1024x2816 .f32) : FVec Ideal S4x4096x2816 .f32 :=
  Host.dotGeneral dot_S4x4096x1024_S1024x2816_S4x4096x2816_2_0_01_1_n_n none h w

/-- Two zero positions put in front of each sequence. -/
def refPad (a : FVec Ideal S4x4096x2816 .f32) : FVec Ideal S4x4098x2816 .f32 :=
  pad S4x4098x2816 ![0, 2, 0] ![0, 0, 0] ![0, 0, 0] a (sitofp (F := Ideal) .f32 (constantI S_ 32 0#32)) pads_S4x4096x2816_S4x4098x2816_000_200_000 h_S_

/-- The taps and the bias. -/
def refConv (p : FVec Ideal S4x4098x2816 .f32) (cw : FVec Ideal S3x2816 .f32) (cb : FVec Ideal S2816 .f32) : FVec Ideal S4x4096x2816 .f32 :=
  addf (addf (addf (addf (broadcastInDim S4x4096x2816 ![] bcast_S_S4x4096x2816 (constant S_ .f32 0x00000000#32)) (mulf (extractStridedSlice S4x4096x2816 ![0, 0, 0] p slices_S4x4098x2816_S4x4096x2816_0_0_0) (broadcastInDim S4x4096x2816 ![0, 1, 2] bcast_S1x1x2816_S4x4096x2816_0_1_2 (broadcastInDim S1x1x2816 ![2] bcast_S2816_S1x1x2816_2 (shapeCast S2816 (extractStridedSlice S1x2816 ![0, 0] cw slices_S3x2816_S1x2816_0_0) shapeCasts_S1x2816_S2816))))) (mulf (extractStridedSlice S4x4096x2816 ![0, 1, 0] p slices_S4x4098x2816_S4x4096x2816_0_1_0) (broadcastInDim S4x4096x2816 ![0, 1, 2] bcast_S1x1x2816_S4x4096x2816_0_1_2 (broadcastInDim S1x1x2816 ![2] bcast_S2816_S1x1x2816_2 (shapeCast S2816 (extractStridedSlice S1x2816 ![1, 0] cw slices_S3x2816_S1x2816_1_0) shapeCasts_S1x2816_S2816))))) (mulf (extractStridedSlice S4x4096x2816 ![0, 2, 0] p slices_S4x4098x2816_S4x4096x2816_0_2_0) (broadcastInDim S4x4096x2816 ![0, 1, 2] bcast_S1x1x2816_S4x4096x2816_0_1_2 (broadcastInDim S1x1x2816 ![2] bcast_S2816_S1x1x2816_2 (shapeCast S2816 (extractStridedSlice S1x2816 ![2, 0] cw slices_S3x2816_S1x2816_2_0) shapeCasts_S1x2816_S2816))))) (broadcastInDim S4x4096x2816 ![0, 1, 2] bcast_S1x1x2816_S4x4096x2816_0_1_2 (broadcastInDim S1x1x2816 ![2] bcast_S2816_S1x1x2816_2 cb))

/-- The activation. -/
def refGelu (z : FVec Ideal S4x4096x2816 .f32) : FVec Ideal S4x4096x2816 .f32 :=
  mulf z (mulf (broadcastInDim S4x4096x2816 ![] bcast_S_S4x4096x2816 (constant S_ .f32 0x3F000000#32)) (addf (broadcastInDim S4x4096x2816 ![] bcast_S_S4x4096x2816 (constant S_ .f32 0x3F800000#32)) (Host.tanh (mulf (broadcastInDim S4x4096x2816 ![] bcast_S_S4x4096x2816 (constant S_ .f32 0x3F4C422A#32)) (addf z (mulf (broadcastInDim S4x4096x2816 ![] bcast_S_S4x4096x2816 (constant S_ .f32 0x3D372713#32)) (mulf (mulf z z) z)))))))

/-- The result from the gated product. -/
def refOut (x : FVec Ideal S4x4096x1024 .f32) (z u : FVec Ideal S4x4096x2816 .f32) (wd : FVec Ideal S2816x1024 .f32) : FVec Ideal S16384x1024 .f32 :=
  shapeCast S16384x1024 (addf x (Host.dotGeneral dot_S4x4096x2816_S2816x1024_S4x4096x1024_2_0_01_1_n_n none (mulf z u) wd)) shapeCasts_S4x4096x1024_S16384x1024

/-- The reference's result is these steps one after the other. -/
theorem res_eq (m : (ℓ : Loc nD τ sig) → Buf (Elt Ideal) ℓ) (c : Dev nD) :
    res_main_v57 m c = refOut (m ((c.tc : Thread nD τ).loc main_arg0))
      (refGelu (refConv (refPad (refDot (refH (m ((c.tc : Thread nD τ).loc main_arg0)) (m ((c.tc : Thread nD τ).loc main_arg1))) (m ((c.tc : Thread nD τ).loc main_arg2))))
        (m ((c.tc : Thread nD τ).loc main_arg4)) (m ((c.tc : Thread nD τ).loc main_arg5))))
      (refDot (refH (m ((c.tc : Thread nD τ).loc main_arg0)) (m ((c.tc : Thread nD τ).loc main_arg1))) (m ((c.tc : Thread nD τ).loc main_arg3)))
      (m ((c.tc : Thread nD τ).loc main_arg6)) := by
  rfl

theorem refH_at (x : FVec Ideal S4x4096x1024 .f32) (g : FVec Ideal S1024 .f32) (b : Fin 4) (t : Fin 4096) (k : Fin 1024) :
    refH x g (ix3 b t k) = normed (fun j => x (ix3 b t j)) (fun j => g (ix1 j)) k := by
  pointwise [refH]
  rfl

theorem refDot_at (h : FVec Ideal S4x4096x1024 .f32) (w : FVec Ideal S1024x2816 .f32) (b : Fin 4) (t : Fin 4096) (k : Fin 2816) :
    refDot h w (ix3 b t k) = ∑ j : Fin 1024, h (ix3 b t j) * w (ix2 j k) := by
  pointwise [refDot]

theorem refPad_at (a : FVec Ideal S4x4096x2816 .f32) (b : Fin 4) (t : Fin 4098) (k : Fin 2816) :
    refPad a (ix3 b t k) = if h : 2 ≤ t.val then a (ix3 b ⟨t.val - 2, by omega⟩ k) else 0 := by
  pointwise [refPad]
  by_cases h : 2 ≤ t.val
  · rw [dif_pos h, dif_pos ⟨h, by omega⟩]
  · rw [dif_neg h, dif_neg (fun q => h q.1)]
    change (((((0#32 : BitVec 32).toInt : ℤ) : ℝ)) : EReal) = 0
    simp

theorem refConv_at (p : FVec Ideal S4x4098x2816 .f32) (cw : FVec Ideal S3x2816 .f32) (cb : FVec Ideal S2816 .f32) (b : Fin 4) (t : Fin 4096) (k : Fin 2816) :
    refConv p cw cb (ix3 b t k) = conv (cw (ix2 0 k)) (cw (ix2 1 k)) (cw (ix2 2 k)) (cb (ix1 k))
      (p (ix3 b ⟨t.val, by omega⟩ k)) (p (ix3 b ⟨1 + t.val, by omega⟩ k)) (p (ix3 b ⟨2 + t.val, by omega⟩ k)) := by
  pointwise [refConv]
  unfold conv
  rw [mul_comm (cw (ix2 0 k)), mul_comm (cw (ix2 1 k)), mul_comm (cw (ix2 2 k))]
  try simp only [zero_add]

theorem refGelu_at (z : FVec Ideal S4x4096x2816 .f32) (b : Fin 4) (t : Fin 4096) (k : Fin 2816) : refGelu z (ix3 b t k) = gelu (z (ix3 b t k)) := by
  pointwise [refGelu]
  rfl

theorem refOut_at (x : FVec Ideal S4x4096x1024 .f32) (z u : FVec Ideal S4x4096x2816 .f32) (wd : FVec Ideal S2816x1024 .f32) (R : Fin 16384) (d : Fin 1024) :
    refOut x z u wd (ix2 R d) = x (ix3 ⟨R.val / 4096, by omega⟩ ⟨R.val % 4096, by omega⟩ d)
      + ∑ k : Fin 2816, (z (ix3 ⟨R.val / 4096, by omega⟩ ⟨R.val % 4096, by omega⟩ k) * u (ix3 ⟨R.val / 4096, by omega⟩ ⟨R.val % 4096, by omega⟩ k)) * wd (ix2 k d) := by
  pointwise [refOut]

theorem past_at (a : FVec Ideal S4x4096x2816 .f32) (n : ℕ) (hn : n ≤ 2) (b : Fin 4) (t : Fin 4096) (k : Fin 2816) :
    refPad a (ix3 b ⟨(2 - n) + t.val, by omega⟩ k) = if t.val < n then 0 else a (ix3 b ⟨t.val - n, by omega⟩ k) := by
  rw [refPad_at]
  by_cases h : t.val < n
  · rw [if_pos h, dif_neg (by dsimp only; omega)]
  · rw [if_neg h, dif_pos (by dsimp only; omega)]
    exact congrArg (fun t' => a (ix3 b t' k)) (Fin.ext (by dsimp only; omega))

/-- An entry of the reference's result. -/
theorem value_at (x : FVec Ideal S4x4096x1024 .f32) (g : FVec Ideal S1024 .f32) (wg wu : FVec Ideal S1024x2816 .f32) (cw : FVec Ideal S3x2816 .f32)
    (cb : FVec Ideal S2816 .f32) (wd : FVec Ideal S2816x1024 .f32) (R : Fin 16384) (d : Fin 1024) :
    refOut x (refGelu (refConv (refPad (refDot (refH x g) wg)) cw cb)) (refDot (refH x g) wu) wd (ix2 R d)
      = ffn (fun b t k => x (ix3 b t k)) (fun k => g (ix1 k)) (fun j k => wg (ix2 j k)) (fun j k => wu (ix2 j k)) (fun n k => cw (ix2 n k))
          (fun k => cb (ix1 k)) (fun k d => wd (ix2 k d)) ⟨R.val / 4096, by omega⟩ ⟨R.val % 4096, by omega⟩ d := by
  rw [refOut_at]
  unfold ffn
  refine congrArg₂ (α := EReal) (β := EReal) (· + ·) rfl (Finset.sum_congr rfl fun k _ => congrArg (α := EReal) (· * wd (ix2 k d)) ?_)
  have hd (w : FVec Ideal S1024x2816 .f32) (b : Fin 4) (t : Fin 4096) : refDot (refH x g) w (ix3 b t k)
      = proj (fun b t k => x (ix3 b t k)) (fun k => g (ix1 k)) (fun j k => w (ix2 j k)) b t k := by
    rw [refDot_at]
    unfold proj
    exact Finset.sum_congr rfl fun j _ => congrArg (α := EReal) (· * w (ix2 j k)) (refH_at x g b t j)
  have h2 := past_at (refDot (refH x g) wg) 2 (by omega) ⟨R.val / 4096, by omega⟩ ⟨R.val % 4096, by omega⟩ k
  have h1 := past_at (refDot (refH x g) wg) 1 (by omega) ⟨R.val / 4096, by omega⟩ ⟨R.val % 4096, by omega⟩ k
  have h0 := past_at (refDot (refH x g) wg) 0 (by omega) ⟨R.val / 4096, by omega⟩ ⟨R.val % 4096, by omega⟩ k
  simp only [Nat.sub_self, zero_add, Nat.sub_zero, Nat.not_lt_zero, if_false, Nat.reduceSub] at h0 h1 h2
  unfold mixed
  rw [refGelu_at, refConv_at, hd wu, h2, h1, h0]
  simp only [hd]
  rfl
end Cert.FfnReferenceIdeal.Ffn
end
end
-- ==== Proof.FfnEquation.lean ====
module
public import proofs.«01_k».proof.Proof.FfnArray
public import proofs.«01_k».proof.Proof.FfnHost
public import proofs.«01_k».proof.Proof.FfnReference
@[expose] public section
set_option maxRecDepth 16384
noncomputable section
open Idealize.ShloMosaic Idealize.ShloMosaic.TcCoe Idealize.SL.Sem
namespace Cert.FfnIdeal.Ffn
open Cert.FfnIdeal Cert.FfnIdeal.Gen Cert.Ffn

/-! ## The kernel's array is the feed-forward part's output -/

section
variable (x : FVec Ideal S4x4096x1024 .f32) (g : FVec Ideal S1024 .f32) (wg wu : FVec Ideal S1024x2816 .f32) (cw : FVec Ideal S3x2816 .f32)
  (cb : FVec Ideal S2816 .f32) (wd : FVec Ideal S2816x1024 .f32)

/-- The sequence a row is of. -/
abbrev seqOf (R : Fin 16384) : Fin 4 := ⟨R.val / 4096, by omega⟩
/-- The row's position in it. -/
abbrev posOf (R : Fin 16384) : Fin 4096 := ⟨R.val % 4096, by omega⟩

theorem hRow_eq (R : Fin 16384) (j : Fin 1024) :
    hRow (opX x) (opG g) R j = normed (fun k => x (ix3 (seqOf R) (posOf R) k)) (fun k => g (ix1 k)) j := by
  unfold hRow
  exact congrArg₂ (normed · · j) (funext fun k => opX_at x R k) (funext fun k => opG_at g k)

theorem gateAt_eq (R : Fin 16384) (k : Fin 2816) : gateAt (opX x) (opG g) (opW wg) R ⟨k.val, by omega⟩
    = proj (fun b t k => x (ix3 b t k)) (fun k => g (ix1 k)) (fun j k => wg (ix2 j k)) (seqOf R) (posOf R) k := by
  unfold gateAt proj
  exact Finset.sum_congr rfl fun j _ => congrArg₂ (α := EReal) (β := EReal) (· * ·) (hRow_eq x g R j) (opW_at wg j k)

theorem earlier_eq (n : ℕ) (hn : n ≤ 4096) (R : Fin 16384) (k : Fin 2816) : earlier (opX x) (opG g) (opW wg) n R ⟨k.val, by omega⟩
    = past (fun b t k => x (ix3 b t k)) (fun k => g (ix1 k)) (fun j k => wg (ix2 j k)) n (seqOf R) (posOf R) k := by
  unfold earlier past
  by_cases h : R.val % 4096 < n
  · rw [if_pos h, if_pos h]
  · rw [if_neg h, if_neg h, gateAt_eq]
    exact congrArg₂ (proj _ _ _ · · k) (Fin.ext (by dsimp only; omega)) (Fin.ext (by dsimp only; omega))

theorem actAt_eq (R : Fin 16384) (k : Fin 2816) : actAt (opX x) (opG g) (opW wg) (opW wu) (opC cw) (opB cb) R ⟨k.val, by omega⟩
    = mixed (fun b t k => x (ix3 b t k)) (fun k => g (ix1 k)) (fun j k => wg (ix2 j k)) (fun j k => wu (ix2 j k)) (fun n k => cw (ix2 n k))
        (fun k => cb (ix1 k)) (seqOf R) (posOf R) k := by
  unfold actAt mixed
  rw [opC_at, opC_at, opC_at, opB_at, earlier_eq x g wg 2 (by omega), earlier_eq x g wg 1 (by omega), gateAt_eq]
  exact congrArg (α := EReal) (_ * ·) (gateAt_eq x g wu R k)

/-- An entry of the kernel's array. -/
theorem outAt_eq (R : Fin 16384) (d : Fin 1024) : outAt (opX x) (opG g) (opW wg) (opW wu) (opC cw) (opB cb) (opD wd) R d
    = ffn (fun b t k => x (ix3 b t k)) (fun k => g (ix1 k)) (fun j k => wg (ix2 j k)) (fun j k => wu (ix2 j k)) (fun n k => cw (ix2 n k))
        (fun k => cb (ix1 k)) (fun k d => wd (ix2 k d)) (seqOf R) (posOf R) d := by
  unfold outAt ffn
  refine congrArg₂ (α := EReal) (β := EReal) (· + ·) (opX_at x R d) ?_
  refine (sum_three fun K => actAt (opX x) (opG g) (opW wg) (opW wu) (opC cw) (opB cb) R K * opD wd (ix2 K d)).symm.trans ?_
  rw [sum_live]
  · exact Finset.sum_congr rfl fun k _ => congrArg₂ (α := EReal) (β := EReal) (· * ·) (actAt_eq x g wg wu cw cb R k) (opD_at wd k d)
  · intro K hK
    rw [opD_past wd K d hK, mul_zero]
end
end Cert.FfnIdeal.Ffn

namespace Cert.Ffn
open Cert.FfnIdeal Cert.FfnIdeal.Ffn

/-- The kernel's array is the reference's. -/
theorem arrays_eq (x : FVec Ideal S4x4096x1024 .f32) (g : FVec Ideal S1024 .f32) (wg wu : FVec Ideal S1024x2816 .f32) (cw : FVec Ideal S3x2816 .f32)
    (cb : FVec Ideal S2816 .f32) (wd : FVec Ideal S2816x1024 .f32) :
    outArr (opX x) (opG g) (opW wg) (opW wu) (opC cw) (opB cb) (opD wd)
      = FfnReferenceIdeal.Ffn.refOut x (FfnReferenceIdeal.Ffn.refGelu (FfnReferenceIdeal.Ffn.refConv (FfnReferenceIdeal.Ffn.refPad (FfnReferenceIdeal.Ffn.refDot (FfnReferenceIdeal.Ffn.refH x g) wg)) cw cb))
          (FfnReferenceIdeal.Ffn.refDot (FfnReferenceIdeal.Ffn.refH x g) wu) wd := by
  funext (y : S16384x1024.Idx)
  obtain ⟨R, d, rfl⟩ : ∃ (R : Fin 16384) (d : Fin 1024), y = ix2 R d := ⟨y 0, y 1, eq_ix2 y⟩
  exact (outAt_eq x g wg wu cw cb wd R d).trans (FfnReferenceIdeal.Ffn.value_at x g wg wu cw cb wd R d).symm
end Cert.Ffn
end
end
-- ==== Proof.Sigmoid.lean ====
module
public import Idealize.ShloMosaic.PureOps.Ideal
public import Mathlib.Analysis.SpecialFunctions.Trigonometric.DerivHyp
@[expose] public section
noncomputable section
open Idealize.ShloMosaic
namespace Cert.Gates

/-- The kernel's sigmoid, by the hyperbolic tangent. -/
def sigmoid (x : EReal) : EReal := Ideal.ofBits .f32 0x3F000000#32 * Ideal.tanh (Ideal.ofBits .f32 0x3F000000#32 * x) + Ideal.ofBits .f32 0x3F000000#32

theorem half : Ideal.ofBits .f32 0x3F000000#32 = ((1 / 2 : ℝ) : EReal) := by
  simp [Ideal.ofBits, Ideal.ieee, -EReal.coe_mul]; norm_num

theorem tanh_half (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; congr 1; ring
  have h : Real.exp (1 / 2 * r) * Real.exp (-(1 / 2 * r)) = 1 := by rw [← Real.exp_add]; simp
  rw [Real.tanh_eq_sinh_div_cosh, Real.sinh_eq, Real.cosh_eq, e]
  have p := Real.exp_pos (1 / 2 * r)
  have q := Real.exp_pos (-(1 / 2 * r))
  set a := Real.exp (1 / 2 * r)
  set b := Real.exp (-(1 / 2 * r))
  have hne : a + b ≠ 0 := by positivity
  have hne' : 1 + b * b ≠ 0 := by positivity
  field_simp
  linear_combination (2 * b) * h

/-- It is the logistic function, at the infinities too. -/
theorem sigmoid_eq (x : EReal) : sigmoid x = Ideal.logistic x := by
  unfold sigmoid
  rw [half]
  induction x with
  | bot =>
    rw [EReal.coe_mul_bot_of_pos (by norm_num), Ideal.logistic_bot]
    show ((1 / 2 : ℝ) : EReal) * ((-1 : ℝ) : EReal) + _ = 0
    rw [← EReal.coe_mul, ← EReal.coe_add]
    norm_num
  | top =>
    rw [EReal.coe_mul_top_of_pos (by norm_num), Ideal.logistic_top]
    show ((1 / 2 : ℝ) : EReal) * ((1 : ℝ) : EReal) + _ = 1
    rw [← EReal.coe_mul, ← EReal.coe_add]
    norm_num
  | coe r =>
    rw [Ideal.logistic_coe, ← EReal.coe_mul]
    show ((1 / 2 : ℝ) : EReal) * ((Real.tanh (1 / 2 * r) : ℝ) : EReal) + _ = _
    rw [← EReal.coe_mul, ← EReal.coe_add, tanh_half]
end Cert.Gates
end
end
-- ==== Proof.GatesArray.lean ====
module
public import proofs.«01_k».proof.Proof.Gen.GatesIdeal.Value
public import proofs.«01_k».proof.Proof.Sigmoid
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.GatesIdeal.Gates
open Cert.GatesIdeal Cert.GatesIdeal.Gen Cert.Gates

/-! ## The merge gates' call: what a block stores, and the array it leaves -/

theorem chunk (h : Vec Ideal S2048x1024 .bf16) (w : Vec Ideal S1024x512 .bf16) (r : Fin 2048) (k : Fin 512) :
    k0_pay1 h w (ix3 0 r k) = sigmoid (∑ x : Fin 1024, h (ix2 r x) * w (ix2 x k)) := by
  pointwise [k0_pay1]
  rfl
theorem chunk' (h : Vec Ideal S2048x1024 .bf16) (w : Vec Ideal S1024x512 .bf16) (r : Fin 2048) (k : Fin 512) :
    k0_pay2 h w (ix3 0 r k) = sigmoid (∑ x : Fin 1024, h (ix2 r x) * w (ix2 x k)) := chunk h w r k

/-- An index of a chunk. -/
theorem piece_index (x : S1x2048x512.Idx) (r : Fin 2048) (k : Fin 512) (h1 : r.val = (x 1).val) (h2 : k.val = (x 2).val) : x = ix3 0 r k := by
  funext a
  match a with
  | ⟨0, _⟩ => exact Fin.ext (Nat.lt_one_iff.mp (x 0).isLt)
  | ⟨1, _⟩ => exact Fin.ext h1.symm
  | ⟨2, _⟩ => exact Fin.ext h2.symm

theorem rows (h : Vec Ideal S2048x1024 .bf16) (r : Fin 2048) (j : Fin 1024) : View.ld h r0_0 (ix2 r j) = h (ix2 r j) := by
  pointwise [r0_0]
theorem cols0 (w : Vec Ideal S1024x1024 .bf16) (j : Fin 1024) (k : Fin 512) : View.ld w r0_1 (ix2 j k) = w (ix2 j ⟨k.val, by omega⟩) := by
  pointwise [r0_1]
theorem cols1 (w : Vec Ideal S1024x1024 .bf16) (j : Fin 1024) (k : Fin 512) : View.ld w r0_3 (ix2 j k) = w (ix2 j ⟨512 + k.val, by omega⟩) := by
  pointwise [r0_3]

/-- What a block stores. -/
theorem block_at (h : Vec Ideal S2048x1024 .bf16) (w : Vec Ideal S1024x1024 .bf16) (r : Fin 2048) (k : Fin 1024) :
    out0_2 h w (ix3 0 r k) = sigmoid (∑ x : Fin 1024, h (ix2 r x) * w (ix2 x k)) := by
  unfold out0_2
  have hk := k.isLt
  canon_tiles x h
  case piece0 =>
    refine (congrArg (k0_pay2 (View.ld h r0_0) (View.ld w r0_3)) (piece_index x r ⟨k.val - 512, by simp at h2; omega⟩ h1 (by simp at h2 ⊢; omega))).trans ((chunk' _ _ _ _).trans ?_)
    refine congrArg sigmoid (Finset.sum_congr rfl fun j _ => congrArg₂ (α := EReal) (β := EReal) (· * ·) (rows h r j) ((cols1 w j _).trans (congrArg w (congrArg (ix2 j) (Fin.ext ?_)))))
    simp at h2 ⊢; omega
  case piece1 =>
    refine (congrArg (k0_pay1 (View.ld h r0_0) (View.ld w r0_1)) (piece_index x r ⟨k.val, by simp at h2; omega⟩ h1 (by simp at h2 ⊢; omega))).trans ((chunk _ _ _ _).trans ?_)
    exact congrArg sigmoid (Finset.sum_congr rfl fun j _ => congrArg₂ (α := EReal) (β := EReal) (· * ·) (rows h r j) (cols0 w j _))

theorem idx : ∀ t : Fin cfg0.N, win0_0.index t = ![t.val / 3, 0] ∧ win0_1.index t = ![0, t.val % 3] ∧ win0_2.index t = ![t.val % 3, t.val / 3, 0] :=
  (by decide +kernel : ∀ t : Fin grid0.N, _)

theorem pts (t : Fin cfg0.N) : t.val < 24 := t.isLt

variable (m : (ℓ : Loc nD τ sig) → Buf (Elt Ideal) ℓ)

section
variable (c : Dev nD) (t : Fin cfg0.N)
theorem h_at (r : Fin 2048) (x : Fin 1024) (R : Fin 16384) (hR : R.val = 2048 * (t.val / 3) + r.val) :
    iblk m c 0 t (ix2 r x) = (V m c main_v2 : FVec Ideal S16384x1024 .bf16) (ix2 R x) := by
  blk_ext [iblk, idx t]
theorem w_at (x k : Fin 1024) (K : Fin 3072) (hK : K.val = 1024 * (t.val % 3) + k.val) :
    iblk m c 1 t (ix2 x k) = (V m c main_v3 : FVec Ideal S1024x3072 .bf16) (ix2 x K) := by
  blk_ext [iblk, idx t]
end

/-- The array the call leaves, over its operands. -/
def outArr (H : FVec Ideal S16384x1024 .bf16) (W : FVec Ideal S1024x3072 .bf16) : FVec Ideal S3x16384x1024 .bf16 := fun y =>
  sigmoid (∑ x : Fin 1024, H (ix2 ⟨(y 1).val, (y 1).isLt⟩ x) * W (ix2 x ⟨1024 * (y 0).val + (y 2).val, by
    have h0 : (y 0).val < 3 := (y 0).isLt
    have h2 : (y 2).val < 1024 := (y 2).isLt
    omega⟩))

theorem final (c : Dev nD) : (dats m 0 c).arrAt 2 cfg0.N = outArr (V m c main_v2) (V m c main_v3) := by
  refine (dats m 0 c).arrAt_eq_of_covers 2 _ (by decide +kernel) fun t _ y => ?_
  blk_simp
  rw [after0_2]
  have h0 : (y 0).val < 1 := (y 0).isLt
  have h1 : (y 1).val < 2048 := (y 1).isLt
  have h2 : (y 2).val < 1024 := (y 2).isLt
  have hy : y = ix3 (0 : Fin 1) (⟨(y 1).val, h1⟩ : Fin 2048) (⟨(y 2).val, h2⟩ : Fin 1024) := by
    funext a
    match a with
    | ⟨0, _⟩ => exact Fin.ext (Nat.lt_one_iff.mp h0)
    | ⟨1, _⟩ => rfl
    | ⟨2, _⟩ => rfl
  have ht := pts t
  refine Eq.trans (congrArg (out0_2 (iblk m c 0 t) (iblk m c 1 t)) hy) ((block_at _ _ _ _).trans ?_)
  unfold outArr
  refine congrArg sigmoid (Finset.sum_congr rfl fun x _ => congrArg₂ (α := EReal) (β := EReal) (· * ·) (h_at m c t _ x _ ?_) (w_at m c t x _ _ ?_))
  all_goals (blk_simp [idx t])
  all_goals (dsimp only; try omega)

/-! ## The arrays the call is given -/

/-- The rows. -/
def opH (h : FVec Ideal S4x4096x1024 .f32) : FVec Ideal S16384x1024 .bf16 := truncf .bf16 (shapeCast S16384x1024 h shapeCasts_S4x4096x1024_S16384x1024) bitsLt_bf16_f32
/-- The gates' columns. -/
def opW (w : FVec Ideal S1024x6688 .f32) : FVec Ideal S1024x3072 .bf16 :=
  truncf .bf16 (extractStridedSlice S1024x3072 ![0, 3616] w slices_S1024x6688_S1024x3072_0_3616) bitsLt_bf16_f32

theorem v2_eq (c : Dev nD) : V m c main_v2 = opH (m ((c : Thread nD τ).loc main_arg0)) := by
  simp only [V, hostOps0, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v3_eq (c : Dev nD) : V m c main_v3 = opW (m ((c : Thread nD τ).loc main_arg1)) := by
  simp only [V, hostOps0, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl

theorem opH_at (h : FVec Ideal S4x4096x1024 .f32) (R : Fin 16384) (d : Fin 1024) :
    opH h (ix2 R d) = h (ix3 ⟨R.val / 4096, by omega⟩ ⟨R.val % 4096, by omega⟩ d) := by
  pointwise [opH]
theorem opW_at (w : FVec Ideal S1024x6688 .f32) (x : Fin 1024) (k : Fin 3072) : opW w (ix2 x k) = w (ix2 x ⟨3616 + k.val, by omega⟩) := by
  pointwise [opW]
end Cert.GatesIdeal.Gates
end
end
-- ==== Proof.GatesReference.lean ====
module
public import proofs.«01_k».proof.Proof.Gen.GatesReferenceIdeal.Run
public import proofs.«01_k».proof.Proof.GatesArray
@[expose] public section
set_option maxRecDepth 16384
noncomputable section
open Idealize.ShloMosaic Idealize.ShloMosaic.TcCoe Idealize.SL.Sem
namespace Cert.GatesReferenceIdeal.Gates
open Cert.GatesReferenceIdeal Cert.GatesReferenceIdeal.Gen Cert.GatesReferenceIdeal.Value Cert.Gates

/-- The reference's result. -/
def refOut (h : FVec Ideal S4x4096x1024 .f32) (w : FVec Ideal S1024x6688 .f32) : FVec Ideal S3x16384x1024 .bf16 :=
  truncf .bf16 (shapeCast _ (transpose S3x4x4096x1024 [2, 0, 1, 3] (shapeCast _ (Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf (extractStridedSlice S4x4096x3072 ![0, 0, 3616] (Host.dotGeneral dot_S4x4096x1024_S1024x6688_S4x4096x6688_2_0_01_1_n_n none h w) slices_S4x4096x6688_S4x4096x3072_0_0_3616))))) shapeCasts_S4x4096x3072_S4x4096x3x1024) transposes_S4x4096x3x1024_S3x4x4096x1024_2_0_1_3) shapeCasts_S3x4x4096x1024_S3x16384x1024) bitsLt_bf16_f32

theorem refOut_at (h : FVec Ideal S4x4096x1024 .f32) (w : FVec Ideal S1024x6688 .f32) (n : Fin 3) (R : Fin 16384) (d : Fin 1024) :
    refOut h w (ix3 n R d) = Ideal.logistic (∑ x : Fin 1024, h (ix3 ⟨R.val / 4096, by omega⟩ ⟨R.val % 4096, by omega⟩ x) * w (ix2 x ⟨3616 + (1024 * n.val + d.val), by omega⟩)) := by
  pointwise [refOut]
  unfold Ideal.logistic
  refine congrArg (fun z : EReal => Ideal.div 1 (1 + Ideal.exp (-z))) (Finset.sum_congr rfl fun x _ => ?_)
  refine congrArg (fun z : EReal => h (ix3 ⟨R.val / 4096, by omega⟩ ⟨R.val % 4096, by omega⟩ x) * z) (congrArg w (congrArg (ix2 x) (Fin.ext ?_)))
  simp only
  omega
end Cert.GatesReferenceIdeal.Gates

namespace Cert.Gates
open Cert.GatesIdeal Cert.GatesIdeal.Gates
/-- The kernel's gates are the reference's. -/
theorem arrays_eq (h : FVec Ideal S4x4096x1024 .f32) (w : FVec Ideal S1024x6688 .f32) : outArr (opH h) (opW w) = GatesReferenceIdeal.Gates.refOut h w := by
  funext (y : S3x16384x1024.Idx)
  obtain ⟨n, R, d, rfl⟩ : ∃ (n : Fin 3) (R : Fin 16384) (d : Fin 1024), y = ix3 n R d := ⟨y 0, y 1, y 2, eq_ix3 y⟩
  refine Eq.trans ?_ (GatesReferenceIdeal.Gates.refOut_at h w n R d).symm
  refine (sigmoid_eq _).trans (congrArg Ideal.logistic (Finset.sum_congr rfl fun x _ => congrArg₂ (α := EReal) (β := EReal) (· * ·) (opH_at h R x) (opW_at w x _)))
end Cert.Gates
end
end
-- ==== Proof.MergePayload.lean ====
module
public import proofs.«01_k».proof.Proof.Gen.MergeIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.MergeIdeal.Merge
open Cert.MergeIdeal Cert.MergeIdeal.Gen

/-! ## The merge's payloads at their indices -/

/-- A row of four packed blocks of heads. -/
abbrev row (x : Vec Ideal S4x512x128 .bf16) (r c : Fin 512) : EReal := x (ix3 ⟨c.val / 128, by omega⟩ r ⟨c.val % 128, by omega⟩)

theorem blk0 (x : Vec Ideal S4x512x128 .bf16) (r : Fin 512) (e : Fin 128) : View.ld x r0_2 (ix3 0 r e) = x (ix3 0 r e) := by
  pointwise [r0_2]
theorem blk1 (x : Vec Ideal S4x512x128 .bf16) (r : Fin 512) (e : Fin 128) : View.ld x r0_3 (ix3 0 r e) = x (ix3 1 r e) := by
  pointwise [r0_3]
theorem blk2 (x : Vec Ideal S4x512x128 .bf16) (r : Fin 512) (e : Fin 128) : View.ld x r0_4 (ix3 0 r e) = x (ix3 2 r e) := by
  pointwise [r0_4]
theorem blk3 (x : Vec Ideal S4x512x128 .bf16) (r : Fin 512) (e : Fin 128) : View.ld x r0_5 (ix3 0 r e) = x (ix3 3 r e) := by
  pointwise [r0_5]

theorem whole5 (g : Vec Ideal S512x128 .bf16) (r : Fin 512) (l : Fin 128) : View.ld g r0_0 (ix2 r l) = g (ix2 r l) := by
  pointwise [r0_0]
theorem whole6 (g : Vec Ideal S128x1536 .bf16) (l : Fin 128) (k : Fin 1536) : View.ld g r0_1 (ix2 l k) = g (ix2 l k) := by
  pointwise [r0_1]

/-- An index of a chunk. -/
theorem piece_index (x : S512x256.Idx) (r : Fin 512) (k : Fin 256) (h1 : r.val = (x 0).val) (h2 : k.val = (x 1).val) : x = ix2 r k := by
  funext a
  match a with
  | ⟨0, _⟩ => exact Fin.ext h1.symm
  | ⟨1, _⟩ => exact Fin.ext h2.symm

theorem pick (x : Vec Ideal S4x512x128 .bf16) (r c : Fin 512) (p : Fin 4) (e : Fin 128) (hp : p.val = c.val / 128) (he : e.val = c.val % 128) :
    x (ix3 p r e) = row x r c := by
  have h1 : p = ⟨c.val / 128, by omega⟩ := Fin.ext hp
  have h2 : e = ⟨c.val % 128, by omega⟩ := Fin.ext he
  rw [h1, h2]

theorem packed (x : Vec Ideal S4x512x128 .bf16) (r c : Fin 512) :
    k0_pay8 (View.ld x r0_2) (View.ld x r0_3) (View.ld x r0_4) (View.ld x r0_5) (ix2 r c) = row x r c := by
  pointwise [k0_pay8]
  have hc := c.isLt
  by_cases h1 : c.val < 128
  · rw [dif_pos h1]
    exact pick x r c 0 _ (by simp only [Fin.val_zero]; omega) (by simp only; omega)
  rw [dif_neg h1]
  by_cases h2 : c.val - 128 < 128
  · rw [dif_pos h2]
    exact pick x r c 1 _ (by rw [show (1 : Fin 4).val = 1 from rfl]; omega) (by simp only; omega)
  rw [dif_neg h2]
  by_cases h3 : c.val - 128 - 128 < 128
  · rw [dif_pos h3]
    exact pick x r c 2 _ (by rw [show (2 : Fin 4).val = 2 from rfl]; omega) (by simp only; omega)
  rw [dif_neg h3]
  exact pick x r c 3 _ (by rw [show (3 : Fin 4).val = 3 from rfl]; omega) (by simp only; omega)

/-- The branch gates spread over the columns. -/
theorem spread (g : Vec Ideal S512x128 .bf16) (t : Vec Ideal S128x1536 .bf16) (r : Fin 512) (k : Fin 1536) :
    k0_pay3 g t (ix2 r k) = ∑ l : Fin 128, g (ix2 r l) * t (ix2 l k) := by
  pointwise [k0_pay3]

theorem first (g : Vec Ideal S512x128 .bf16) (t : Vec Ideal S128x1536 .bf16) (a b c d : Vec Ideal S1x512x128 .bf16) (r k : Fin 512) :
    k0_pay4 g t a b c d (ix2 r k) = k0_pay3 g t (ix2 r ⟨k.val, by omega⟩) * k0_pay8 a b c d (ix2 r k) := by
  have h : k0_pay4 g t a b c d (ix2 r k) = addf (broadcast S512x512 (Scalar.ofBits (F := Ideal) .f32 0x00000000#32))
    (mulf (extractStridedSlice S512x512 ![0, 0] (k0_pay3 g t) slices_S512x1536_o0_0_S512x512) (extf .f32 (k0_pay8 a b c d) bitsLt_bf16_f32)) (ix2 r k) := rfl
  rw [h]
  generalize k0_pay3 g t = G
  generalize k0_pay8 a b c d = H
  pointwise []

theorem rest (G : FVec Ideal S512x1536 .f32) (u v : FVec Ideal S512x512 .f32) (w : FVec Ideal S512x512 .bf16) (a b c d : Vec Ideal S1x512x128 .bf16) (r k : Fin 512) :
    k0_pay7 G u v w a b c d (ix2 r k) = u (ix2 r k) + v (ix2 r k) * w (ix2 r k) + G (ix2 r ⟨1024 + k.val, by omega⟩) * k0_pay8 a b c d (ix2 r k) := by
  have h : k0_pay7 G u v w a b c d (ix2 r k) = truncf .bf16 (addf (addf u (mulf v (extf .f32 w bitsLt_bf16_f32)))
    (mulf (extractStridedSlice S512x512 ![0, 1024] G slices_S512x1536_o0_1024_S512x512) (extf .f32 (k0_pay8 a b c d) bitsLt_bf16_f32))) bitsLt_bf16_f32 (ix2 r k) := rfl
  rw [h]
  generalize k0_pay8 a b c d = H
  pointwise []

theorem second (g : Vec Ideal S512x128 .bf16) (t : Vec Ideal S128x1536 .bf16) (r k : Fin 512) :
    k0_pay5 g t (ix2 r k) = k0_pay3 g t (ix2 r ⟨512 + k.val, by omega⟩) := by
  unfold k0_pay5
  generalize k0_pay3 g t = G
  pointwise []

theorem branch (A : FVec Ideal S512x512 .bf16) (w : Vec Ideal S1x512x256 .bf16) (r : Fin 512) (k : Fin 256) :
    k0_pay15 A w (ix2 r k) = ∑ x : Fin 512, A (ix2 r x) * w (ix3 0 x k) := by
  pointwise [k0_pay15]

/-- The three gated branches, one chunk of columns. -/
abbrev gated (A B C : FVec Ideal S512x512 .bf16) (g0 w0 g1 w1 g2 w2 : Vec Ideal S1x512x256 .bf16) (r : Fin 512) (k : Fin 256) : EReal :=
  g0 (ix3 0 r k) * (∑ x : Fin 512, A (ix2 r x) * w0 (ix3 0 x k)) + g1 (ix3 0 r k) * (∑ x : Fin 512, B (ix2 r x) * w1 (ix3 0 x k))
    + g2 (ix3 0 r k) * (∑ x : Fin 512, C (ix2 r x) * w2 (ix3 0 x k))

theorem chunk1 (A B C : FVec Ideal S512x512 .bf16) (g0 w0 g1 w1 g2 w2 : Vec Ideal S1x512x256 .bf16) (r : Fin 512) (k : Fin 256) :
    k0_pay13 A B C g0 w0 g1 w1 g2 w2 (ix2 r k) = gated A B C g0 w0 g1 w1 g2 w2 r k := by
  pointwise [k0_pay13]

theorem gated_of {A B C : FVec Ideal S512x512 .bf16} {g0 w0 g1 w1 g2 w2 : Vec Ideal S1x512x256 .bf16} {r : Fin 512} {k : Fin 256} {G0 G1 G2 : EReal} {W0 W1 W2 : Fin 512 → EReal}
    (hg0 : g0 (ix3 0 r k) = G0) (hg1 : g1 (ix3 0 r k) = G1) (hg2 : g2 (ix3 0 r k) = G2)
    (hw0 : ∀ x : Fin 512, w0 (ix3 0 x k) = W0 x) (hw1 : ∀ x : Fin 512, w1 (ix3 0 x k) = W1 x) (hw2 : ∀ x : Fin 512, w2 (ix3 0 x k) = W2 x) :
    gated A B C g0 w0 g1 w1 g2 w2 r k = G0 * (∑ x : Fin 512, A (ix2 r x) * W0 x) + G1 * (∑ x : Fin 512, B (ix2 r x) * W1 x) + G2 * (∑ x : Fin 512, C (ix2 r x) * W2 x) := by
  unfold gated
  rw [hg0, hg1, hg2]
  simp only [hw0, hw1, hw2]

/-- The four chunks' columns of the gates and of the branches' weights. -/
theorem cols (y : Vec Ideal S3x512x1024 .bf16) (r : Fin 512) (k : Fin 256) :
    (View.ld y r0_6 (ix3 0 r k) = y (ix3 0 r ⟨k.val, by omega⟩) ∧ View.ld y r0_7 (ix3 0 r k) = y (ix3 1 r ⟨k.val, by omega⟩) ∧ View.ld y r0_8 (ix3 0 r k) = y (ix3 2 r ⟨k.val, by omega⟩)) ∧
    (View.ld y r0_9 (ix3 0 r k) = y (ix3 0 r ⟨256 + k.val, by omega⟩) ∧ View.ld y r0_10 (ix3 0 r k) = y (ix3 1 r ⟨256 + k.val, by omega⟩) ∧ View.ld y r0_11 (ix3 0 r k) = y (ix3 2 r ⟨256 + k.val, by omega⟩)) ∧
    (View.ld y r0_12 (ix3 0 r k) = y (ix3 0 r ⟨512 + k.val, by omega⟩) ∧ View.ld y r0_13 (ix3 0 r k) = y (ix3 1 r ⟨512 + k.val, by omega⟩) ∧ View.ld y r0_14 (ix3 0 r k) = y (ix3 2 r ⟨512 + k.val, by omega⟩)) ∧
    (View.ld y r0_15 (ix3 0 r k) = y (ix3 0 r ⟨768 + k.val, by omega⟩) ∧ View.ld y r0_16 (ix3 0 r k) = y (ix3 1 r ⟨768 + k.val, by omega⟩) ∧ View.ld y r0_17 (ix3 0 r k) = y (ix3 2 r ⟨768 + k.val, by omega⟩)) := by
  refine ⟨⟨?_, ?_, ?_⟩, ⟨?_, ?_, ?_⟩, ⟨?_, ?_, ?_⟩, ⟨?_, ?_, ?_⟩⟩
  · pointwise [r0_6]
  · pointwise [r0_7]
  · pointwise [r0_8]
  · pointwise [r0_9]
  · pointwise [r0_10]
  · pointwise [r0_11]
  · pointwise [r0_12]
  · pointwise [r0_13]
  · pointwise [r0_14]
  · pointwise [r0_15]
  · pointwise [r0_16]
  · pointwise [r0_17]

/-- The mix of the branches over the whole width. -/
abbrev mixRow (A B C : FVec Ideal S512x512 .bf16) (g w : Vec Ideal S3x512x1024 .bf16) (r : Fin 512) (k : Fin 1024) : EReal :=
  g (ix3 0 r k) * (∑ x : Fin 512, A (ix2 r x) * w (ix3 0 x k)) + g (ix3 1 r k) * (∑ x : Fin 512, B (ix2 r x) * w (ix3 1 x k))
    + g (ix3 2 r k) * (∑ x : Fin 512, C (ix2 r x) * w (ix3 2 x k))

/-- Four chunks side by side. -/
theorem beside (a b c d : FVec Ideal S512x256 .bf16) (r : Fin 512) (k : Fin 1024) :
    concatenate S512x1024 1 [⟨S512x256, a⟩, ⟨S512x256, b⟩, ⟨S512x256, c⟩, ⟨S512x256, d⟩] concatenates_S512x256_S512x256_S512x256_S512x256_S512x1024_d1 (ix2 r k)
      = if h : k.val < 256 then a (ix2 r ⟨k.val, h⟩) else if h : k.val - 256 < 256 then b (ix2 r ⟨k.val - 256, h⟩)
        else if h : k.val - 256 - 256 < 256 then c (ix2 r ⟨k.val - 256 - 256, h⟩) else d (ix2 r ⟨k.val - 256 - 256 - 256, by omega⟩) := by
  pointwise []

theorem mix (A B C : FVec Ideal S512x512 .bf16) (g w : Vec Ideal S3x512x1024 .bf16) (r : Fin 512) (k : Fin 1024) :
    concatenate S512x1024 1 [⟨S512x256, k0_pay13 A B C (View.ld g r0_6) (View.ld w r0_6) (View.ld g r0_7) (View.ld w r0_7) (View.ld g r0_8) (View.ld w r0_8)⟩,
      ⟨S512x256, k0_pay13 A B C (View.ld g r0_9) (View.ld w r0_9) (View.ld g r0_10) (View.ld w r0_10) (View.ld g r0_11) (View.ld w r0_11)⟩,
      ⟨S512x256, k0_pay13 A B C (View.ld g r0_12) (View.ld w r0_12) (View.ld g r0_13) (View.ld w r0_13) (View.ld g r0_14) (View.ld w r0_14)⟩,
      ⟨S512x256, k0_pay13 A B C (View.ld g r0_15) (View.ld w r0_15) (View.ld g r0_16) (View.ld w r0_16) (View.ld g r0_17) (View.ld w r0_17)⟩]
      concatenates_S512x256_S512x256_S512x256_S512x256_S512x1024_d1 (ix2 r k) = mixRow A B C g w r k := by
  have hk := k.isLt
  rw [beside]
  by_cases h1 : k.val < 256
  · rw [dif_pos h1, chunk1]
    exact gated_of (cols g r _).1.1 (cols g r _).1.2.1 (cols g r _).1.2.2 (fun x => (cols w x _).1.1) (fun x => (cols w x _).1.2.1) (fun x => (cols w x _).1.2.2)
  rw [dif_neg h1]
  by_cases h2 : k.val - 256 < 256
  · rw [dif_pos h2, chunk1]
    refine Eq.trans ?_ (congrArg (mixRow A B C g w r) (Fin.ext (show 256 + (k.val - 256) = k.val by omega)) : mixRow A B C g w r ⟨256 + (k.val - 256), by omega⟩ = _)
    exact gated_of (cols g r _).2.1.1 (cols g r _).2.1.2.1 (cols g r _).2.1.2.2 (fun x => (cols w x _).2.1.1) (fun x => (cols w x _).2.1.2.1) (fun x => (cols w x _).2.1.2.2)
  rw [dif_neg h2]
  by_cases h3 : k.val - 256 - 256 < 256
  · rw [dif_pos h3, chunk1]
    refine Eq.trans ?_ (congrArg (mixRow A B C g w r) (Fin.ext (show 512 + (k.val - 256 - 256) = k.val by omega)) : mixRow A B C g w r ⟨512 + (k.val - 256 - 256), by omega⟩ = _)
    exact gated_of (cols g r _).2.2.1.1 (cols g r _).2.2.1.2.1 (cols g r _).2.2.1.2.2 (fun x => (cols w x _).2.2.1.1) (fun x => (cols w x _).2.2.1.2.1) (fun x => (cols w x _).2.2.1.2.2)
  rw [dif_neg h3, chunk1]
  refine Eq.trans ?_ (congrArg (mixRow A B C g w r) (Fin.ext (show 768 + (k.val - 256 - 256 - 256) = k.val by omega)) : mixRow A B C g w r ⟨768 + (k.val - 256 - 256 - 256), by omega⟩ = _)
  exact gated_of (cols g r _).2.2.2.1 (cols g r _).2.2.2.2.1 (cols g r _).2.2.2.2.2 (fun x => (cols w x _).2.2.2.1) (fun x => (cols w x _).2.2.2.2.1) (fun x => (cols w x _).2.2.2.2.2)

/-- The last product, one chunk of columns. -/
theorem last (M : FVec Ideal S512x1024 .bf16) (x : Vec Ideal S512x256 .f32) (w : Vec Ideal S1024x256 .bf16) (r : Fin 512) (k : Fin 256) :
    k0_pay2 M x w (ix2 r k) = x (ix2 r k) + ∑ j : Fin 1024, M (ix2 r j) * w (ix2 j k) := by
  pointwise [k0_pay2]

theorem outCols (y : Vec Ideal S512x1024 .f32) (r : Fin 512) (k : Fin 256) :
    View.ld y r0_18 (ix2 r k) = y (ix2 r ⟨k.val, by omega⟩) ∧ View.ld y r0_20 (ix2 r k) = y (ix2 r ⟨256 + k.val, by omega⟩) ∧
    View.ld y r0_22 (ix2 r k) = y (ix2 r ⟨512 + k.val, by omega⟩) ∧ View.ld y r0_24 (ix2 r k) = y (ix2 r ⟨768 + k.val, by omega⟩) := by
  refine ⟨?_, ?_, ?_, ?_⟩
  · pointwise [r0_18]
  · pointwise [r0_20]
  · pointwise [r0_22]
  · pointwise [r0_24]
theorem lastCols (y : Vec Ideal S1024x1024 .bf16) (r : Fin 1024) (k : Fin 256) :
    View.ld y r0_19 (ix2 r k) = y (ix2 r ⟨k.val, by omega⟩) ∧ View.ld y r0_21 (ix2 r k) = y (ix2 r ⟨256 + k.val, by omega⟩) ∧
    View.ld y r0_23 (ix2 r k) = y (ix2 r ⟨512 + k.val, by omega⟩) ∧ View.ld y r0_25 (ix2 r k) = y (ix2 r ⟨768 + k.val, by omega⟩) := by
  refine ⟨?_, ?_, ?_, ?_⟩
  · pointwise [r0_19]
  · pointwise [r0_21]
  · pointwise [r0_23]
  · pointwise [r0_25]

/-! ## What a block stores -/

section
variable (x0 x1 x2 x3 x4 : Vec Ideal S4x512x128 .bf16) (x5 : Vec Ideal S512x128 .bf16) (x6 : Vec Ideal S128x1536 .bf16) (x7 x8 : Vec Ideal S3x512x1024 .bf16)
  (x9 : Vec Ideal S1024x1024 .bf16) (x10 : Vec Ideal S512x1024 .f32)

theorem spreadAt (r : Fin 512) (k : Fin 1536) : k0_pay3 (View.ld x5 r0_0) (View.ld x6 r0_1) (ix2 r k) = ∑ l : Fin 128, x5 (ix2 r l) * x6 (ix2 l k) :=
  (spread _ _ r k).trans (Finset.sum_congr rfl fun l _ => congrArg₂ (α := EReal) (β := EReal) (· * ·) (whole5 x5 r l) (whole6 x6 l k))

/-- The first branch's rows: three mixers' outputs, gated. -/
theorem branchA (r c : Fin 512) : k0_pay23 x0 x1 x2 x3 x4 x5 x6 x7 x8 x9 x10 (ix2 r c)
    = (∑ l : Fin 128, x5 (ix2 r l) * x6 (ix2 l ⟨c.val, by omega⟩)) * row x0 r c + (∑ l : Fin 128, x5 (ix2 r l) * x6 (ix2 l ⟨512 + c.val, by omega⟩)) * row x1 r c
      + (∑ l : Fin 128, x5 (ix2 r l) * x6 (ix2 l ⟨1024 + c.val, by omega⟩)) * row x2 r c := by
  unfold k0_pay23
  rw [rest, first, second, spreadAt, spreadAt, spreadAt, packed, packed]
  rw [show k0_pay6 (View.ld x1 r0_2) (View.ld x1 r0_3) (View.ld x1 r0_4) (View.ld x1 r0_5) = k0_pay8 (View.ld x1 r0_2) (View.ld x1 r0_3) (View.ld x1 r0_4) (View.ld x1 r0_5) from rfl, packed]
theorem branchB (r c : Fin 512) : k0_pay24 x0 x1 x2 x3 x4 x5 x6 x7 x8 x9 x10 (ix2 r c) = row x3 r c := packed x3 r c
theorem branchC (r c : Fin 512) : k0_pay27 x0 x1 x2 x3 x4 x5 x6 x7 x8 x9 x10 (ix2 r c) = row x4 r c := packed x4 r c

theorem mixed (r : Fin 512) (k : Fin 1024) : k0_pay33 x0 x1 x2 x3 x4 x5 x6 x7 x8 x9 x10 (ix2 r k)
    = mixRow (k0_pay23 x0 x1 x2 x3 x4 x5 x6 x7 x8 x9 x10) (k0_pay24 x0 x1 x2 x3 x4 x5 x6 x7 x8 x9 x10) (k0_pay27 x0 x1 x2 x3 x4 x5 x6 x7 x8 x9 x10) x7 x8 r k :=
  mix _ _ _ _ _ _ _

/-- A block's row before the addition of its input, as a sum. -/
abbrev outAt (r : Fin 512) (k : Fin 1024) : EReal :=
  x10 (ix2 r k) + ∑ j : Fin 1024, k0_pay33 x0 x1 x2 x3 x4 x5 x6 x7 x8 x9 x10 (ix2 r j) * x9 (ix2 j k)

theorem stored (r : Fin 512) (k : Fin 256) (K : Fin 1024) (M : FVec Ideal S512x1024 .bf16) (x : Vec Ideal S512x256 .f32) (w : Vec Ideal S1024x256 .bf16)
    (hM : M = k0_pay33 x0 x1 x2 x3 x4 x5 x6 x7 x8 x9 x10) (hx : x (ix2 r k) = x10 (ix2 r K)) (hw : ∀ j, w (ix2 j k) = x9 (ix2 j K)) :
    k0_pay2 M x w (ix2 r k) = outAt x0 x1 x2 x3 x4 x5 x6 x7 x8 x9 x10 r K := by
  rw [last, hx, hM]
  exact congrArg (fun z : EReal => x10 (ix2 r K) + z) (Finset.sum_congr rfl fun j _ => congrArg _ (hw j))

theorem block_at (r : Fin 512) (k : Fin 1024) : out0_11 x0 x1 x2 x3 x4 x5 x6 x7 x8 x9 x10 (ix2 r k) = outAt x0 x1 x2 x3 x4 x5 x6 x7 x8 x9 x10 r k := by
  unfold out0_11
  have hk := k.isLt
  canon_tiles x h
  case piece0 =>
    have e : x = ix2 r (⟨k.val - 768, by simp at h1; omega⟩ : Fin 256) := piece_index x r _ h0 (by simp at h1 ⊢; omega)
    refine (congrArg _ e).trans ((stored x0 x1 x2 x3 x4 x5 x6 x7 x8 x9 x10 r _ ⟨768 + (k.val - 768), by omega⟩ _ _ _ rfl (outCols x10 r _).2.2.2 fun j => (lastCols x9 j _).2.2.2).trans ?_)
    exact congrArg (outAt x0 x1 x2 x3 x4 x5 x6 x7 x8 x9 x10 r) (Fin.ext (by simp at h1 ⊢; omega))
  case piece1 =>
    have e : x = ix2 r (⟨k.val - 512, by simp at h1; omega⟩ : Fin 256) := piece_index x r _ h0 (by simp at h1 ⊢; omega)
    refine (congrArg _ e).trans ((stored x0 x1 x2 x3 x4 x5 x6 x7 x8 x9 x10 r _ ⟨512 + (k.val - 512), by simp at h1; omega⟩ _ _ _ rfl (outCols x10 r _).2.2.1 fun j => (lastCols x9 j _).2.2.1).trans ?_)
    exact congrArg (outAt x0 x1 x2 x3 x4 x5 x6 x7 x8 x9 x10 r) (Fin.ext (by simp at h1 ⊢; omega))
  case piece2 =>
    have e : x = ix2 r (⟨k.val - 256, by simp at h1; omega⟩ : Fin 256) := piece_index x r _ h0 (by simp at h1 ⊢; omega)
    refine (congrArg _ e).trans ((stored x0 x1 x2 x3 x4 x5 x6 x7 x8 x9 x10 r _ ⟨256 + (k.val - 256), by simp at h1; omega⟩ _ _ _ rfl (outCols x10 r _).2.1 fun j => (lastCols x9 j _).2.1).trans ?_)
    exact congrArg (outAt x0 x1 x2 x3 x4 x5 x6 x7 x8 x9 x10 r) (Fin.ext (by simp at h1 ⊢; omega))
  case piece3 =>
    have e : x = ix2 r (⟨k.val, by simp at h1; omega⟩ : Fin 256) := piece_index x r _ h0 (by simp at h1 ⊢; omega)
    refine (congrArg _ e).trans ((stored x0 x1 x2 x3 x4 x5 x6 x7 x8 x9 x10 r _ ⟨k.val, by omega⟩ _ _ _ rfl (outCols x10 r _).1 fun j => (lastCols x9 j _).1).trans rfl)
end
end Cert.MergeIdeal.Merge
end
end
-- ==== Proof.MergeArray.lean ====
module
public import proofs.«01_k».proof.Proof.MergePayload
@[expose] public section
set_option maxRecDepth 16384
noncomputable section
open Idealize.ShloMosaic Idealize.ShloMosaic.TcCoe Idealize.SL.Sem
namespace Cert.Merge

/-! ## The merge over rows, and the array the call leaves -/

/-- A row of four packed blocks. -/
abbrev rowOf (x : Fin 4 → Fin 128 → EReal) (c : Fin 512) : EReal := x ⟨c.val / 128, by omega⟩ ⟨c.val % 128, by omega⟩
/-- The first branch's row. -/
abbrev rowA (x0 x1 x2 : Fin 4 → Fin 128 → EReal) (g : Fin 128 → EReal) (t : Fin 128 → Fin 1536 → EReal) (c : Fin 512) : EReal :=
  (∑ l : Fin 128, g l * t l ⟨c.val, by omega⟩) * rowOf x0 c + (∑ l : Fin 128, g l * t l ⟨512 + c.val, by omega⟩) * rowOf x1 c
    + (∑ l : Fin 128, g l * t l ⟨1024 + c.val, by omega⟩) * rowOf x2 c
/-- The gated mix of three branches. -/
abbrev mixOf (A B C : Fin 512 → EReal) (g : Fin 3 → Fin 1024 → EReal) (w : Fin 3 → Fin 512 → Fin 1024 → EReal) (k : Fin 1024) : EReal :=
  g 0 k * (∑ x : Fin 512, A x * w 0 x k) + g 1 k * (∑ x : Fin 512, B x * w 1 x k) + g 2 k * (∑ x : Fin 512, C x * w 2 x k)
/-- A row of the result. -/
def rowOut (x0 x1 x2 x3 x4 : Fin 4 → Fin 128 → EReal) (x5 : Fin 128 → EReal) (x6 : Fin 128 → Fin 1536 → EReal) (x7 : Fin 3 → Fin 1024 → EReal)
    (x8 : Fin 3 → Fin 512 → Fin 1024 → EReal) (x9 : Fin 1024 → Fin 1024 → EReal) (x10 : Fin 1024 → EReal) (k : Fin 1024) : EReal :=
  x10 k + ∑ j : Fin 1024, mixOf (rowA x0 x1 x2 x5 x6) (rowOf x3) (rowOf x4) x7 x8 j * x9 j k

theorem rowOut_congr {x0 x1 x2 x3 x4 y0 y1 y2 y3 y4 : Fin 4 → Fin 128 → EReal} {x5 y5 : Fin 128 → EReal} {x6 y6 : Fin 128 → Fin 1536 → EReal} {x7 y7 : Fin 3 → Fin 1024 → EReal}
    {x8 y8 : Fin 3 → Fin 512 → Fin 1024 → EReal} {x9 y9 : Fin 1024 → Fin 1024 → EReal} {x10 y10 : Fin 1024 → EReal}
    (h0 : ∀ p e, x0 p e = y0 p e) (h1 : ∀ p e, x1 p e = y1 p e) (h2 : ∀ p e, x2 p e = y2 p e) (h3 : ∀ p e, x3 p e = y3 p e) (h4 : ∀ p e, x4 p e = y4 p e)
    (h5 : ∀ l, x5 l = y5 l) (h6 : ∀ l k, x6 l k = y6 l k) (h7 : ∀ n k, x7 n k = y7 n k) (h8 : ∀ n c k, x8 n c k = y8 n c k) (h9 : ∀ j k, x9 j k = y9 j k)
    (h10 : ∀ k, x10 k = y10 k) (k : Fin 1024) : rowOut x0 x1 x2 x3 x4 x5 x6 x7 x8 x9 x10 k = rowOut y0 y1 y2 y3 y4 y5 y6 y7 y8 y9 y10 k := by
  obtain rfl : x0 = y0 := funext fun p => funext fun e => h0 p e
  obtain rfl : x1 = y1 := funext fun p => funext fun e => h1 p e
  obtain rfl : x2 = y2 := funext fun p => funext fun e => h2 p e
  obtain rfl : x3 = y3 := funext fun p => funext fun e => h3 p e
  obtain rfl : x4 = y4 := funext fun p => funext fun e => h4 p e
  obtain rfl : x5 = y5 := funext fun l => h5 l
  obtain rfl : x6 = y6 := funext fun l => funext fun k => h6 l k
  obtain rfl : x7 = y7 := funext fun l => funext fun k => h7 l k
  obtain rfl : x8 = y8 := funext fun n => funext fun l => funext fun k => h8 n l k
  obtain rfl : x9 = y9 := funext fun l => funext fun k => h9 l k
  obtain rfl : x10 = y10 := funext fun k => h10 k
  rfl
end Cert.Merge

namespace Cert.MergeIdeal.Merge
open Cert.MergeIdeal Cert.MergeIdeal.Gen Cert.Merge

theorem block_row (x0 x1 x2 x3 x4 : Vec Ideal S4x512x128 .bf16) (x5 : Vec Ideal S512x128 .bf16) (x6 : Vec Ideal S128x1536 .bf16) (x7 x8 : Vec Ideal S3x512x1024 .bf16)
    (x9 : Vec Ideal S1024x1024 .bf16) (x10 : Vec Ideal S512x1024 .f32) (r : Fin 512) (k : Fin 1024) :
    out0_11 x0 x1 x2 x3 x4 x5 x6 x7 x8 x9 x10 (ix2 r k) = rowOut (fun p e => x0 (ix3 p r e)) (fun p e => x1 (ix3 p r e)) (fun p e => x2 (ix3 p r e)) (fun p e => x3 (ix3 p r e))
      (fun p e => x4 (ix3 p r e)) (fun l => x5 (ix2 r l)) (fun l k => x6 (ix2 l k)) (fun n k => x7 (ix3 n r k)) (fun n c k => x8 (ix3 n c k)) (fun j k => x9 (ix2 j k)) (fun k => x10 (ix2 r k)) k := by
  rw [block_at]
  unfold rowOut
  refine congrArg (fun z : EReal => x10 (ix2 r k) + z) (Finset.sum_congr rfl fun j _ => congrArg (fun z : EReal => z * x9 (ix2 j k)) ?_)
  rw [mixed]
  refine congrArg₂ (α := EReal) (β := EReal) (· + ·) (congrArg₂ (α := EReal) (β := EReal) (· + ·) ?_ ?_) ?_
  · exact congrArg (fun z : EReal => x7 (ix3 0 r j) * z) (Finset.sum_congr rfl fun c _ => congrArg (fun z : EReal => z * x8 (ix3 0 c j)) (branchA x0 x1 x2 x3 x4 x5 x6 x7 x8 x9 x10 r c))
  · exact congrArg (fun z : EReal => x7 (ix3 1 r j) * z) (Finset.sum_congr rfl fun c _ => congrArg (fun z : EReal => z * x8 (ix3 1 c j)) (branchB x0 x1 x2 x3 x4 x5 x6 x7 x8 x9 x10 r c))
  · exact congrArg (fun z : EReal => x7 (ix3 2 r j) * z) (Finset.sum_congr rfl fun c _ => congrArg (fun z : EReal => z * x8 (ix3 2 c j)) (branchC x0 x1 x2 x3 x4 x5 x6 x7 x8 x9 x10 r c))

theorem idx : ∀ t : Fin cfg0.N, (win0_0.index t = ![0, t.val, 0] ∧ win0_1.index t = ![0, t.val, 0] ∧ win0_2.index t = ![0, t.val, 0] ∧ win0_3.index t = ![0, t.val, 0] ∧ win0_4.index t = ![0, t.val, 0])
    ∧ win0_5.index t = ![t.val, 0] ∧ win0_6.index t = ![0, 0] ∧ win0_7.index t = ![0, t.val, 0] ∧ win0_8.index t = ![0, 0, 0] ∧ win0_9.index t = ![0, 0] ∧ win0_10.index t = ![t.val, 0]
    ∧ win0_11.index t = ![t.val, 0] :=
  (by decide +kernel : ∀ t : Fin grid0.N, _)

variable (m : (ℓ : Loc nD τ sig) → Buf (Elt Ideal) ℓ)

section
variable (c : Dev nD) (t : Fin cfg0.N)
theorem x0_at (p : Fin 4) (r : Fin 512) (e : Fin 128) (R : Fin 16384) (hR : R.val = 512 * t.val + r.val) :
    iblk m c 0 t (ix3 p r e) = (V m c main_v46 : FVec Ideal S4x16384x128 .bf16) (ix3 p R e) := by
  blk_ext [iblk, idx t]
theorem x1_at (p : Fin 4) (r : Fin 512) (e : Fin 128) (R : Fin 16384) (hR : R.val = 512 * t.val + r.val) :
    iblk m c 1 t (ix3 p r e) = (V m c main_v50 : FVec Ideal S4x16384x128 .bf16) (ix3 p R e) := by
  blk_ext [iblk, idx t]
theorem x2_at (p : Fin 4) (r : Fin 512) (e : Fin 128) (R : Fin 16384) (hR : R.val = 512 * t.val + r.val) :
    iblk m c 2 t (ix3 p r e) = (V m c main_v54 : FVec Ideal S4x16384x128 .bf16) (ix3 p R e) := by
  blk_ext [iblk, idx t]
theorem x3_at (p : Fin 4) (r : Fin 512) (e : Fin 128) (R : Fin 16384) (hR : R.val = 512 * t.val + r.val) :
    iblk m c 3 t (ix3 p r e) = (V m c main_v58 : FVec Ideal S4x16384x128 .bf16) (ix3 p R e) := by
  blk_ext [iblk, idx t]
theorem x4_at (p : Fin 4) (r : Fin 512) (e : Fin 128) (R : Fin 16384) (hR : R.val = 512 * t.val + r.val) :
    iblk m c 4 t (ix3 p r e) = (V m c main_v3 : FVec Ideal S4x16384x128 .bf16) (ix3 p R e) := by
  blk_ext [iblk, idx t]
theorem x5_at (r : Fin 512) (l : Fin 128) (R : Fin 16384) (hR : R.val = 512 * t.val + r.val) :
    iblk m c 5 t (ix2 r l) = (V m c main_v6 : FVec Ideal S16384x128 .bf16) (ix2 R l) := by
  blk_ext [iblk, idx t]
theorem x6_at (l : Fin 128) (k : Fin 1536) : iblk m c 6 t (ix2 l k) = (V m c main_v72 : FVec Ideal S128x1536 .bf16) (ix2 l k) := by
  blk_ext [iblk, idx t]
theorem x7_at (n : Fin 3) (r : Fin 512) (k : Fin 1024) (R : Fin 16384) (hR : R.val = 512 * t.val + r.val) :
    iblk m c 7 t (ix3 n r k) = (V m c main_v9 : FVec Ideal S3x16384x1024 .bf16) (ix3 n R k) := by
  blk_ext [iblk, idx t]
theorem x8_at (n : Fin 3) (j : Fin 512) (k : Fin 1024) : iblk m c 8 t (ix3 n j k) = (V m c main_v42 : FVec Ideal S3x512x1024 .bf16) (ix3 n j k) := by
  blk_ext [iblk, idx t]
theorem x9_at (j k : Fin 1024) : iblk m c 9 t (ix2 j k) = (V m c main_v73 : FVec Ideal S1024x1024 .bf16) (ix2 j k) := by
  blk_ext [iblk, idx t]
theorem x10_at (r : Fin 512) (k : Fin 1024) (R : Fin 16384) (hR : R.val = 512 * t.val + r.val) :
    iblk m c 10 t (ix2 r k) = (V m c main_v74 : FVec Ideal S16384x1024 .f32) (ix2 R k) := by
  blk_ext [iblk, idx t]
end

/-- The array the call leaves, over its operands. -/
def outArr (x0 x1 x2 x3 x4 : FVec Ideal S4x16384x128 .bf16) (x5 : FVec Ideal S16384x128 .bf16) (x6 : FVec Ideal S128x1536 .bf16) (x7 : FVec Ideal S3x16384x1024 .bf16)
    (x8 : FVec Ideal S3x512x1024 .bf16) (x9 : FVec Ideal S1024x1024 .bf16) (x10 : FVec Ideal S16384x1024 .f32) : FVec Ideal S16384x1024 .f32 := fun y =>
  rowOut (fun p e => x0 (ix3 p (y 0) e)) (fun p e => x1 (ix3 p (y 0) e)) (fun p e => x2 (ix3 p (y 0) e)) (fun p e => x3 (ix3 p (y 0) e))
      (fun p e => x4 (ix3 p (y 0) e)) (fun l => x5 (ix2 (y 0) l)) (fun l k => x6 (ix2 l k)) (fun n k => x7 (ix3 n (y 0) k)) (fun n c k => x8 (ix3 n c k)) (fun j k => x9 (ix2 j k))
      (fun k => x10 (ix2 (y 0) k)) (y 1)

theorem final (c : Dev nD) : (dats m 0 c).arrAt 11 cfg0.N = outArr (V m c main_v46) (V m c main_v50) (V m c main_v54) (V m c main_v58) (V m c main_v3) (V m c main_v6) (V m c main_v72)
    (V m c main_v9) (V m c main_v42) (V m c main_v73) (V m c main_v74) := by
  refine (dats m 0 c).arrAt_eq_of_covers 11 _ (by decide +kernel) fun t _ y => ?_
  blk_simp
  rw [after0_11]
  have h0 : (y 0).val < 512 := (y 0).isLt
  have h1 : (y 1).val < 1024 := (y 1).isLt
  have hy : y = ix2 (⟨(y 0).val, h0⟩ : Fin 512) (⟨(y 1).val, h1⟩ : Fin 1024) := by
    funext a
    match a with
    | ⟨0, _⟩ => rfl
    | ⟨1, _⟩ => rfl
  have ht : t.val < 32 := t.isLt
  refine Eq.trans (congrArg (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) hy)
    ((block_row _ _ _ _ _ _ _ _ _ _ _ _ _).trans ?_)
  unfold outArr
  have hR : ((win0_11.blk t).view.emb y 0).val = 512 * t.val + (y 0).val := by
    blk_simp [idx t]
    try omega
  have hC : (⟨(y 1).val, h1⟩ : Fin 1024) = (win0_11.blk t).view.emb y 1 := Fin.ext (by
    blk_simp [idx t]
    try omega)
  refine (rowOut_congr (fun p e => x0_at m c t p _ e _ hR) (fun p e => x1_at m c t p _ e _ hR) (fun p e => x2_at m c t p _ e _ hR) (fun p e => x3_at m c t p _ e _ hR)
    (fun p e => x4_at m c t p _ e _ hR) (fun l => x5_at m c t _ l _ hR) (fun l k => x6_at m c t l k) (fun n k => x7_at m c t n _ k _ hR) (fun n j k => x8_at m c t n j k)
    (fun j k => x9_at m c t j k) (fun k => x10_at m c t _ k _ hR) _).trans (congrArg _ hC)
end Cert.MergeIdeal.Merge
end
end
-- ==== Proof.MergeHost.lean ====
module
public import proofs.«01_k».proof.Proof.MergeArray
@[expose] public section
set_option maxRecDepth 16384
noncomputable section
open Idealize.ShloMosaic Idealize.ShloMosaic.TcCoe Idealize.SL.Sem
namespace Cert.MergeIdeal.Merge
open Cert.MergeIdeal Cert.MergeIdeal.Gen Cert.Merge

/-! ## The arrays the call is given -/

/-- Heads packed two to a block, the second from the second group. -/
def opPair (z : FVec Ideal S4x8x4096x64 .f32) : FVec Ideal S4x16384x128 .bf16 :=
  truncf .bf16 (shapeCast S4x16384x128 (transpose S4x4x4096x2x64 [2, 0, 3, 1, 4] (shapeCast S4x2x4x4096x64 z shapeCasts_S4x8x4096x64_S4x2x4x4096x64)
    transposes_S4x2x4x4096x64_S4x4x4096x2x64_2_0_3_1_4) shapeCasts_S4x4x4096x2x64_S4x16384x128) bitsLt_bf16_f32
/-- Heads packed two to a block, in order. -/
def opNat (z : FVec Ideal S4x8x4096x64 .f32) : FVec Ideal S4x16384x128 .bf16 :=
  truncf .bf16 (shapeCast S4x16384x128 (transpose S4x4x4096x2x64 [1, 0, 3, 2, 4] (shapeCast S4x4x2x4096x64 z shapeCasts_S4x8x4096x64_S4x4x2x4096x64)
    transposes_S4x4x2x4096x64_S4x4x4096x2x64_1_0_3_2_4) shapeCasts_S4x4x4096x2x64_S4x16384x128) bitsLt_bf16_f32
/-- The mixers' gates, padded to a block of lanes. -/
def opGate (z : FVec Ideal S4x4096x24 .f32) : FVec Ideal S16384x128 .bf16 :=
  truncf .bf16 (pad S16384x128 ![0, 0] ![0, 104] ![0, 0] (shapeCast S16384x24 z shapeCasts_S4x4096x24_S16384x24) (sitofp .f32 (constantI S_ 32 0#32)) pads_S16384x24_S16384x128_000_01040 h_S_) bitsLt_bf16_f32
/-- The merge gates. -/
def opMg (z : FVec Ideal S4x4096x3072 .f32) : FVec Ideal S3x16384x1024 .bf16 :=
  truncf .bf16 (transpose S3x16384x1024 [1, 0, 2] (shapeCast S16384x3x1024 z shapeCasts_S4x4096x3072_S16384x3x1024) transposes_S16384x3x1024_S3x16384x1024_1_0_2) bitsLt_bf16_f32
/-- One branch's weights, rows in the packed heads' order. -/
def pairRows (z : FVec Ideal S512x1024 .f32) : FVec Ideal S512x1024 .f32 :=
  transpose S512x1024 [1, 0] (concatenate S1024x512 1 [
    ⟨S1024x64, extractStridedSlice S1024x64 ![0, 0] (transpose S1024x512 [1, 0] z transposes_S512x1024_S1024x512_1_0) slices_S1024x512_S1024x64_0_0⟩,
    ⟨S1024x64, extractStridedSlice S1024x64 ![0, 256] (transpose S1024x512 [1, 0] z transposes_S512x1024_S1024x512_1_0) slices_S1024x512_S1024x64_0_256⟩,
    ⟨S1024x64, extractStridedSlice S1024x64 ![0, 64] (transpose S1024x512 [1, 0] z transposes_S512x1024_S1024x512_1_0) slices_S1024x512_S1024x64_0_64⟩,
    ⟨S1024x64, extractStridedSlice S1024x64 ![0, 320] (transpose S1024x512 [1, 0] z transposes_S512x1024_S1024x512_1_0) slices_S1024x512_S1024x64_0_320⟩,
    ⟨S1024x64, extractStridedSlice S1024x64 ![0, 128] (transpose S1024x512 [1, 0] z transposes_S512x1024_S1024x512_1_0) slices_S1024x512_S1024x64_0_128⟩,
    ⟨S1024x64, extractStridedSlice S1024x64 ![0, 384] (transpose S1024x512 [1, 0] z transposes_S512x1024_S1024x512_1_0) slices_S1024x512_S1024x64_0_384⟩,
    ⟨S1024x64, extractStridedSlice S1024x64 ![0, 192] (transpose S1024x512 [1, 0] z transposes_S512x1024_S1024x512_1_0) slices_S1024x512_S1024x64_0_192⟩,
    ⟨S1024x64, extractStridedSlice S1024x64 ![0, 448] (transpose S1024x512 [1, 0] z transposes_S512x1024_S1024x512_1_0) slices_S1024x512_S1024x64_0_448⟩]
    concatenates_S1024x64_S1024x64_S1024x64_S1024x64_S1024x64_S1024x64_S1024x64_S1024x64_S1024x512_d1) transposes_S1024x512_S512x1024_1_0
/-- The branches' weights. -/
def opWb (z : FVec Ideal S3x512x1024 .f32) : FVec Ideal S3x512x1024 .bf16 :=
  truncf .bf16 (concatenate S3x512x1024 0 [
    ⟨S1x512x1024, broadcastInDim S1x512x1024 ![1, 2] bcast_S512x1024_S1x512x1024_1_2 (pairRows (shapeCast S512x1024 (extractStridedSlice S1x512x1024 ![0, 0, 0] z slices_S3x512x1024_S1x512x1024_0_0_0) shapeCasts_S1x512x1024_S512x1024))⟩,
    ⟨S1x512x1024, broadcastInDim S1x512x1024 ![1, 2] bcast_S512x1024_S1x512x1024_1_2 (pairRows (shapeCast S512x1024 (extractStridedSlice S1x512x1024 ![1, 0, 0] z slices_S3x512x1024_S1x512x1024_1_0_0) shapeCasts_S1x512x1024_S512x1024))⟩,
    ⟨S1x512x1024, broadcastInDim S1x512x1024 ![1, 2] bcast_S512x1024_S1x512x1024_1_2 (shapeCast S512x1024 (extractStridedSlice S1x512x1024 ![2, 0, 0] z slices_S3x512x1024_S1x512x1024_2_0_0) shapeCasts_S1x512x1024_S512x1024)⟩]
    concatenates_S1x512x1024_S1x512x1024_S1x512x1024_S3x512x1024_d0) bitsLt_bf16_f32
/-- The table that spreads the mixers' gates over the columns. -/
def opTable : FVec Ideal S128x1536 .bf16 :=
  shapeCast S128x1536 (uitofp .bf16 (cmpi .eq (iotaInDim S128x3x4x2x64 32 0) (addi (muli (addi (muli (iotaInDim S128x3x4x2x64 32 3) (broadcastInDim S128x3x4x2x64 ![] bcast_S_S128x3x4x2x64 (constantI S_ 32 4#32)))
    (iotaInDim S128x3x4x2x64 32 2)) (broadcastInDim S128x3x4x2x64 ![] bcast_S_S128x3x4x2x64 (constantI S_ 32 3#32))) (iotaInDim S128x3x4x2x64 32 1)))) shapeCasts_S128x3x4x2x64_S128x1536
/-- The output weights. -/
def opWo (z : FVec Ideal S1024x1024 .f32) : FVec Ideal S1024x1024 .bf16 := truncf .bf16 z bitsLt_bf16_f32
/-- The residual rows. -/
def opX (z : FVec Ideal S4x4096x1024 .f32) : FVec Ideal S16384x1024 .f32 := shapeCast S16384x1024 z shapeCasts_S4x4096x1024_S16384x1024

theorem opPair_at (z : FVec Ideal S4x8x4096x64 .f32) (p : Fin 4) (R : Fin 16384) (e : Fin 128) :
    opPair z (ix3 p R e) = z (ix4 ⟨R.val / 4096, by omega⟩ ⟨e.val / 64 * 4 + p.val, by omega⟩ ⟨R.val % 4096, by omega⟩ ⟨e.val % 64, by omega⟩) := by
  pointwise [opPair]
theorem opNat_at (z : FVec Ideal S4x8x4096x64 .f32) (p : Fin 4) (R : Fin 16384) (e : Fin 128) :
    opNat z (ix3 p R e) = z (ix4 ⟨R.val / 4096, by omega⟩ ⟨p.val * 2 + e.val / 64, by omega⟩ ⟨R.val % 4096, by omega⟩ ⟨e.val % 64, by omega⟩) := by
  pointwise [opNat]
theorem opGate_at (z : FVec Ideal S4x4096x24 .f32) (R : Fin 16384) (l : Fin 128) :
    opGate z (ix2 R l) = if h : l.val < 24 then z (ix3 ⟨R.val / 4096, by omega⟩ ⟨R.val % 4096, by omega⟩ ⟨l.val, h⟩) else 0 := by
  pointwise [opGate]
  rw [show FloatOps.sitofp (F := Ideal) FTy.f32 0#32 = (0 : EReal) from by
    show (((0#32 : BitVec 32).toInt : ℝ) : EReal) = 0
    simp]
theorem opMg_at (z : FVec Ideal S4x4096x3072 .f32) (n : Fin 3) (R : Fin 16384) (k : Fin 1024) :
    opMg z (ix3 n R k) = z (ix3 ⟨R.val / 4096, by omega⟩ ⟨R.val % 4096, by omega⟩ ⟨n.val * 1024 + k.val, by omega⟩) := by
  pointwise [opMg]
theorem pairRows_at (z : FVec Ideal S512x1024 .f32) (c : Fin 512) (k : Fin 1024) :
    pairRows z (ix2 c k) = z (ix2 ⟨(c.val % 128 / 64 * 4 + c.val / 128) * 64 + c.val % 64, by omega⟩ k) := by
  pointwise [pairRows]
  have hc := c.isLt
  by_cases h0 : c.val < 64
  · rw [dif_pos h0]
    exact congrArg z (congrArg (fun i => ix2 i k) (Fin.ext (by simp only; omega)))
  rw [dif_neg h0]
  by_cases h1 : c.val - 64 < 64
  · rw [dif_pos h1]
    exact congrArg z (congrArg (fun i => ix2 i k) (Fin.ext (by simp only; omega)))
  rw [dif_neg h1]
  by_cases h2 : c.val - 64 - 64 < 64
  · rw [dif_pos h2]
    exact congrArg z (congrArg (fun i => ix2 i k) (Fin.ext (by simp only; omega)))
  rw [dif_neg h2]
  by_cases h3 : c.val - 64 - 64 - 64 < 64
  · rw [dif_pos h3]
    exact congrArg z (congrArg (fun i => ix2 i k) (Fin.ext (by simp only; omega)))
  rw [dif_neg h3]
  by_cases h4 : c.val - 64 - 64 - 64 - 64 < 64
  · rw [dif_pos h4]
    exact congrArg z (congrArg (fun i => ix2 i k) (Fin.ext (by simp only; omega)))
  rw [dif_neg h4]
  by_cases h5 : c.val - 64 - 64 - 64 - 64 - 64 < 64
  · rw [dif_pos h5]
    exact congrArg z (congrArg (fun i => ix2 i k) (Fin.ext (by simp only; omega)))
  rw [dif_neg h5]
  by_cases h6 : c.val - 64 - 64 - 64 - 64 - 64 - 64 < 64
  · rw [dif_pos h6]
    exact congrArg z (congrArg (fun i => ix2 i k) (Fin.ext (by simp only; omega)))
  rw [dif_neg h6]
  exact congrArg z (congrArg (fun i => ix2 i k) (Fin.ext (by simp only; omega)))
theorem opWb_0 (z : FVec Ideal S3x512x1024 .f32) (c : Fin 512) (k : Fin 1024) :
    opWb z (ix3 0 c k) = z (ix3 0 ⟨(c.val % 128 / 64 * 4 + c.val / 128) * 64 + c.val % 64, by omega⟩ k) := by
  have h := fun z => pairRows_at z c k
  unfold opWb
  generalize pairRows = f at h
  pointwise []
  rw [h]
  pointwise []
theorem opWb_1 (z : FVec Ideal S3x512x1024 .f32) (c : Fin 512) (k : Fin 1024) :
    opWb z (ix3 1 c k) = z (ix3 1 ⟨(c.val % 128 / 64 * 4 + c.val / 128) * 64 + c.val % 64, by omega⟩ k) := by
  have h := fun z => pairRows_at z c k
  unfold opWb
  generalize pairRows = f at h
  pointwise []
  rw [h]
  pointwise []
theorem opWb_2 (z : FVec Ideal S3x512x1024 .f32) (c : Fin 512) (k : Fin 1024) : opWb z (ix3 2 c k) = z (ix3 2 c k) := by
  unfold opWb
  generalize pairRows = f
  pointwise []

theorem word : ∀ (l : Fin 128) (g : Fin 2) (p : Fin 4) (n : Fin 3),
    IntOp.cmpi CmpIPredicate.eq (BitVec.ofNat 32 l.val) (IntOp.addi (IntOp.muli (IntOp.addi (IntOp.muli (BitVec.ofNat 32 g.val) 4#32) (BitVec.ofNat 32 p.val)) 3#32) (BitVec.ofNat 32 n.val))
      = if l.val = (g.val * 4 + p.val) * 3 + n.val then 1#1 else 0#1 := by
  decide +kernel

theorem opTable_at (l : Fin 128) (k : Fin 1536) :
    opTable (ix2 l k) = if l.val = (k.val % 128 / 64 * 4 + k.val % 512 / 128) * 3 + k.val / 512 then 1 else 0 := by
  pointwise [opTable]
  rw [show k.val % 128 / 64 = k.val / 64 % 2 by omega, show k.val % 512 / 128 = k.val / 128 % 4 by omega]
  rw [word l ⟨k.val / 64 % 2, by omega⟩ ⟨k.val / 128 % 4, by omega⟩ ⟨k.val / 512, by omega⟩]
  split_ifs
  · show (((1#1 : BitVec 1).toNat : ℝ) : EReal) = 1
    simp
  · show (((0#1 : BitVec 1).toNat : ℝ) : EReal) = 0
    simp
theorem opWo_at (z : FVec Ideal S1024x1024 .f32) (j k : Fin 1024) : opWo z (ix2 j k) = z (ix2 j k) := by
  pointwise [opWo]
theorem opX_at (z : FVec Ideal S4x4096x1024 .f32) (R : Fin 16384) (k : Fin 1024) : opX z (ix2 R k) = z (ix3 ⟨R.val / 4096, by omega⟩ ⟨R.val % 4096, by omega⟩ k) := by
  pointwise [opX]

/-! ## The operands are these arrays -/

variable (m : (ℓ : Loc nD τ sig) → Buf (Elt Ideal) ℓ) (c : Dev nD)
theorem v46_eq : V m c main_v46 = opPair (m ((c : Thread nD τ).loc main_arg1)) := by
  simp only [V, hostOps0, hostOps0_1, hostOps0_2, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v50_eq : V m c main_v50 = opPair (m ((c : Thread nD τ).loc main_arg2)) := by
  simp only [V, hostOps0, hostOps0_1, hostOps0_2, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v54_eq : V m c main_v54 = opPair (m ((c : Thread nD τ).loc main_arg3)) := by
  simp only [V, hostOps0, hostOps0_1, hostOps0_2, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v58_eq : V m c main_v58 = opPair (m ((c : Thread nD τ).loc main_arg4)) := by
  simp only [V, hostOps0, hostOps0_1, hostOps0_2, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v3_eq : V m c main_v3 = opNat (m ((c : Thread nD τ).loc main_arg5)) := by
  simp only [V, hostOps0, hostOps0_1, hostOps0_2, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v6_eq : V m c main_v6 = opGate (m ((c : Thread nD τ).loc main_arg6)) := by
  simp only [V, hostOps0, hostOps0_1, hostOps0_2, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v72_eq : V m c main_v72 = opTable := by
  simp only [V, hostOps0, hostOps0_1, hostOps0_2, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v9_eq : V m c main_v9 = opMg (m ((c : Thread nD τ).loc main_arg7)) := by
  simp only [V, hostOps0, hostOps0_1, hostOps0_2, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v42_eq : V m c main_v42 = opWb (m ((c : Thread nD τ).loc main_arg8)) := by
  simp only [V, hostOps0, hostOps0_1, hostOps0_2, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v73_eq : V m c main_v73 = opWo (m ((c : Thread nD τ).loc main_arg9)) := by
  simp only [V, hostOps0, hostOps0_1, hostOps0_2, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl
theorem v74_eq : V m c main_v74 = opX (m ((c : Thread nD τ).loc main_arg0)) := by
  simp only [V, hostOps0, hostOps0_1, hostOps0_2, List.flatten_cons, List.flatten_nil, List.append_nil, List.cons_append,
      List.nil_append, StableHlo.TRef.unary, StableHlo.TRef.binary, StableHlo.TRef.ternary, StableHlo.TRef.toBuf, StableHlo.TRef.ofBuf, cast_eq]
  after_results_simp <;> rfl

theorem outArr_congr {x0 y0 x1 y1 x2 y2 x3 y3 x4 y4 : FVec Ideal S4x16384x128 .bf16} {x5 y5 : FVec Ideal S16384x128 .bf16} {x6 y6 : FVec Ideal S128x1536 .bf16}
    {x7 y7 : FVec Ideal S3x16384x1024 .bf16} {x8 y8 : FVec Ideal S3x512x1024 .bf16} {x9 y9 : FVec Ideal S1024x1024 .bf16} {x10 y10 : FVec Ideal S16384x1024 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) :
    outArr x0 x1 x2 x3 x4 x5 x6 x7 x8 x9 x10 = outArr y0 y1 y2 y3 y4 y5 y6 y7 y8 y9 y10 := by
  subst h0 h1 h2 h3 h4 h5 h6 h7 h8 h9 h10
  rfl

/-- The array the call leaves, over the arguments. -/
theorem final_args : (dats m 0 c).arrAt 11 cfg0.N = outArr (opPair (m ((c : Thread nD τ).loc main_arg1))) (opPair (m ((c : Thread nD τ).loc main_arg2)))
    (opPair (m ((c : Thread nD τ).loc main_arg3))) (opPair (m ((c : Thread nD τ).loc main_arg4))) (opNat (m ((c : Thread nD τ).loc main_arg5))) (opGate (m ((c : Thread nD τ).loc main_arg6))) opTable
    (opMg (m ((c : Thread nD τ).loc main_arg7))) (opWb (m ((c : Thread nD τ).loc main_arg8))) (opWo (m ((c : Thread nD τ).loc main_arg9))) (opX (m ((c : Thread nD τ).loc main_arg0))) :=
  (final m c).trans (outArr_congr (v46_eq m c) (v50_eq m c) (v54_eq m c) (v58_eq m c) (v3_eq m c) (v6_eq m c) (v72_eq m c) (v9_eq m c) (v42_eq m c) (v73_eq m c) (v74_eq m c))
end Cert.MergeIdeal.Merge
end
end
-- ==== Proof.MergeReference.lean ====
module
public import proofs.«01_k».proof.Proof.Gen.MergeReferenceIdeal.Run
public import Idealize.ShloMosaic.Lib.Pointwise
@[expose] public section
set_option maxRecDepth 16384
noncomputable section
open Idealize.ShloMosaic Idealize.ShloMosaic.TcCoe Idealize.SL.Sem
namespace Cert.MergeReferenceIdeal.Merge
open Cert.MergeReferenceIdeal Cert.MergeReferenceIdeal.Gen Cert.MergeReferenceIdeal.Value

/-! ## The reference's result at an index -/

section
variable (x : FVec Ideal S4x4096x1024 .f32) (a0 a1 a2 b o : FVec Ideal S4x8x4096x64 .f32) (g : FVec Ideal S4x4096x24 .f32) (mg : FVec Ideal S4x4096x3072 .f32)
  (w : FVec Ideal S3x512x1024 .f32) (wo : FVec Ideal S1024x1024 .f32)

/-- The three branches' inputs side by side. -/
def stackOf : FVec Ideal S4x4096x3x512 .f32 :=
  ((concatenate S4x4096x3x512 2 [⟨S4x4096x1x512, ((broadcastInDim S4x4096x1x512 ![0, 1, 3] bcast_S4x4096x512_S4x4096x1x512_0_1_3 (shapeCast _ (transpose S4x4096x8x64 [0, 2, 1, 3] (addf (addf (mulf (broadcastInDim S4x8x4096x64 ![0, 1, 2, 3] bcast_S4x8x4096x1_S4x8x4096x64_0_1_2_3 (extractStridedSlice S4x8x4096x1 ![0, 0, 0, 0] (transpose S4x8x4096x3 [0, 2, 1, 3] (shapeCast _ g shapeCasts_S4x4096x24_S4x4096x8x3) transposes_S4x4096x8x3_S4x8x4096x3_0_2_1_3) slices_S4x8x4096x3_S4x8x4096x1_0_0_0_0)) a0) (mulf (broadcastInDim S4x8x4096x64 ![0, 1, 2, 3] bcast_S4x8x4096x1_S4x8x4096x64_0_1_2_3 (extractStridedSlice S4x8x4096x1 ![0, 0, 0, 1] (transpose S4x8x4096x3 [0, 2, 1, 3] (shapeCast _ g shapeCasts_S4x4096x24_S4x4096x8x3) transposes_S4x4096x8x3_S4x8x4096x3_0_2_1_3) slices_S4x8x4096x3_S4x8x4096x1_0_0_0_1)) a1)) (mulf (broadcastInDim S4x8x4096x64 ![0, 1, 2, 3] bcast_S4x8x4096x1_S4x8x4096x64_0_1_2_3 (extractStridedSlice S4x8x4096x1 ![0, 0, 0, 2] (transpose S4x8x4096x3 [0, 2, 1, 3] (shapeCast _ g shapeCasts_S4x4096x24_S4x4096x8x3) transposes_S4x4096x8x3_S4x8x4096x3_0_2_1_3) slices_S4x8x4096x3_S4x8x4096x1_0_0_0_2)) a2)) transposes_S4x8x4096x64_S4x4096x8x64_0_2_1_3) shapeCasts_S4x4096x8x64_S4x4096x512)) : (⟨S4x4096x1x512, .f32⟩ : BufTy).Contents (Elt Ideal))⟩, ⟨S4x4096x1x512, ((broadcastInDim S4x4096x1x512 ![0, 1, 3] bcast_S4x4096x512_S4x4096x1x512_0_1_3 (shapeCast _ (transpose S4x4096x8x64 [0, 2, 1, 3] b transposes_S4x8x4096x64_S4x4096x8x64_0_2_1_3) shapeCasts_S4x4096x8x64_S4x4096x512)) : (⟨S4x4096x1x512, .f32⟩ : BufTy).Contents (Elt Ideal))⟩, ⟨S4x4096x1x512, ((broadcastInDim S4x4096x1x512 ![0, 1, 3] bcast_S4x4096x512_S4x4096x1x512_0_1_3 (shapeCast _ (transpose S4x4096x8x64 [0, 2, 1, 3] o transposes_S4x8x4096x64_S4x4096x8x64_0_2_1_3) shapeCasts_S4x4096x8x64_S4x4096x512)) : (⟨S4x4096x1x512, .f32⟩ : BufTy).Contents (Elt Ideal))⟩] concatenates_S4x4096x1x512_S4x4096x1x512_S4x4096x1x512_S4x4096x3x512_d2 : (⟨S4x4096x3x512, .f32⟩ : BufTy).Contents (Elt Ideal)))

theorem stack_0 (B : Fin 4) (T : Fin 4096) (c : Fin 512) : stackOf a0 a1 a2 b o g (ix4 B T 0 c) =
    g (ix3 B T ⟨c.val / 64 * 3, by omega⟩) * a0 (ix4 B ⟨c.val / 64, by omega⟩ T ⟨c.val % 64, by omega⟩)
      + g (ix3 B T ⟨c.val / 64 * 3 + 1, by omega⟩) * a1 (ix4 B ⟨c.val / 64, by omega⟩ T ⟨c.val % 64, by omega⟩)
      + g (ix3 B T ⟨c.val / 64 * 3 + 2, by omega⟩) * a2 (ix4 B ⟨c.val / 64, by omega⟩ T ⟨c.val % 64, by omega⟩) := by
  pointwise [stackOf]
theorem stack_1 (B : Fin 4) (T : Fin 4096) (c : Fin 512) : stackOf a0 a1 a2 b o g (ix4 B T 1 c) = b (ix4 B ⟨c.val / 64, by omega⟩ T ⟨c.val % 64, by omega⟩) := by
  pointwise [stackOf]
theorem stack_2 (B : Fin 4) (T : Fin 4096) (c : Fin 512) : stackOf a0 a1 a2 b o g (ix4 B T 2 c) = o (ix4 B ⟨c.val / 64, by omega⟩ T ⟨c.val % 64, by omega⟩) := by
  pointwise [stackOf]

/-- The reference's result. -/
def refOut : FVec Ideal S16384x1024 .f32 :=
  shapeCast _ (addf x (Host.dotGeneral dot_S4x4096x1024_S1024x1024_S4x4096x1024_2_0_01_1_n_n none (Host.reduceAdd (mulf (shapeCast _ mg shapeCasts_S4x4096x3072_S4x4096x3x1024) (transpose S4x4096x3x1024 [2, 3, 0, 1] (Host.dotGeneral dot_S3x512x1024_S4x4096x3x512_S3x1024x4x4096_1_3_2_01_0_2 none w (stackOf a0 a1 a2 b o g)) transposes_S3x1024x4x4096_S4x4096x3x1024_2_3_0_1)) (constant S_ .f32 0x00000000#32) reducesTo_S4x4096x3x1024_S4x4096x1024_d2 h_S_) wo)) shapeCasts_S4x4096x1024_S16384x1024

theorem refOut_at (R : Fin 16384) (k : Fin 1024) : refOut x a0 a1 a2 b o g mg w wo (ix2 R k) =
    x (ix3 ⟨R.val / 4096, by omega⟩ ⟨R.val % 4096, by omega⟩ k)
      + ∑ j : Fin 1024, (∑ n : Fin 3, mg (ix3 ⟨R.val / 4096, by omega⟩ ⟨R.val % 4096, by omega⟩ ⟨n.val * 1024 + j.val, by omega⟩)
          * ∑ c : Fin 512, w (ix3 n c j) * stackOf a0 a1 a2 b o g (ix4 ⟨R.val / 4096, by omega⟩ ⟨R.val % 4096, by omega⟩ n c)) * wo (ix2 j k) := by
  unfold refOut
  generalize stackOf a0 a1 a2 b o g = S
  pointwise []
end
end Cert.MergeReferenceIdeal.Merge
end
end
-- ==== Proof.MergeEquation.lean ====
module
public import proofs.«01_k».proof.Proof.MergeHost
public import proofs.«01_k».proof.Proof.MergeReference
@[expose] public section
set_option maxRecDepth 16384
noncomputable section
open Idealize.ShloMosaic Idealize.ShloMosaic.TcCoe Idealize.SL.Sem
namespace Cert.Merge
open Cert.MergeIdeal Cert.MergeIdeal.Merge

/-! ## The kernel's array is the reference's -/

/-- Where a packed column lies among the heads in order. -/
def place : Fin 512 ≃ Fin 512 where
  toFun c := ⟨(c.val % 128 / 64 * 4 + c.val / 128) * 64 + c.val % 64, by omega⟩
  invFun c := ⟨c.val / 64 % 4 * 128 + c.val / 64 / 4 * 64 + c.val % 64, by omega⟩
  left_inv c := Fin.ext (by simp only; omega)
  right_inv c := Fin.ext (by simp only; omega)

/-- A sum over packed columns is the sum over the heads' columns. -/
theorem sum_place (f h : Fin 512 → EReal) : (∑ c : Fin 512, f (place c) * h (place c)) = ∑ c : Fin 512, h c * f c :=
  (Equiv.sum_comp place fun c => f c * h c).trans (Finset.sum_congr rfl fun c _ => mul_comm _ _)

/-- A column takes the gate of its head and its mixer. -/
theorem gate_at (g : FVec Ideal S4x4096x24 .f32) (R : Fin 16384) (K : Fin 1536) (i : Fin 24) (hi : i.val = (K.val % 128 / 64 * 4 + K.val % 512 / 128) * 3 + K.val / 512) :
    (∑ l : Fin 128, opGate g (ix2 R l) * opTable (ix2 l K) : EReal) = g (ix3 ⟨R.val / 4096, by omega⟩ ⟨R.val % 4096, by omega⟩ i) := by
  have hlt := i.isLt
  rw [Finset.sum_eq_single (⟨i.val, by omega⟩ : Fin 128)]
  · rw [opTable_at, if_pos hi, opGate_at, dif_pos hlt]
    exact mul_one (M := EReal) _
  · intro l _ hl
    rw [opTable_at, if_neg fun e => hl (Fin.ext (e.trans hi.symm))]
    exact mul_zero (M₀ := EReal) _
  · exact fun h => absurd (Finset.mem_univ _) h

section
variable (x : FVec Ideal S4x4096x1024 .f32) (a0 a1 a2 b o : FVec Ideal S4x8x4096x64 .f32) (g : FVec Ideal S4x4096x24 .f32) (mg : FVec Ideal S4x4096x3072 .f32)
  (w : FVec Ideal S3x512x1024 .f32) (wo : FVec Ideal S1024x1024 .f32)

theorem pair_at (z : FVec Ideal S4x8x4096x64 .f32) (R : Fin 16384) (c : Fin 512) :
    rowOf (fun p e => opPair z (ix3 p R e)) c = z (ix4 ⟨R.val / 4096, by omega⟩ ⟨(place c).val / 64, by omega⟩ ⟨R.val % 4096, by omega⟩ ⟨(place c).val % 64, by omega⟩) := by
  refine (opPair_at z _ R _).trans ?_
  have h1 : (⟨c.val % 128 / 64 * 4 + c.val / 128, by omega⟩ : Fin 8) = ⟨(place c).val / 64, by omega⟩ := Fin.ext (by simp only [place, Equiv.coe_fn_mk]; omega)
  have h2 : (⟨c.val % 128 % 64, by omega⟩ : Fin 64) = ⟨(place c).val % 64, by omega⟩ := Fin.ext (by simp only [place, Equiv.coe_fn_mk]; omega)
  simp only [h1, h2]

theorem nat_at (z : FVec Ideal S4x8x4096x64 .f32) (R : Fin 16384) (c : Fin 512) :
    rowOf (fun p e => opNat z (ix3 p R e)) c = z (ix4 ⟨R.val / 4096, by omega⟩ ⟨c.val / 64, by omega⟩ ⟨R.val % 4096, by omega⟩ ⟨c.val % 64, by omega⟩) := by
  refine (opNat_at z _ R _).trans ?_
  have h1 : (⟨c.val / 128 * 2 + c.val % 128 / 64, by omega⟩ : Fin 8) = ⟨c.val / 64, by omega⟩ := Fin.ext (by simp only; omega)
  have h2 : (⟨c.val % 128 % 64, by omega⟩ : Fin 64) = ⟨c.val % 64, by omega⟩ := Fin.ext (by simp only; omega)
  simp only [h1, h2]

theorem rowA_at (R : Fin 16384) (c : Fin 512) :
    rowA (fun p e => opPair a0 (ix3 p R e)) (fun p e => opPair a1 (ix3 p R e)) (fun p e => opPair a2 (ix3 p R e)) (fun l => opGate g (ix2 R l)) (fun l k => opTable (ix2 l k)) c
      = MergeReferenceIdeal.Merge.stackOf a0 a1 a2 b o g (ix4 ⟨R.val / 4096, by omega⟩ ⟨R.val % 4096, by omega⟩ 0 (place c)) := by
  rw [MergeReferenceIdeal.Merge.stack_0]
  unfold rowA
  rw [gate_at g R _ ⟨(place c).val / 64 * 3, by omega⟩ (by simp only [place, Equiv.coe_fn_mk]; omega),
    gate_at g R _ ⟨(place c).val / 64 * 3 + 1, by omega⟩ (by simp only [place, Equiv.coe_fn_mk]; omega),
    gate_at g R _ ⟨(place c).val / 64 * 3 + 2, by omega⟩ (by simp only [place, Equiv.coe_fn_mk]; omega), pair_at, pair_at, pair_at]

theorem mix_at (R : Fin 16384) (j : Fin 1024) :
    mixOf (rowA (fun p e => opPair a0 (ix3 p R e)) (fun p e => opPair a1 (ix3 p R e)) (fun p e => opPair a2 (ix3 p R e)) (fun l => opGate g (ix2 R l)) (fun l k => opTable (ix2 l k)))
      (rowOf fun p e => opPair b (ix3 p R e)) (rowOf fun p e => opNat o (ix3 p R e)) (fun n k => opMg mg (ix3 n R k)) (fun n c k => opWb w (ix3 n c k)) j
    = ∑ n : Fin 3, mg (ix3 ⟨R.val / 4096, by omega⟩ ⟨R.val % 4096, by omega⟩ ⟨n.val * 1024 + j.val, by omega⟩)
          * ∑ c : Fin 512, w (ix3 n c j) * MergeReferenceIdeal.Merge.stackOf a0 a1 a2 b o g (ix4 ⟨R.val / 4096, by omega⟩ ⟨R.val % 4096, by omega⟩ n c) := by
  refine Eq.trans ?_ (Fin.sum_univ_three (M := EReal) _).symm
  refine congrArg₂ (α := EReal) (β := EReal) (· + ·) (congrArg₂ (α := EReal) (β := EReal) (· + ·) ?_ ?_) ?_
  · refine congrArg₂ (α := EReal) (β := EReal) (· * ·) (opMg_at mg 0 R j) ?_
    refine Eq.trans ?_ (sum_place (fun c => MergeReferenceIdeal.Merge.stackOf a0 a1 a2 b o g (ix4 ⟨R.val / 4096, by omega⟩ ⟨R.val % 4096, by omega⟩ 0 c)) fun c => w (ix3 0 c j))
    exact Finset.sum_congr rfl fun c _ => congrArg₂ (α := EReal) (β := EReal) (· * ·) (rowA_at a0 a1 a2 b o g R c) (opWb_0 w c j)
  · refine congrArg₂ (α := EReal) (β := EReal) (· * ·) (opMg_at mg 1 R j) ?_
    refine Eq.trans ?_ (sum_place (fun c => MergeReferenceIdeal.Merge.stackOf a0 a1 a2 b o g (ix4 ⟨R.val / 4096, by omega⟩ ⟨R.val % 4096, by omega⟩ 1 c)) fun c => w (ix3 1 c j))
    exact Finset.sum_congr rfl fun c _ => congrArg₂ (α := EReal) (β := EReal) (· * ·) ((pair_at b R c).trans (MergeReferenceIdeal.Merge.stack_1 a0 a1 a2 b o g _ _ _).symm) (opWb_1 w c j)
  · refine congrArg₂ (α := EReal) (β := EReal) (· * ·) (opMg_at mg 2 R j) ?_
    exact Finset.sum_congr rfl fun c _ => (congrArg₂ (α := EReal) (β := EReal) (· * ·) ((nat_at o R c).trans (MergeReferenceIdeal.Merge.stack_2 a0 a1 a2 b o g _ _ _).symm) (opWb_2 w c j)).trans
      (mul_comm (G := EReal) _ _)

/-- The kernel's rows are the reference's. -/
theorem arrays_eq : outArr (opPair a0) (opPair a1) (opPair a2) (opPair b) (opNat o) (opGate g) opTable (opMg mg) (opWb w) (opWo wo) (opX x)
    = MergeReferenceIdeal.Merge.refOut x a0 a1 a2 b o g mg w wo := by
  funext (y : S16384x1024.Idx)
  obtain ⟨R, k, rfl⟩ : ∃ (R : Fin 16384) (k : Fin 1024), y = ix2 R k := ⟨y 0, y 1, eq_ix2 y⟩
  refine Eq.trans ?_ (MergeReferenceIdeal.Merge.refOut_at x a0 a1 a2 b o g mg w wo R k).symm
  unfold outArr rowOut
  refine congrArg₂ (α := EReal) (β := EReal) (· + ·) (opX_at x R k) (Finset.sum_congr rfl fun j _ => ?_)
  exact congrArg₂ (α := EReal) (β := EReal) (· * ·) (mix_at a0 a1 a2 b o g mg w R j) (opWo_at wo j k)
end
end Cert.Merge
end
end
-- ==== Proof.Finite.lean ====
module
public import proofs.«01_k».proof.Pre_finite_logits
public import Idealize.ShloMosaic.Lib.Pointwise
public import Idealize.ShloMosaic.Lib.ReduceAll
@[expose] public section
noncomputable section
open Idealize.ShloMosaic
namespace Cert.Pre_finite_logits

/-- The side conditions of the precondition's operations hold. -/
theorem facts : Facts where
  bcast_S_S4x8x4096x64 := by decide
  reducesTo_S4x8x4096x64_S_d0_1_2_3 := by decide
  h_S_ := by decide
  bcast_S_S4x2x4096x64 := by decide
  reducesTo_S4x2x4096x64_S_d0_1_2_3 := by decide
  bcast_S_S32x16 := by decide
  reducesTo_S32x16_S_d0_1 := by decide
  bcast_S_S8 := by decide
  reducesTo_S8_S_d0 := by decide

/-- An extended real below plus infinity in absolute value is a real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have ht : Ideal.ofBits .f32 0x7F800000#32 = (⊤ : EReal) := by simp [Ideal.ofBits, Ideal.ieee]
  induction x with
  | coe r => simp
  | bot =>
    exfalso
    revert h
    show ¬ (BitVec.ofBool (decide (max (⊥ : EReal) (-⊥) < Ideal.ofBits .f32 0x7F800000#32)) = 1#1)
    rw [ht]; simp
  | top =>
    exfalso
    revert h
    show ¬ (BitVec.ofBool (decide (max (⊤ : EReal) (-⊤) < Ideal.ofBits .f32 0x7F800000#32)) = 1#1)
    rw [ht]; simp

variable [Facts]
open Facts

instance : Subsingleton S_.Idx := ⟨fun a b => funext fun k => k.elim0⟩

/-- Where the precondition holds every query, key, bias and sink is a real. -/
theorem real_entries (q : FVec Ideal S4x8x4096x64 .f32) (k v : FVec Ideal S4x2x4096x64 .f32) (rb : FVec Ideal S32x16 .f32) (sk : FVec Ideal S8 .f32)
    (h : ∀ i, fn (F := Ideal) q k v rb sk i = 1#1) :
    (∀ i, q i = (((q i : EReal).toReal : ℝ) : EReal)) ∧ (∀ i, k i = (((k i : EReal).toReal : ℝ) : EReal))
      ∧ (∀ i, rb i = (((rb i : EReal).toReal : ℝ) : EReal)) ∧ (∀ i, sk i = (((sk i : EReal).toReal : ℝ) : EReal)) := by
  obtain ⟨h1, hs⟩ := IntOp.andi_eq_one.1 (h ix0)
  obtain ⟨h2, hr⟩ := IntOp.andi_eq_one.1 h1
  obtain ⟨hq, hk⟩ := IntOp.andi_eq_one.1 h2
  exact ⟨fun i => real_of_lt _ (Host.reduce_andi_all _ _ _ _ _ hq i), fun i => real_of_lt _ (Host.reduce_andi_all _ _ _ _ _ hk i),
    fun i => real_of_lt _ (Host.reduce_andi_all _ _ _ _ _ hr i), fun i => real_of_lt _ (Host.reduce_andi_all _ _ _ _ _ hs i)⟩
end Cert.Pre_finite_logits
end
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import proofs.«01_k».proof.Proof.Gen.Ffn.Frame
public import proofs.«01_k».proof.Proof.Gen.FfnIdeal.Value
public import proofs.«01_k».proof.Proof.Gen.FfnReferenceIdeal.Run
public import proofs.«01_k».proof.Proof.FfnEquation
public import proofs.«01_k».proof.Proof.Gen.Gates.Frame
public import proofs.«01_k».proof.Proof.Gen.GatesIdeal.Value
public import proofs.«01_k».proof.Proof.Gen.GatesReferenceIdeal.Run
public import proofs.«01_k».proof.Proof.GatesReference
public import proofs.«01_k».proof.Proof.Gen.Merge.Frame
public import proofs.«01_k».proof.Proof.Gen.MergeIdeal.Value
public import proofs.«01_k».proof.Proof.Gen.MergeReferenceIdeal.Run
public import proofs.«01_k».proof.Proof.MergeEquation
public import proofs.«01_k».proof.Proof.Finite
public import Idealize.ShloMosaic.Adequacy
public import Idealize.ShloMosaic.Init
public import Idealize.ShloMosaic.Lib.Claim

@[expose] public section

noncomputable section

namespace Cert.Proof

open Idealize.ShloMosaic Idealize.SL.Sem

/-- The precondition's side conditions. -/
instance : Cert.Pre_finite_logits.Facts := Cert.Pre_finite_logits.facts

/-- The kernel runs, keeps its arguments and ends with every counter at zero. -/
theorem frame_kernel : Cert.quiescent_Kernel := fun m ρ _ => Cert.Kernel.Gen.frame (F := Bits) m ρ

/-- So does the idealized kernel. -/
theorem frame_ideal : Cert.quiescent_KernelIdeal := fun m ρ _ => Cert.KernelIdeal.Gen.frame (F := Ideal) m ρ

/-- So does the idealized reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask and the two scales are named. -/
theorem preserves : Cert.preserves_Kernel_KernelIdeal :=
  ⟨IdealRules.named_const.statement _ "mask" .f32 0xF149F2CA#32 ⊥ rfl,
    IdealRules.named_const.statement _ "scale_log2e" .f32 0x3E38AA3B#32 _ rfl,
    IdealRules.named_const.statement _ "log2e" .f32 0x3FB8AA3B#32 _ rfl⟩

/-- **The value.** Where the queries, keys, biases and sinks are finite, the kernel's array is the reference's. -/
theorem algebraic : Cert.algebraic_KernelIdeal_ReferenceIdeal_pre_finite_logits := by
  intro m g m' g' hpre hagree
  refine ⟨fun c => (Cert.KernelIdeal.Gen.dats m 0 c).arrAt 8 Cert.KernelIdeal.cfg0.N, Cert.KernelIdeal.Value.run_blocks (F := Ideal) m g, ?_⟩
  refine (θ_run Cert.ReferenceIdeal.defs _ _).mono (fun r h c => ⟨(h c).1.trans ?_, (h c).2⟩) (Cert.ReferenceIdeal.Value.run (F := Ideal) m' g')
  obtain ⟨hq, hk, hr, hs⟩ := Cert.Pre_finite_logits.real_entries _ _ _ _ _ (fun i => congrFun (hpre c) i)
  rw [Cert.ReferenceIdeal.Attn.res_eq, (hagree c).1, (hagree c).2.1, (hagree c).2.2.1, (hagree c).2.2.2.1, (hagree c).2.2.2.2]
  refine (Cert.Attn.arrays_eq _ _ _ _ _ hq hk hr hs).symm.trans ?_
  exact ((Cert.KernelIdeal.Attn.final m c).trans (by rw [Cert.KernelIdeal.Attn.v10_eq, Cert.KernelIdeal.Attn.v43_eq])).symm

/-! ## The feed-forward part -/

/-- The idealized kernel runs, keeps its arguments and ends with every counter at zero. -/
theorem frame_ffn_ideal : Cert.quiescent_FfnIdeal := fun m ρ _ => Cert.FfnIdeal.Gen.frame (F := Ideal) m ρ

/-- So does the kernel. -/
theorem frame_ffn : Cert.quiescent_Ffn := fun m ρ _ => Cert.Ffn.Gen.frame (F := Bits) m ρ

/-- So does the idealized reference. -/
theorem frame_ffn_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- **The value.** The kernel's array is the reference's. -/
theorem algebraic_ffn : Cert.algebraic_FfnIdeal_FfnReferenceIdeal := by
  intro m g m' g' _ hagree
  refine ⟨fun c => (Cert.FfnIdeal.Gen.dats m 0 c).arrAt 9 Cert.FfnIdeal.cfg0.N, Cert.FfnIdeal.Value.run_blocks (F := Ideal) m g, ?_⟩
  refine (θ_run Cert.FfnReferenceIdeal.defs _ _).mono (fun r h c => ⟨(h c).1.trans ?_, (h c).2⟩) (Cert.FfnReferenceIdeal.Value.run (F := Ideal) m' g')
  obtain ⟨h0, h1, h2, h3, h4, h5, h6⟩ := hagree c
  rw [Cert.FfnReferenceIdeal.Ffn.res_eq, h0, h1, h2, h3, h4, h5, h6]
  refine (Cert.Ffn.arrays_eq _ _ _ _ _ _ _).symm.trans ?_
  exact ((Cert.FfnIdeal.Ffn.final m c).trans (by rw [Cert.FfnIdeal.Ffn.v0_eq, Cert.FfnIdeal.Ffn.v9_eq, Cert.FfnIdeal.Ffn.v4_eq, Cert.FfnIdeal.Ffn.v5_eq,
    Cert.FfnIdeal.Ffn.v6_eq, Cert.FfnIdeal.Ffn.v11_eq, Cert.FfnIdeal.Ffn.v8_eq])).symm

/-! ## The merge gates -/

/-- The kernel runs, keeps its arguments and ends with every counter at zero. -/
theorem frame_gates : Cert.quiescent_Gates := fun m ρ _ => Cert.Gates.Gen.frame (F := Bits) m ρ

/-- So does the idealized kernel. -/
theorem frame_gates_ideal : Cert.quiescent_GatesIdeal := fun m ρ _ => Cert.GatesIdeal.Gen.frame (F := Ideal) m ρ

/-- So does the idealized reference. -/
theorem frame_gates_reference : Cert.quiescent_GatesReferenceIdeal := fun m ρ _ =>
  (θ_run Cert.GatesReferenceIdeal.defs _ _).mono (fun r h => ⟨fun c => (h c).2, sem_eq_zero_of_no_sems (by decide) r.2⟩)
    (Cert.GatesReferenceIdeal.Value.run (F := Ideal) m ρ)

/-- **The value.** The kernel's array is the reference's. -/
theorem algebraic_gates : Cert.algebraic_GatesIdeal_GatesReferenceIdeal := by
  intro m g m' g' _ hagree
  refine ⟨fun c => (Cert.GatesIdeal.Gen.dats m 0 c).arrAt 2 Cert.GatesIdeal.cfg0.N, Cert.GatesIdeal.Value.run_blocks (F := Ideal) m g, ?_⟩
  refine (θ_run Cert.GatesReferenceIdeal.defs _ _).mono (fun r h c => ⟨(h c).1.trans ?_, (h c).2⟩) (Cert.GatesReferenceIdeal.Value.run (F := Ideal) m' g')
  obtain ⟨h0, h1⟩ := hagree c
  rw [h0, h1]
  refine (Cert.Gates.arrays_eq _ _).symm.trans ?_
  exact ((Cert.GatesIdeal.Gates.final m c).trans (by rw [Cert.GatesIdeal.Gates.v2_eq, Cert.GatesIdeal.Gates.v3_eq])).symm

/-! ## The merge of the branches -/

/-- The kernel runs, keeps its arguments and ends with every counter at zero. -/
theorem frame_merge : Cert.quiescent_Merge := fun m ρ _ => Cert.Merge.Gen.frame (F := Bits) m ρ

/-- So does the idealized kernel. -/
theorem frame_merge_ideal : Cert.quiescent_MergeIdeal := fun m ρ _ => Cert.MergeIdeal.Gen.frame (F := Ideal) m ρ

/-- So does the idealized reference. -/
theorem frame_merge_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- **The value.** The kernel's array is the reference's. -/
theorem algebraic_merge : Cert.algebraic_MergeIdeal_MergeReferenceIdeal := by
  intro m g m' g' _ hagree
  refine ⟨fun c => (Cert.MergeIdeal.Gen.dats m 0 c).arrAt 11 Cert.MergeIdeal.cfg0.N, Cert.MergeIdeal.Value.run_blocks (F := Ideal) m g, ?_⟩
  refine (θ_run Cert.MergeReferenceIdeal.defs _ _).mono (fun r h c => ⟨(h c).1.trans ?_, (h c).2⟩) (Cert.MergeReferenceIdeal.Value.run (F := Ideal) m' g')
  obtain ⟨h0, h1, h2, h3, h4, h5, h6, h7, h8, h9⟩ := hagree c
  rw [h0, h1, h2, h3, h4, h5, h6, h7, h8, h9]
  refine (Cert.Merge.arrays_eq _ _ _ _ _ _ _ _ _ _).symm.trans ?_
  exact (Cert.MergeIdeal.Merge.final_args m c).symm

theorem claim : Cert.Claim := ⟨Cert.Kernel.Gen.facts, Cert.KernelIdeal.Gen.facts, Cert.ReferenceIdeal.Gen.facts, Cert.Ffn.Gen.facts, Cert.FfnIdeal.Gen.facts,
  Cert.FfnReferenceIdeal.Gen.facts, Cert.Gates.Gen.facts, Cert.GatesIdeal.Gen.facts, Cert.GatesReferenceIdeal.Gen.facts, Cert.Merge.Gen.facts, Cert.MergeIdeal.Gen.facts,
  Cert.MergeReferenceIdeal.Gen.facts, Cert.Pre_finite_logits.facts,
  frame_kernel, frame_ideal, fun m ρ _ => frame_ideal m ρ trivial, frame_reference, fun m ρ _ => frame_reference m ρ trivial,
  frame_ffn, frame_ffn_ideal, frame_ffn_reference, frame_gates, frame_gates_ideal, frame_gates_reference, frame_merge, frame_merge_ideal, frame_merge_reference,
  preserves, algebraic, trivial, algebraic_ffn, trivial, algebraic_gates, trivial, algebraic_merge⟩

end Cert.Proof

end
